-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x2176 : Shape := ⟨3, ![8, 4096, 2176]⟩
abbrev S8x4096x17 : Shape := ⟨3, ![8, 4096, 17]⟩
abbrev S7680x2176 : Shape := ⟨2, ![7680, 2176]⟩
abbrev S60x17 : Shape := ⟨2, ![60, 17]⟩
abbrev S17x8x4096 : Shape := ⟨3, ![17, 8, 4096]⟩
abbrev S17x60 : Shape := ⟨2, ![17, 60]⟩
abbrev S8x4096x3840 : Shape := ⟨3, ![8, 4096, 3840]⟩
abbrev S30x8x4096 : Shape := ⟨3, ![30, 8, 4096]⟩
abbrev S8x128x2176 : Shape := ⟨3, ![8, 128, 2176]⟩
abbrev S17x8x128 : Shape := ⟨3, ![17, 8, 128]⟩
abbrev S8x128x3840 : Shape := ⟨3, ![8, 128, 3840]⟩
abbrev S30x8x128 : Shape := ⟨3, ![30, 8, 128]⟩
abbrev S2x512x2176 : Shape := ⟨3, ![2, 512, 2176]⟩
abbrev S1024x2176 : Shape := ⟨2, ![1024, 2176]⟩
abbrev S2 : Shape := ⟨1, ![2]⟩
abbrev S1 : Shape := ⟨1, ![1]⟩
abbrev S_ : Shape := ⟨0, ![]⟩
abbrev S1x512x2176 : Shape := ⟨3, ![1, 512, 2176]⟩
abbrev S512x2176 : Shape := ⟨2, ![512, 2176]⟩
abbrev S1x1 : Shape := ⟨2, ![1, 1]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S256x2176 : Shape := ⟨2, ![256, 2176]⟩
abbrev S512x256 : Shape := ⟨2, ![512, 256]⟩
abbrev S8x4096x30 : Shape := ⟨3, ![8, 4096, 30]⟩

abbrev nBuf : Space → Nat
  | .hbm => 9
  | .vmem => 11
  | .smem => 1
  | _ => 0

abbrev bufTy : (tb : Table) → Fin (tcTables nBuf tb) → BufTy
  | .hbm, ⟨0, _⟩ => ⟨S8x4096x2176, .fp8e4m3⟩
  | .hbm, ⟨1, _⟩ => ⟨S8x4096x17, .f32⟩
  | .hbm, ⟨2, _⟩ => ⟨S7680x2176, .fp8e4m3⟩
  | .hbm, ⟨3, _⟩ => ⟨S60x17, .f32⟩
  | .hbm, ⟨4, _⟩ => ⟨S17x8x4096, .f32⟩
  | .hbm, ⟨5, _⟩ => ⟨S17x60, .f32⟩
  | .hbm, ⟨6, _⟩ => ⟨S8x4096x3840, .fp8e4m3⟩
  | .hbm, ⟨7, _⟩ => ⟨S30x8x4096, .f32⟩
  | .hbm, ⟨8, _⟩ => ⟨S8x4096x30, .f32⟩
  | .local _ .vmem, ⟨0, _⟩ => ⟨S8x128x2176, .fp8e4m3⟩
  | .local _ .vmem, ⟨1, _⟩ => ⟨S8x128x2176, .fp8e4m3⟩
  | .local _ .vmem, ⟨2, _⟩ => ⟨S17x8x128, .f32⟩
  | .local _ .vmem, ⟨3, _⟩ => ⟨S17x8x128, .f32⟩
  | .local _ .vmem, ⟨4, _⟩ => ⟨S8x128x3840, .fp8e4m3⟩
  | .local _ .vmem, ⟨5, _⟩ => ⟨S8x128x3840, .fp8e4m3⟩
  | .local _ .vmem, ⟨6, _⟩ => ⟨S30x8x128, .f32⟩
  | .local _ .vmem, ⟨7, _⟩ => ⟨S30x8x128, .f32⟩
  | .local _ .vmem, ⟨8, _⟩ => ⟨S7680x2176, .bf16⟩
  | .local _ .vmem, ⟨9, _⟩ => ⟨S2x512x2176, .fp8e4m3⟩
  | .local _ .vmem, ⟨10, _⟩ => ⟨S1024x2176, .bf16⟩
  | .local _ .smem, ⟨0, _⟩ => ⟨S17x60, .f32⟩
  | _, _ => ⟨S8x4096x2176, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c15_i32_13 : BitVec 32 := 15#32
  let v10 : BitVec 32 := Scalar.addi c0_i32_12 c15_i32_13
  let c1_i32_14 : BitVec 32 := 1#32
  ⟨c0_i32_12, v10, c1_i32_14⟩
def k0_cond2 (k0_t1 : Fin k0_t1_loop.trips) : BitVec 1 :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c1_i32_18 : BitVec 32 := 1#32
  let v13 : BitVec 32 := Scalar.addi v12 c1_i32_18
  let c15_i32_19 : BitVec 32 := 15#32
  let v14 : BitVec 1 := Scalar.cmpi .slt v13 c15_i32_19
  let v15 : BitVec 32 := Scalar.extui v14
  let c0_i32_20 : BitVec 32 := 0#32
  let v16 : BitVec 1 := Scalar.cmpi .ne v15 c0_i32_20
  v16

def k0_off1 (k0_t1 : Fin k0_t1_loop.trips) : Fin 1 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c1_i32_943 : BitVec 32 := 1#32
  let v1869 : BitVec 32 := Scalar.addi v12 c1_i32_943
  let c2_i32_944 : BitVec 32 := 2#32
  let c0_i32_945 : BitVec 32 := 0#32
  let v1870 : BitVec 1 := Scalar.cmpi .eq c2_i32_944 c0_i32_945
  let c1_i32_946 : BitVec 32 := 1#32
  let v1871 : BitVec 32 := Scalar.select v1870 c1_i32_946 c2_i32_944
  let v1872 : BitVec 32 := Scalar.remsi v1869 v1871
  let c0_i32_948 : BitVec 32 := 0#32
  let v1874 : BitVec 1 := Scalar.cmpi .slt v1872 c0_i32_948
  let c0_i32_949 : BitVec 32 := 0#32
  let v1875 : BitVec 1 := Scalar.cmpi .slt v1871 c0_i32_949
  let v1876 : BitVec 1 := Scalar.xori v1874 v1875
  let c0_i32_947 : BitVec 32 := 0#32
  let v1873 : BitVec 1 := Scalar.cmpi .ne v1872 c0_i32_947
  let v1877 : BitVec 1 := Scalar.andi v1876 v1873
  let v1878 : BitVec 32 := Scalar.addi v1872 v1871
  let v1879 : BitVec 32 := Scalar.select v1877 v1878 v1872
  ![v1879.toNat]
def k0_off2 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c1_i32_943 : BitVec 32 := 1#32
  let v1869 : BitVec 32 := Scalar.addi v12 c1_i32_943
  let c2_i32_944 : BitVec 32 := 2#32
  let c0_i32_945 : BitVec 32 := 0#32
  let v1870 : BitVec 1 := Scalar.cmpi .eq c2_i32_944 c0_i32_945
  let c1_i32_946 : BitVec 32 := 1#32
  let v1871 : BitVec 32 := Scalar.select v1870 c1_i32_946 c2_i32_944
  let v1872 : BitVec 32 := Scalar.remsi v1869 v1871
  let c0_i32_948 : BitVec 32 := 0#32
  let v1874 : BitVec 1 := Scalar.cmpi .slt v1872 c0_i32_948
  let c0_i32_949 : BitVec 32 := 0#32
  let v1875 : BitVec 1 := Scalar.cmpi .slt v1871 c0_i32_949
  let v1876 : BitVec 1 := Scalar.xori v1874 v1875
  let c0_i32_947 : BitVec 32 := 0#32
  let v1873 : BitVec 1 := Scalar.cmpi .ne v1872 c0_i32_947
  let v1877 : BitVec 1 := Scalar.andi v1876 v1873
  let v1878 : BitVec 32 := Scalar.addi v1872 v1871
  let v1879 : BitVec 32 := Scalar.select v1877 v1878 v1872
  let c0_i32_951 : BitVec 32 := 0#32
  let c0_i32_952 : BitVec 32 := 0#32
  ![v1879.toNat, 0, 0]
def k0_off3 (k0_t1 : Fin k0_t1_loop.trips) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c1_i32_943 : BitVec 32 := 1#32
  let v1869 : BitVec 32 := Scalar.addi v12 c1_i32_943
  let c512_i32_950 : BitVec 32 := 512#32
  let v1880 : BitVec 32 := Scalar.muli v1869 c512_i32_950
  let c0_i32_953 : BitVec 32 := 0#32
  ![v1880.toNat, 0]
def k0_off4 (k0_t1 : Fin k0_t1_loop.trips) : Fin 1 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32 : BitVec 32 := 2#32
  let c0_i32_21 : BitVec 32 := 0#32
  let v17 : BitVec 1 := Scalar.cmpi .eq c2_i32 c0_i32_21
  let c1_i32_22 : BitVec 32 := 1#32
  let v18 : BitVec 32 := Scalar.select v17 c1_i32_22 c2_i32
  let v19 : BitVec 32 := Scalar.remsi v12 v18
  let c0_i32_24 : BitVec 32 := 0#32
  let v21 : BitVec 1 := Scalar.cmpi .slt v19 c0_i32_24
  let c0_i32_25 : BitVec 32 := 0#32
  let v22 : BitVec 1 := Scalar.cmpi .slt v18 c0_i32_25
  let v23 : BitVec 1 := Scalar.xori v21 v22
  let c0_i32_23 : BitVec 32 := 0#32
  let v20 : BitVec 1 := Scalar.cmpi .ne v19 c0_i32_23
  let v24 : BitVec 1 := Scalar.andi v23 v20
  let v25 : BitVec 32 := Scalar.addi v19 v18
  let v26 : BitVec 32 := Scalar.select v24 v25 v19
  ![v26.toNat]
def k0_off5 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32 : BitVec 32 := 2#32
  let c0_i32_21 : BitVec 32 := 0#32
  let v17 : BitVec 1 := Scalar.cmpi .eq c2_i32 c0_i32_21
  let c1_i32_22 : BitVec 32 := 1#32
  let v18 : BitVec 32 := Scalar.select v17 c1_i32_22 c2_i32
  let v19 : BitVec 32 := Scalar.remsi v12 v18
  let c0_i32_24 : BitVec 32 := 0#32
  let v21 : BitVec 1 := Scalar.cmpi .slt v19 c0_i32_24
  let c0_i32_25 : BitVec 32 := 0#32
  let v22 : BitVec 1 := Scalar.cmpi .slt v18 c0_i32_25
  let v23 : BitVec 1 := Scalar.xori v21 v22
  let c0_i32_23 : BitVec 32 := 0#32
  let v20 : BitVec 1 := Scalar.cmpi .ne v19 c0_i32_23
  let v24 : BitVec 1 := Scalar.andi v23 v20
  let v25 : BitVec 32 := Scalar.addi v19 v18
  let v26 : BitVec 32 := Scalar.select v24 v25 v19
  let c0_i32_26 : BitVec 32 := 0#32
  let c0_i32_27 : BitVec 32 := 0#32
  ![v26.toNat, 0, 0]
def k0_off6 (k0_t1 : Fin k0_t1_loop.trips) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32 : BitVec 32 := 512#32
  let v27 : BitVec 32 := Scalar.muli v12 c512_i32
  let c0_i32_28 : BitVec 32 := 0#32
  ![v27.toNat, 0]
def k0_off7 (k0_t1 : Fin k0_t1_loop.trips) (c0_i32_29 : BitVec 32) : Fin 2 → Nat :=
  let c0 : Index := 0#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32 : BitVec 32 := 4#32
  let v33 : BitVec 32 := Scalar.muli v12 c4_i32
  let v34 : BitVec 32 := Scalar.addi v33 c0_i32_29
  let v35 : Index := Scalar.indexCast v34
  ![0, v35.toNat]
def k0_off8 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_30 : BitVec 32 := 2#32
  let c0_i32_31 : BitVec 32 := 0#32
  let v38 : BitVec 1 := Scalar.cmpi .eq c2_i32_30 c0_i32_31
  let c1_i32_32 : BitVec 32 := 1#32
  let v39 : BitVec 32 := Scalar.select v38 c1_i32_32 c2_i32_30
  let v40 : BitVec 32 := Scalar.remsi v12 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let v48 : Index := Scalar.indexCast v47
  let c0_36 : Index := 0#32
  let c0_37 : Index := 0#32
  ![v48.toNat, 0, 0]
def k0_off9 (k0_t1 : Fin k0_t1_loop.trips) (c0_i32_39 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_38 : BitVec 32 := 512#32
  let v54 : BitVec 32 := Scalar.muli v12 c512_i32_38
  let v55 : BitVec 32 := Scalar.addi v54 c0_i32_39
  let v56 : Index := Scalar.indexCast v55
  let c0_40 : Index := 0#32
  ![v56.toNat, 0]
def k0_off10 (k0_t1 : Fin k0_t1_loop.trips) (c0_i32_42 : BitVec 32) : Fin 2 → Nat :=
  let c1 : Index := 1#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_41 : BitVec 32 := 4#32
  let v60 : BitVec 32 := Scalar.muli v12 c4_i32_41
  let v61 : BitVec 32 := Scalar.addi v60 c0_i32_42
  let v62 : Index := Scalar.indexCast v61
  ![1, v62.toNat]
def k0_off11 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_43 : BitVec 32 := 2#32
  let c0_i32_44 : BitVec 32 := 0#32
  let v65 : BitVec 1 := Scalar.cmpi .eq c2_i32_43 c0_i32_44
  let c1_i32_45 : BitVec 32 := 1#32
  let v66 : BitVec 32 := Scalar.select v65 c1_i32_45 c2_i32_43
  let v67 : BitVec 32 := Scalar.remsi v12 v66
  let c0_i32_47 : BitVec 32 := 0#32
  let v69 : BitVec 1 := Scalar.cmpi .slt v67 c0_i32_47
  let c0_i32_48 : BitVec 32 := 0#32
  let v70 : BitVec 1 := Scalar.cmpi .slt v66 c0_i32_48
  let v71 : BitVec 1 := Scalar.xori v69 v70
  let c0_i32_46 : BitVec 32 := 0#32
  let v68 : BitVec 1 := Scalar.cmpi .ne v67 c0_i32_46
  let v72 : BitVec 1 := Scalar.andi v71 v68
  let v73 : BitVec 32 := Scalar.addi v67 v66
  let v74 : BitVec 32 := Scalar.select v72 v73 v67
  let v75 : Index := Scalar.indexCast v74
  let c0_49 : Index := 0#32
  let c128 : Index := 128#32
  ![v75.toNat, 0, 128]
def k0_off12 (k0_t1 : Fin k0_t1_loop.trips) (c0_i32_51 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_50 : BitVec 32 := 512#32
  let v81 : BitVec 32 := Scalar.muli v12 c512_i32_50
  let v82 : BitVec 32 := Scalar.addi v81 c0_i32_51
  let v83 : Index := Scalar.indexCast v82
  let c128_52 : Index := 128#32
  ![v83.toNat, 128]
def k0_off13 (k0_t1 : Fin k0_t1_loop.trips) (c0_i32_54 : BitVec 32) : Fin 2 → Nat :=
  let c2 : Index := 2#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_53 : BitVec 32 := 4#32
  let v87 : BitVec 32 := Scalar.muli v12 c4_i32_53
  let v88 : BitVec 32 := Scalar.addi v87 c0_i32_54
  let v89 : Index := Scalar.indexCast v88
  ![2, v89.toNat]
def k0_off14 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_55 : BitVec 32 := 2#32
  let c0_i32_56 : BitVec 32 := 0#32
  let v92 : BitVec 1 := Scalar.cmpi .eq c2_i32_55 c0_i32_56
  let c1_i32_57 : BitVec 32 := 1#32
  let v93 : BitVec 32 := Scalar.select v92 c1_i32_57 c2_i32_55
  let v94 : BitVec 32 := Scalar.remsi v12 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let v102 : Index := Scalar.indexCast v101
  let c0_61 : Index := 0#32
  let c256 : Index := 256#32
  ![v102.toNat, 0, 256]
def k0_off15 (k0_t1 : Fin k0_t1_loop.trips) (c0_i32_63 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_62 : BitVec 32 := 512#32
  let v108 : BitVec 32 := Scalar.muli v12 c512_i32_62
  let v109 : BitVec 32 := Scalar.addi v108 c0_i32_63
  let v110 : Index := Scalar.indexCast v109
  let c256_64 : Index := 256#32
  ![v110.toNat, 256]
def k0_off16 (k0_t1 : Fin k0_t1_loop.trips) (c0_i32_66 : BitVec 32) : Fin 2 → Nat :=
  let c3 : Index := 3#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_65 : BitVec 32 := 4#32
  let v114 : BitVec 32 := Scalar.muli v12 c4_i32_65
  let v115 : BitVec 32 := Scalar.addi v114 c0_i32_66
  let v116 : Index := Scalar.indexCast v115
  ![3, v116.toNat]
def k0_off17 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_67 : BitVec 32 := 2#32
  let c0_i32_68 : BitVec 32 := 0#32
  let v119 : BitVec 1 := Scalar.cmpi .eq c2_i32_67 c0_i32_68
  let c1_i32_69 : BitVec 32 := 1#32
  let v120 : BitVec 32 := Scalar.select v119 c1_i32_69 c2_i32_67
  let v121 : BitVec 32 := Scalar.remsi v12 v120
  let c0_i32_71 : BitVec 32 := 0#32
  let v123 : BitVec 1 := Scalar.cmpi .slt v121 c0_i32_71
  let c0_i32_72 : BitVec 32 := 0#32
  let v124 : BitVec 1 := Scalar.cmpi .slt v120 c0_i32_72
  let v125 : BitVec 1 := Scalar.xori v123 v124
  let c0_i32_70 : BitVec 32 := 0#32
  let v122 : BitVec 1 := Scalar.cmpi .ne v121 c0_i32_70
  let v126 : BitVec 1 := Scalar.andi v125 v122
  let v127 : BitVec 32 := Scalar.addi v121 v120
  let v128 : BitVec 32 := Scalar.select v126 v127 v121
  let v129 : Index := Scalar.indexCast v128
  let c0_73 : Index := 0#32
  let c384 : Index := 384#32
  ![v129.toNat, 0, 384]
def k0_off18 (k0_t1 : Fin k0_t1_loop.trips) (c0_i32_75 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_74 : BitVec 32 := 512#32
  let v135 : BitVec 32 := Scalar.muli v12 c512_i32_74
  let v136 : BitVec 32 := Scalar.addi v135 c0_i32_75
  let v137 : Index := Scalar.indexCast v136
  let c384_76 : Index := 384#32
  ![v137.toNat, 384]
def k0_off19 (k0_t1 : Fin k0_t1_loop.trips) (c0_i32_78 : BitVec 32) : Fin 2 → Nat :=
  let c4 : Index := 4#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_77 : BitVec 32 := 4#32
  let v141 : BitVec 32 := Scalar.muli v12 c4_i32_77
  let v142 : BitVec 32 := Scalar.addi v141 c0_i32_78
  let v143 : Index := Scalar.indexCast v142
  ![4, v143.toNat]
def k0_off20 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_79 : BitVec 32 := 2#32
  let c0_i32_80 : BitVec 32 := 0#32
  let v146 : BitVec 1 := Scalar.cmpi .eq c2_i32_79 c0_i32_80
  let c1_i32_81 : BitVec 32 := 1#32
  let v147 : BitVec 32 := Scalar.select v146 c1_i32_81 c2_i32_79
  let v148 : BitVec 32 := Scalar.remsi v12 v147
  let c0_i32_83 : BitVec 32 := 0#32
  let v150 : BitVec 1 := Scalar.cmpi .slt v148 c0_i32_83
  let c0_i32_84 : BitVec 32 := 0#32
  let v151 : BitVec 1 := Scalar.cmpi .slt v147 c0_i32_84
  let v152 : BitVec 1 := Scalar.xori v150 v151
  let c0_i32_82 : BitVec 32 := 0#32
  let v149 : BitVec 1 := Scalar.cmpi .ne v148 c0_i32_82
  let v153 : BitVec 1 := Scalar.andi v152 v149
  let v154 : BitVec 32 := Scalar.addi v148 v147
  let v155 : BitVec 32 := Scalar.select v153 v154 v148
  let v156 : Index := Scalar.indexCast v155
  let c0_85 : Index := 0#32
  let c512 : Index := 512#32
  ![v156.toNat, 0, 512]
def k0_off21 (k0_t1 : Fin k0_t1_loop.trips) (c0_i32_87 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_86 : BitVec 32 := 512#32
  let v162 : BitVec 32 := Scalar.muli v12 c512_i32_86
  let v163 : BitVec 32 := Scalar.addi v162 c0_i32_87
  let v164 : Index := Scalar.indexCast v163
  let c512_88 : Index := 512#32
  ![v164.toNat, 512]
def k0_off22 (k0_t1 : Fin k0_t1_loop.trips) (c0_i32_90 : BitVec 32) : Fin 2 → Nat :=
  let c5 : Index := 5#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_89 : BitVec 32 := 4#32
  let v168 : BitVec 32 := Scalar.muli v12 c4_i32_89
  let v169 : BitVec 32 := Scalar.addi v168 c0_i32_90
  let v170 : Index := Scalar.indexCast v169
  ![5, v170.toNat]
def k0_off23 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_91 : BitVec 32 := 2#32
  let c0_i32_92 : BitVec 32 := 0#32
  let v173 : BitVec 1 := Scalar.cmpi .eq c2_i32_91 c0_i32_92
  let c1_i32_93 : BitVec 32 := 1#32
  let v174 : BitVec 32 := Scalar.select v173 c1_i32_93 c2_i32_91
  let v175 : BitVec 32 := Scalar.remsi v12 v174
  let c0_i32_95 : BitVec 32 := 0#32
  let v177 : BitVec 1 := Scalar.cmpi .slt v175 c0_i32_95
  let c0_i32_96 : BitVec 32 := 0#32
  let v178 : BitVec 1 := Scalar.cmpi .slt v174 c0_i32_96
  let v179 : BitVec 1 := Scalar.xori v177 v178
  let c0_i32_94 : BitVec 32 := 0#32
  let v176 : BitVec 1 := Scalar.cmpi .ne v175 c0_i32_94
  let v180 : BitVec 1 := Scalar.andi v179 v176
  let v181 : BitVec 32 := Scalar.addi v175 v174
  let v182 : BitVec 32 := Scalar.select v180 v181 v175
  let v183 : Index := Scalar.indexCast v182
  let c0_97 : Index := 0#32
  let c640 : Index := 640#32
  ![v183.toNat, 0, 640]
def k0_off24 (k0_t1 : Fin k0_t1_loop.trips) (c0_i32_99 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_98 : BitVec 32 := 512#32
  let v189 : BitVec 32 := Scalar.muli v12 c512_i32_98
  let v190 : BitVec 32 := Scalar.addi v189 c0_i32_99
  let v191 : Index := Scalar.indexCast v190
  let c640_100 : Index := 640#32
  ![v191.toNat, 640]
def k0_off25 (k0_t1 : Fin k0_t1_loop.trips) (c0_i32_102 : BitVec 32) : Fin 2 → Nat :=
  let c6 : Index := 6#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_101 : BitVec 32 := 4#32
  let v195 : BitVec 32 := Scalar.muli v12 c4_i32_101
  let v196 : BitVec 32 := Scalar.addi v195 c0_i32_102
  let v197 : Index := Scalar.indexCast v196
  ![6, v197.toNat]
def k0_off26 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_103 : BitVec 32 := 2#32
  let c0_i32_104 : BitVec 32 := 0#32
  let v200 : BitVec 1 := Scalar.cmpi .eq c2_i32_103 c0_i32_104
  let c1_i32_105 : BitVec 32 := 1#32
  let v201 : BitVec 32 := Scalar.select v200 c1_i32_105 c2_i32_103
  let v202 : BitVec 32 := Scalar.remsi v12 v201
  let c0_i32_107 : BitVec 32 := 0#32
  let v204 : BitVec 1 := Scalar.cmpi .slt v202 c0_i32_107
  let c0_i32_108 : BitVec 32 := 0#32
  let v205 : BitVec 1 := Scalar.cmpi .slt v201 c0_i32_108
  let v206 : BitVec 1 := Scalar.xori v204 v205
  let c0_i32_106 : BitVec 32 := 0#32
  let v203 : BitVec 1 := Scalar.cmpi .ne v202 c0_i32_106
  let v207 : BitVec 1 := Scalar.andi v206 v203
  let v208 : BitVec 32 := Scalar.addi v202 v201
  let v209 : BitVec 32 := Scalar.select v207 v208 v202
  let v210 : Index := Scalar.indexCast v209
  let c0_109 : Index := 0#32
  let c768 : Index := 768#32
  ![v210.toNat, 0, 768]
def k0_off27 (k0_t1 : Fin k0_t1_loop.trips) (c0_i32_111 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_110 : BitVec 32 := 512#32
  let v216 : BitVec 32 := Scalar.muli v12 c512_i32_110
  let v217 : BitVec 32 := Scalar.addi v216 c0_i32_111
  let v218 : Index := Scalar.indexCast v217
  let c768_112 : Index := 768#32
  ![v218.toNat, 768]
def k0_off28 (k0_t1 : Fin k0_t1_loop.trips) (c0_i32_114 : BitVec 32) : Fin 2 → Nat :=
  let c7 : Index := 7#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_113 : BitVec 32 := 4#32
  let v222 : BitVec 32 := Scalar.muli v12 c4_i32_113
  let v223 : BitVec 32 := Scalar.addi v222 c0_i32_114
  let v224 : Index := Scalar.indexCast v223
  ![7, v224.toNat]
def k0_off29 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_115 : BitVec 32 := 2#32
  let c0_i32_116 : BitVec 32 := 0#32
  let v227 : BitVec 1 := Scalar.cmpi .eq c2_i32_115 c0_i32_116
  let c1_i32_117 : BitVec 32 := 1#32
  let v228 : BitVec 32 := Scalar.select v227 c1_i32_117 c2_i32_115
  let v229 : BitVec 32 := Scalar.remsi v12 v228
  let c0_i32_119 : BitVec 32 := 0#32
  let v231 : BitVec 1 := Scalar.cmpi .slt v229 c0_i32_119
  let c0_i32_120 : BitVec 32 := 0#32
  let v232 : BitVec 1 := Scalar.cmpi .slt v228 c0_i32_120
  let v233 : BitVec 1 := Scalar.xori v231 v232
  let c0_i32_118 : BitVec 32 := 0#32
  let v230 : BitVec 1 := Scalar.cmpi .ne v229 c0_i32_118
  let v234 : BitVec 1 := Scalar.andi v233 v230
  let v235 : BitVec 32 := Scalar.addi v229 v228
  let v236 : BitVec 32 := Scalar.select v234 v235 v229
  let v237 : Index := Scalar.indexCast v236
  let c0_121 : Index := 0#32
  let c896 : Index := 896#32
  ![v237.toNat, 0, 896]
def k0_off30 (k0_t1 : Fin k0_t1_loop.trips) (c0_i32_123 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_122 : BitVec 32 := 512#32
  let v243 : BitVec 32 := Scalar.muli v12 c512_i32_122
  let v244 : BitVec 32 := Scalar.addi v243 c0_i32_123
  let v245 : Index := Scalar.indexCast v244
  let c896_124 : Index := 896#32
  ![v245.toNat, 896]
def k0_off31 (k0_t1 : Fin k0_t1_loop.trips) (c0_i32_126 : BitVec 32) : Fin 2 → Nat :=
  let c8 : Index := 8#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_125 : BitVec 32 := 4#32
  let v249 : BitVec 32 := Scalar.muli v12 c4_i32_125
  let v250 : BitVec 32 := Scalar.addi v249 c0_i32_126
  let v251 : Index := Scalar.indexCast v250
  ![8, v251.toNat]
def k0_off32 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_127 : BitVec 32 := 2#32
  let c0_i32_128 : BitVec 32 := 0#32
  let v254 : BitVec 1 := Scalar.cmpi .eq c2_i32_127 c0_i32_128
  let c1_i32_129 : BitVec 32 := 1#32
  let v255 : BitVec 32 := Scalar.select v254 c1_i32_129 c2_i32_127
  let v256 : BitVec 32 := Scalar.remsi v12 v255
  let c0_i32_131 : BitVec 32 := 0#32
  let v258 : BitVec 1 := Scalar.cmpi .slt v256 c0_i32_131
  let c0_i32_132 : BitVec 32 := 0#32
  let v259 : BitVec 1 := Scalar.cmpi .slt v255 c0_i32_132
  let v260 : BitVec 1 := Scalar.xori v258 v259
  let c0_i32_130 : BitVec 32 := 0#32
  let v257 : BitVec 1 := Scalar.cmpi .ne v256 c0_i32_130
  let v261 : BitVec 1 := Scalar.andi v260 v257
  let v262 : BitVec 32 := Scalar.addi v256 v255
  let v263 : BitVec 32 := Scalar.select v261 v262 v256
  let v264 : Index := Scalar.indexCast v263
  let c0_133 : Index := 0#32
  let c1024 : Index := 1024#32
  ![v264.toNat, 0, 1024]
def k0_off33 (k0_t1 : Fin k0_t1_loop.trips) (c0_i32_135 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_134 : BitVec 32 := 512#32
  let v270 : BitVec 32 := Scalar.muli v12 c512_i32_134
  let v271 : BitVec 32 := Scalar.addi v270 c0_i32_135
  let v272 : Index := Scalar.indexCast v271
  let c1024_136 : Index := 1024#32
  ![v272.toNat, 1024]
def k0_off34 (k0_t1 : Fin k0_t1_loop.trips) (c0_i32_138 : BitVec 32) : Fin 2 → Nat :=
  let c9 : Index := 9#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_137 : BitVec 32 := 4#32
  let v276 : BitVec 32 := Scalar.muli v12 c4_i32_137
  let v277 : BitVec 32 := Scalar.addi v276 c0_i32_138
  let v278 : Index := Scalar.indexCast v277
  ![9, v278.toNat]
def k0_off35 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_139 : BitVec 32 := 2#32
  let c0_i32_140 : BitVec 32 := 0#32
  let v281 : BitVec 1 := Scalar.cmpi .eq c2_i32_139 c0_i32_140
  let c1_i32_141 : BitVec 32 := 1#32
  let v282 : BitVec 32 := Scalar.select v281 c1_i32_141 c2_i32_139
  let v283 : BitVec 32 := Scalar.remsi v12 v282
  let c0_i32_143 : BitVec 32 := 0#32
  let v285 : BitVec 1 := Scalar.cmpi .slt v283 c0_i32_143
  let c0_i32_144 : BitVec 32 := 0#32
  let v286 : BitVec 1 := Scalar.cmpi .slt v282 c0_i32_144
  let v287 : BitVec 1 := Scalar.xori v285 v286
  let c0_i32_142 : BitVec 32 := 0#32
  let v284 : BitVec 1 := Scalar.cmpi .ne v283 c0_i32_142
  let v288 : BitVec 1 := Scalar.andi v287 v284
  let v289 : BitVec 32 := Scalar.addi v283 v282
  let v290 : BitVec 32 := Scalar.select v288 v289 v283
  let v291 : Index := Scalar.indexCast v290
  let c0_145 : Index := 0#32
  let c1152 : Index := 1152#32
  ![v291.toNat, 0, 1152]
def k0_off36 (k0_t1 : Fin k0_t1_loop.trips) (c0_i32_147 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_146 : BitVec 32 := 512#32
  let v297 : BitVec 32 := Scalar.muli v12 c512_i32_146
  let v298 : BitVec 32 := Scalar.addi v297 c0_i32_147
  let v299 : Index := Scalar.indexCast v298
  let c1152_148 : Index := 1152#32
  ![v299.toNat, 1152]
def k0_off37 (k0_t1 : Fin k0_t1_loop.trips) (c0_i32_150 : BitVec 32) : Fin 2 → Nat :=
  let c10 : Index := 10#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_149 : BitVec 32 := 4#32
  let v303 : BitVec 32 := Scalar.muli v12 c4_i32_149
  let v304 : BitVec 32 := Scalar.addi v303 c0_i32_150
  let v305 : Index := Scalar.indexCast v304
  ![10, v305.toNat]
def k0_off38 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_151 : BitVec 32 := 2#32
  let c0_i32_152 : BitVec 32 := 0#32
  let v308 : BitVec 1 := Scalar.cmpi .eq c2_i32_151 c0_i32_152
  let c1_i32_153 : BitVec 32 := 1#32
  let v309 : BitVec 32 := Scalar.select v308 c1_i32_153 c2_i32_151
  let v310 : BitVec 32 := Scalar.remsi v12 v309
  let c0_i32_155 : BitVec 32 := 0#32
  let v312 : BitVec 1 := Scalar.cmpi .slt v310 c0_i32_155
  let c0_i32_156 : BitVec 32 := 0#32
  let v313 : BitVec 1 := Scalar.cmpi .slt v309 c0_i32_156
  let v314 : BitVec 1 := Scalar.xori v312 v313
  let c0_i32_154 : BitVec 32 := 0#32
  let v311 : BitVec 1 := Scalar.cmpi .ne v310 c0_i32_154
  let v315 : BitVec 1 := Scalar.andi v314 v311
  let v316 : BitVec 32 := Scalar.addi v310 v309
  let v317 : BitVec 32 := Scalar.select v315 v316 v310
  let v318 : Index := Scalar.indexCast v317
  let c0_157 : Index := 0#32
  let c1280 : Index := 1280#32
  ![v318.toNat, 0, 1280]
def k0_off39 (k0_t1 : Fin k0_t1_loop.trips) (c0_i32_159 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_158 : BitVec 32 := 512#32
  let v324 : BitVec 32 := Scalar.muli v12 c512_i32_158
  let v325 : BitVec 32 := Scalar.addi v324 c0_i32_159
  let v326 : Index := Scalar.indexCast v325
  let c1280_160 : Index := 1280#32
  ![v326.toNat, 1280]
def k0_off40 (k0_t1 : Fin k0_t1_loop.trips) (c0_i32_162 : BitVec 32) : Fin 2 → Nat :=
  let c11 : Index := 11#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_161 : BitVec 32 := 4#32
  let v330 : BitVec 32 := Scalar.muli v12 c4_i32_161
  let v331 : BitVec 32 := Scalar.addi v330 c0_i32_162
  let v332 : Index := Scalar.indexCast v331
  ![11, v332.toNat]
def k0_off41 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_163 : BitVec 32 := 2#32
  let c0_i32_164 : BitVec 32 := 0#32
  let v335 : BitVec 1 := Scalar.cmpi .eq c2_i32_163 c0_i32_164
  let c1_i32_165 : BitVec 32 := 1#32
  let v336 : BitVec 32 := Scalar.select v335 c1_i32_165 c2_i32_163
  let v337 : BitVec 32 := Scalar.remsi v12 v336
  let c0_i32_167 : BitVec 32 := 0#32
  let v339 : BitVec 1 := Scalar.cmpi .slt v337 c0_i32_167
  let c0_i32_168 : BitVec 32 := 0#32
  let v340 : BitVec 1 := Scalar.cmpi .slt v336 c0_i32_168
  let v341 : BitVec 1 := Scalar.xori v339 v340
  let c0_i32_166 : BitVec 32 := 0#32
  let v338 : BitVec 1 := Scalar.cmpi .ne v337 c0_i32_166
  let v342 : BitVec 1 := Scalar.andi v341 v338
  let v343 : BitVec 32 := Scalar.addi v337 v336
  let v344 : BitVec 32 := Scalar.select v342 v343 v337
  let v345 : Index := Scalar.indexCast v344
  let c0_169 : Index := 0#32
  let c1408 : Index := 1408#32
  ![v345.toNat, 0, 1408]
def k0_off42 (k0_t1 : Fin k0_t1_loop.trips) (c0_i32_171 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_170 : BitVec 32 := 512#32
  let v351 : BitVec 32 := Scalar.muli v12 c512_i32_170
  let v352 : BitVec 32 := Scalar.addi v351 c0_i32_171
  let v353 : Index := Scalar.indexCast v352
  let c1408_172 : Index := 1408#32
  ![v353.toNat, 1408]
def k0_off43 (k0_t1 : Fin k0_t1_loop.trips) (c0_i32_174 : BitVec 32) : Fin 2 → Nat :=
  let c12 : Index := 12#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_173 : BitVec 32 := 4#32
  let v357 : BitVec 32 := Scalar.muli v12 c4_i32_173
  let v358 : BitVec 32 := Scalar.addi v357 c0_i32_174
  let v359 : Index := Scalar.indexCast v358
  ![12, v359.toNat]
def k0_off44 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_175 : BitVec 32 := 2#32
  let c0_i32_176 : BitVec 32 := 0#32
  let v362 : BitVec 1 := Scalar.cmpi .eq c2_i32_175 c0_i32_176
  let c1_i32_177 : BitVec 32 := 1#32
  let v363 : BitVec 32 := Scalar.select v362 c1_i32_177 c2_i32_175
  let v364 : BitVec 32 := Scalar.remsi v12 v363
  let c0_i32_179 : BitVec 32 := 0#32
  let v366 : BitVec 1 := Scalar.cmpi .slt v364 c0_i32_179
  let c0_i32_180 : BitVec 32 := 0#32
  let v367 : BitVec 1 := Scalar.cmpi .slt v363 c0_i32_180
  let v368 : BitVec 1 := Scalar.xori v366 v367
  let c0_i32_178 : BitVec 32 := 0#32
  let v365 : BitVec 1 := Scalar.cmpi .ne v364 c0_i32_178
  let v369 : BitVec 1 := Scalar.andi v368 v365
  let v370 : BitVec 32 := Scalar.addi v364 v363
  let v371 : BitVec 32 := Scalar.select v369 v370 v364
  let v372 : Index := Scalar.indexCast v371
  let c0_181 : Index := 0#32
  let c1536 : Index := 1536#32
  ![v372.toNat, 0, 1536]
def k0_off45 (k0_t1 : Fin k0_t1_loop.trips) (c0_i32_183 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_182 : BitVec 32 := 512#32
  let v378 : BitVec 32 := Scalar.muli v12 c512_i32_182
  let v379 : BitVec 32 := Scalar.addi v378 c0_i32_183
  let v380 : Index := Scalar.indexCast v379
  let c1536_184 : Index := 1536#32
  ![v380.toNat, 1536]
def k0_off46 (k0_t1 : Fin k0_t1_loop.trips) (c0_i32_186 : BitVec 32) : Fin 2 → Nat :=
  let c13 : Index := 13#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_185 : BitVec 32 := 4#32
  let v384 : BitVec 32 := Scalar.muli v12 c4_i32_185
  let v385 : BitVec 32 := Scalar.addi v384 c0_i32_186
  let v386 : Index := Scalar.indexCast v385
  ![13, v386.toNat]
def k0_off47 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_187 : BitVec 32 := 2#32
  let c0_i32_188 : BitVec 32 := 0#32
  let v389 : BitVec 1 := Scalar.cmpi .eq c2_i32_187 c0_i32_188
  let c1_i32_189 : BitVec 32 := 1#32
  let v390 : BitVec 32 := Scalar.select v389 c1_i32_189 c2_i32_187
  let v391 : BitVec 32 := Scalar.remsi v12 v390
  let c0_i32_191 : BitVec 32 := 0#32
  let v393 : BitVec 1 := Scalar.cmpi .slt v391 c0_i32_191
  let c0_i32_192 : BitVec 32 := 0#32
  let v394 : BitVec 1 := Scalar.cmpi .slt v390 c0_i32_192
  let v395 : BitVec 1 := Scalar.xori v393 v394
  let c0_i32_190 : BitVec 32 := 0#32
  let v392 : BitVec 1 := Scalar.cmpi .ne v391 c0_i32_190
  let v396 : BitVec 1 := Scalar.andi v395 v392
  let v397 : BitVec 32 := Scalar.addi v391 v390
  let v398 : BitVec 32 := Scalar.select v396 v397 v391
  let v399 : Index := Scalar.indexCast v398
  let c0_193 : Index := 0#32
  let c1664 : Index := 1664#32
  ![v399.toNat, 0, 1664]
def k0_off48 (k0_t1 : Fin k0_t1_loop.trips) (c0_i32_195 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_194 : BitVec 32 := 512#32
  let v405 : BitVec 32 := Scalar.muli v12 c512_i32_194
  let v406 : BitVec 32 := Scalar.addi v405 c0_i32_195
  let v407 : Index := Scalar.indexCast v406
  let c1664_196 : Index := 1664#32
  ![v407.toNat, 1664]
def k0_off49 (k0_t1 : Fin k0_t1_loop.trips) (c0_i32_198 : BitVec 32) : Fin 2 → Nat :=
  let c14 : Index := 14#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_197 : BitVec 32 := 4#32
  let v411 : BitVec 32 := Scalar.muli v12 c4_i32_197
  let v412 : BitVec 32 := Scalar.addi v411 c0_i32_198
  let v413 : Index := Scalar.indexCast v412
  ![14, v413.toNat]
def k0_off50 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_199 : BitVec 32 := 2#32
  let c0_i32_200 : BitVec 32 := 0#32
  let v416 : BitVec 1 := Scalar.cmpi .eq c2_i32_199 c0_i32_200
  let c1_i32_201 : BitVec 32 := 1#32
  let v417 : BitVec 32 := Scalar.select v416 c1_i32_201 c2_i32_199
  let v418 : BitVec 32 := Scalar.remsi v12 v417
  let c0_i32_203 : BitVec 32 := 0#32
  let v420 : BitVec 1 := Scalar.cmpi .slt v418 c0_i32_203
  let c0_i32_204 : BitVec 32 := 0#32
  let v421 : BitVec 1 := Scalar.cmpi .slt v417 c0_i32_204
  let v422 : BitVec 1 := Scalar.xori v420 v421
  let c0_i32_202 : BitVec 32 := 0#32
  let v419 : BitVec 1 := Scalar.cmpi .ne v418 c0_i32_202
  let v423 : BitVec 1 := Scalar.andi v422 v419
  let v424 : BitVec 32 := Scalar.addi v418 v417
  let v425 : BitVec 32 := Scalar.select v423 v424 v418
  let v426 : Index := Scalar.indexCast v425
  let c0_205 : Index := 0#32
  let c1792 : Index := 1792#32
  ![v426.toNat, 0, 1792]
def k0_off51 (k0_t1 : Fin k0_t1_loop.trips) (c0_i32_207 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_206 : BitVec 32 := 512#32
  let v432 : BitVec 32 := Scalar.muli v12 c512_i32_206
  let v433 : BitVec 32 := Scalar.addi v432 c0_i32_207
  let v434 : Index := Scalar.indexCast v433
  let c1792_208 : Index := 1792#32
  ![v434.toNat, 1792]
def k0_off52 (k0_t1 : Fin k0_t1_loop.trips) (c0_i32_210 : BitVec 32) : Fin 2 → Nat :=
  let c15 : Index := 15#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_209 : BitVec 32 := 4#32
  let v438 : BitVec 32 := Scalar.muli v12 c4_i32_209
  let v439 : BitVec 32 := Scalar.addi v438 c0_i32_210
  let v440 : Index := Scalar.indexCast v439
  ![15, v440.toNat]
def k0_off53 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_211 : BitVec 32 := 2#32
  let c0_i32_212 : BitVec 32 := 0#32
  let v443 : BitVec 1 := Scalar.cmpi .eq c2_i32_211 c0_i32_212
  let c1_i32_213 : BitVec 32 := 1#32
  let v444 : BitVec 32 := Scalar.select v443 c1_i32_213 c2_i32_211
  let v445 : BitVec 32 := Scalar.remsi v12 v444
  let c0_i32_215 : BitVec 32 := 0#32
  let v447 : BitVec 1 := Scalar.cmpi .slt v445 c0_i32_215
  let c0_i32_216 : BitVec 32 := 0#32
  let v448 : BitVec 1 := Scalar.cmpi .slt v444 c0_i32_216
  let v449 : BitVec 1 := Scalar.xori v447 v448
  let c0_i32_214 : BitVec 32 := 0#32
  let v446 : BitVec 1 := Scalar.cmpi .ne v445 c0_i32_214
  let v450 : BitVec 1 := Scalar.andi v449 v446
  let v451 : BitVec 32 := Scalar.addi v445 v444
  let v452 : BitVec 32 := Scalar.select v450 v451 v445
  let v453 : Index := Scalar.indexCast v452
  let c0_217 : Index := 0#32
  let c1920 : Index := 1920#32
  ![v453.toNat, 0, 1920]
def k0_off54 (k0_t1 : Fin k0_t1_loop.trips) (c0_i32_219 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_218 : BitVec 32 := 512#32
  let v459 : BitVec 32 := Scalar.muli v12 c512_i32_218
  let v460 : BitVec 32 := Scalar.addi v459 c0_i32_219
  let v461 : Index := Scalar.indexCast v460
  let c1920_220 : Index := 1920#32
  ![v461.toNat, 1920]
def k0_off55 (k0_t1 : Fin k0_t1_loop.trips) (c0_i32_222 : BitVec 32) : Fin 2 → Nat :=
  let c16 : Index := 16#32
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c4_i32_221 : BitVec 32 := 4#32
  let v465 : BitVec 32 := Scalar.muli v12 c4_i32_221
  let v466 : BitVec 32 := Scalar.addi v465 c0_i32_222
  let v467 : Index := Scalar.indexCast v466
  ![16, v467.toNat]
def k0_off56 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_223 : BitVec 32 := 2#32
  let c0_i32_224 : BitVec 32 := 0#32
  let v470 : BitVec 1 := Scalar.cmpi .eq c2_i32_223 c0_i32_224
  let c1_i32_225 : BitVec 32 := 1#32
  let v471 : BitVec 32 := Scalar.select v470 c1_i32_225 c2_i32_223
  let v472 : BitVec 32 := Scalar.remsi v12 v471
  let c0_i32_227 : BitVec 32 := 0#32
  let v474 : BitVec 1 := Scalar.cmpi .slt v472 c0_i32_227
  let c0_i32_228 : BitVec 32 := 0#32
  let v475 : BitVec 1 := Scalar.cmpi .slt v471 c0_i32_228
  let v476 : BitVec 1 := Scalar.xori v474 v475
  let c0_i32_226 : BitVec 32 := 0#32
  let v473 : BitVec 1 := Scalar.cmpi .ne v472 c0_i32_226
  let v477 : BitVec 1 := Scalar.andi v476 v473
  let v478 : BitVec 32 := Scalar.addi v472 v471
  let v479 : BitVec 32 := Scalar.select v477 v478 v472
  let v480 : Index := Scalar.indexCast v479
  let c0_229 : Index := 0#32
  let c2048 : Index := 2048#32
  ![v480.toNat, 0, 2048]
def k0_off57 (k0_t1 : Fin k0_t1_loop.trips) (c0_i32_231 : BitVec 32) : Fin 2 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c512_i32_230 : BitVec 32 := 512#32
  let v486 : BitVec 32 := Scalar.muli v12 c512_i32_230
  let v487 : BitVec 32 := Scalar.addi v486 c0_i32_231
  let v488 : Index := Scalar.indexCast v487
  let c2048_232 : Index := 2048#32
  ![v488.toNat, 2048]
def k0_off58 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_236 : BitVec 32 := 2#32
  let c0_i32_237 : BitVec 32 := 0#32
  let v497 : BitVec 1 := Scalar.cmpi .eq c2_i32_236 c0_i32_237
  let c1_i32_238 : BitVec 32 := 1#32
  let v498 : BitVec 32 := Scalar.select v497 c1_i32_238 c2_i32_236
  let v499 : BitVec 32 := Scalar.remsi v12 v498
  let c0_i32_240 : BitVec 32 := 0#32
  let v501 : BitVec 1 := Scalar.cmpi .slt v499 c0_i32_240
  let c0_i32_241 : BitVec 32 := 0#32
  let v502 : BitVec 1 := Scalar.cmpi .slt v498 c0_i32_241
  let v503 : BitVec 1 := Scalar.xori v501 v502
  let c0_i32_239 : BitVec 32 := 0#32
  let v500 : BitVec 1 := Scalar.cmpi .ne v499 c0_i32_239
  let v504 : BitVec 1 := Scalar.andi v503 v500
  let v505 : BitVec 32 := Scalar.addi v499 v498
  let v506 : BitVec 32 := Scalar.select v504 v505 v499
  let v507 : Index := Scalar.indexCast v506
  let c128_242 : Index := 128#32
  let c0_243 : Index := 0#32
  ![v507.toNat, 128, 0]
def k0_off59 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_249 : BitVec 32 := 2#32
  let c0_i32_250 : BitVec 32 := 0#32
  let v524 : BitVec 1 := Scalar.cmpi .eq c2_i32_249 c0_i32_250
  let c1_i32_251 : BitVec 32 := 1#32
  let v525 : BitVec 32 := Scalar.select v524 c1_i32_251 c2_i32_249
  let v526 : BitVec 32 := Scalar.remsi v12 v525
  let c0_i32_253 : BitVec 32 := 0#32
  let v528 : BitVec 1 := Scalar.cmpi .slt v526 c0_i32_253
  let c0_i32_254 : BitVec 32 := 0#32
  let v529 : BitVec 1 := Scalar.cmpi .slt v525 c0_i32_254
  let v530 : BitVec 1 := Scalar.xori v528 v529
  let c0_i32_252 : BitVec 32 := 0#32
  let v527 : BitVec 1 := Scalar.cmpi .ne v526 c0_i32_252
  let v531 : BitVec 1 := Scalar.andi v530 v527
  let v532 : BitVec 32 := Scalar.addi v526 v525
  let v533 : BitVec 32 := Scalar.select v531 v532 v526
  let v534 : Index := Scalar.indexCast v533
  let c128_255 : Index := 128#32
  let c128_256 : Index := 128#32
  ![v534.toNat, 128, 128]
def k0_off60 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_263 : BitVec 32 := 2#32
  let c0_i32_264 : BitVec 32 := 0#32
  let v551 : BitVec 1 := Scalar.cmpi .eq c2_i32_263 c0_i32_264
  let c1_i32_265 : BitVec 32 := 1#32
  let v552 : BitVec 32 := Scalar.select v551 c1_i32_265 c2_i32_263
  let v553 : BitVec 32 := Scalar.remsi v12 v552
  let c0_i32_267 : BitVec 32 := 0#32
  let v555 : BitVec 1 := Scalar.cmpi .slt v553 c0_i32_267
  let c0_i32_268 : BitVec 32 := 0#32
  let v556 : BitVec 1 := Scalar.cmpi .slt v552 c0_i32_268
  let v557 : BitVec 1 := Scalar.xori v555 v556
  let c0_i32_266 : BitVec 32 := 0#32
  let v554 : BitVec 1 := Scalar.cmpi .ne v553 c0_i32_266
  let v558 : BitVec 1 := Scalar.andi v557 v554
  let v559 : BitVec 32 := Scalar.addi v553 v552
  let v560 : BitVec 32 := Scalar.select v558 v559 v553
  let v561 : Index := Scalar.indexCast v560
  let c128_269 : Index := 128#32
  let c256_270 : Index := 256#32
  ![v561.toNat, 128, 256]
def k0_off61 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_277 : BitVec 32 := 2#32
  let c0_i32_278 : BitVec 32 := 0#32
  let v578 : BitVec 1 := Scalar.cmpi .eq c2_i32_277 c0_i32_278
  let c1_i32_279 : BitVec 32 := 1#32
  let v579 : BitVec 32 := Scalar.select v578 c1_i32_279 c2_i32_277
  let v580 : BitVec 32 := Scalar.remsi v12 v579
  let c0_i32_281 : BitVec 32 := 0#32
  let v582 : BitVec 1 := Scalar.cmpi .slt v580 c0_i32_281
  let c0_i32_282 : BitVec 32 := 0#32
  let v583 : BitVec 1 := Scalar.cmpi .slt v579 c0_i32_282
  let v584 : BitVec 1 := Scalar.xori v582 v583
  let c0_i32_280 : BitVec 32 := 0#32
  let v581 : BitVec 1 := Scalar.cmpi .ne v580 c0_i32_280
  let v585 : BitVec 1 := Scalar.andi v584 v581
  let v586 : BitVec 32 := Scalar.addi v580 v579
  let v587 : BitVec 32 := Scalar.select v585 v586 v580
  let v588 : Index := Scalar.indexCast v587
  let c128_283 : Index := 128#32
  let c384_284 : Index := 384#32
  ![v588.toNat, 128, 384]
def k0_off62 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_291 : BitVec 32 := 2#32
  let c0_i32_292 : BitVec 32 := 0#32
  let v605 : BitVec 1 := Scalar.cmpi .eq c2_i32_291 c0_i32_292
  let c1_i32_293 : BitVec 32 := 1#32
  let v606 : BitVec 32 := Scalar.select v605 c1_i32_293 c2_i32_291
  let v607 : BitVec 32 := Scalar.remsi v12 v606
  let c0_i32_295 : BitVec 32 := 0#32
  let v609 : BitVec 1 := Scalar.cmpi .slt v607 c0_i32_295
  let c0_i32_296 : BitVec 32 := 0#32
  let v610 : BitVec 1 := Scalar.cmpi .slt v606 c0_i32_296
  let v611 : BitVec 1 := Scalar.xori v609 v610
  let c0_i32_294 : BitVec 32 := 0#32
  let v608 : BitVec 1 := Scalar.cmpi .ne v607 c0_i32_294
  let v612 : BitVec 1 := Scalar.andi v611 v608
  let v613 : BitVec 32 := Scalar.addi v607 v606
  let v614 : BitVec 32 := Scalar.select v612 v613 v607
  let v615 : Index := Scalar.indexCast v614
  let c128_297 : Index := 128#32
  let c512_298 : Index := 512#32
  ![v615.toNat, 128, 512]
def k0_off63 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_305 : BitVec 32 := 2#32
  let c0_i32_306 : BitVec 32 := 0#32
  let v632 : BitVec 1 := Scalar.cmpi .eq c2_i32_305 c0_i32_306
  let c1_i32_307 : BitVec 32 := 1#32
  let v633 : BitVec 32 := Scalar.select v632 c1_i32_307 c2_i32_305
  let v634 : BitVec 32 := Scalar.remsi v12 v633
  let c0_i32_309 : BitVec 32 := 0#32
  let v636 : BitVec 1 := Scalar.cmpi .slt v634 c0_i32_309
  let c0_i32_310 : BitVec 32 := 0#32
  let v637 : BitVec 1 := Scalar.cmpi .slt v633 c0_i32_310
  let v638 : BitVec 1 := Scalar.xori v636 v637
  let c0_i32_308 : BitVec 32 := 0#32
  let v635 : BitVec 1 := Scalar.cmpi .ne v634 c0_i32_308
  let v639 : BitVec 1 := Scalar.andi v638 v635
  let v640 : BitVec 32 := Scalar.addi v634 v633
  let v641 : BitVec 32 := Scalar.select v639 v640 v634
  let v642 : Index := Scalar.indexCast v641
  let c128_311 : Index := 128#32
  let c640_312 : Index := 640#32
  ![v642.toNat, 128, 640]
def k0_off64 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_319 : BitVec 32 := 2#32
  let c0_i32_320 : BitVec 32 := 0#32
  let v659 : BitVec 1 := Scalar.cmpi .eq c2_i32_319 c0_i32_320
  let c1_i32_321 : BitVec 32 := 1#32
  let v660 : BitVec 32 := Scalar.select v659 c1_i32_321 c2_i32_319
  let v661 : BitVec 32 := Scalar.remsi v12 v660
  let c0_i32_323 : BitVec 32 := 0#32
  let v663 : BitVec 1 := Scalar.cmpi .slt v661 c0_i32_323
  let c0_i32_324 : BitVec 32 := 0#32
  let v664 : BitVec 1 := Scalar.cmpi .slt v660 c0_i32_324
  let v665 : BitVec 1 := Scalar.xori v663 v664
  let c0_i32_322 : BitVec 32 := 0#32
  let v662 : BitVec 1 := Scalar.cmpi .ne v661 c0_i32_322
  let v666 : BitVec 1 := Scalar.andi v665 v662
  let v667 : BitVec 32 := Scalar.addi v661 v660
  let v668 : BitVec 32 := Scalar.select v666 v667 v661
  let v669 : Index := Scalar.indexCast v668
  let c128_325 : Index := 128#32
  let c768_326 : Index := 768#32
  ![v669.toNat, 128, 768]
def k0_off65 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_333 : BitVec 32 := 2#32
  let c0_i32_334 : BitVec 32 := 0#32
  let v686 : BitVec 1 := Scalar.cmpi .eq c2_i32_333 c0_i32_334
  let c1_i32_335 : BitVec 32 := 1#32
  let v687 : BitVec 32 := Scalar.select v686 c1_i32_335 c2_i32_333
  let v688 : BitVec 32 := Scalar.remsi v12 v687
  let c0_i32_337 : BitVec 32 := 0#32
  let v690 : BitVec 1 := Scalar.cmpi .slt v688 c0_i32_337
  let c0_i32_338 : BitVec 32 := 0#32
  let v691 : BitVec 1 := Scalar.cmpi .slt v687 c0_i32_338
  let v692 : BitVec 1 := Scalar.xori v690 v691
  let c0_i32_336 : BitVec 32 := 0#32
  let v689 : BitVec 1 := Scalar.cmpi .ne v688 c0_i32_336
  let v693 : BitVec 1 := Scalar.andi v692 v689
  let v694 : BitVec 32 := Scalar.addi v688 v687
  let v695 : BitVec 32 := Scalar.select v693 v694 v688
  let v696 : Index := Scalar.indexCast v695
  let c128_339 : Index := 128#32
  let c896_340 : Index := 896#32
  ![v696.toNat, 128, 896]
def k0_off66 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_347 : BitVec 32 := 2#32
  let c0_i32_348 : BitVec 32 := 0#32
  let v713 : BitVec 1 := Scalar.cmpi .eq c2_i32_347 c0_i32_348
  let c1_i32_349 : BitVec 32 := 1#32
  let v714 : BitVec 32 := Scalar.select v713 c1_i32_349 c2_i32_347
  let v715 : BitVec 32 := Scalar.remsi v12 v714
  let c0_i32_351 : BitVec 32 := 0#32
  let v717 : BitVec 1 := Scalar.cmpi .slt v715 c0_i32_351
  let c0_i32_352 : BitVec 32 := 0#32
  let v718 : BitVec 1 := Scalar.cmpi .slt v714 c0_i32_352
  let v719 : BitVec 1 := Scalar.xori v717 v718
  let c0_i32_350 : BitVec 32 := 0#32
  let v716 : BitVec 1 := Scalar.cmpi .ne v715 c0_i32_350
  let v720 : BitVec 1 := Scalar.andi v719 v716
  let v721 : BitVec 32 := Scalar.addi v715 v714
  let v722 : BitVec 32 := Scalar.select v720 v721 v715
  let v723 : Index := Scalar.indexCast v722
  let c128_353 : Index := 128#32
  let c1024_354 : Index := 1024#32
  ![v723.toNat, 128, 1024]
def k0_off67 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_361 : BitVec 32 := 2#32
  let c0_i32_362 : BitVec 32 := 0#32
  let v740 : BitVec 1 := Scalar.cmpi .eq c2_i32_361 c0_i32_362
  let c1_i32_363 : BitVec 32 := 1#32
  let v741 : BitVec 32 := Scalar.select v740 c1_i32_363 c2_i32_361
  let v742 : BitVec 32 := Scalar.remsi v12 v741
  let c0_i32_365 : BitVec 32 := 0#32
  let v744 : BitVec 1 := Scalar.cmpi .slt v742 c0_i32_365
  let c0_i32_366 : BitVec 32 := 0#32
  let v745 : BitVec 1 := Scalar.cmpi .slt v741 c0_i32_366
  let v746 : BitVec 1 := Scalar.xori v744 v745
  let c0_i32_364 : BitVec 32 := 0#32
  let v743 : BitVec 1 := Scalar.cmpi .ne v742 c0_i32_364
  let v747 : BitVec 1 := Scalar.andi v746 v743
  let v748 : BitVec 32 := Scalar.addi v742 v741
  let v749 : BitVec 32 := Scalar.select v747 v748 v742
  let v750 : Index := Scalar.indexCast v749
  let c128_367 : Index := 128#32
  let c1152_368 : Index := 1152#32
  ![v750.toNat, 128, 1152]
def k0_off68 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_375 : BitVec 32 := 2#32
  let c0_i32_376 : BitVec 32 := 0#32
  let v767 : BitVec 1 := Scalar.cmpi .eq c2_i32_375 c0_i32_376
  let c1_i32_377 : BitVec 32 := 1#32
  let v768 : BitVec 32 := Scalar.select v767 c1_i32_377 c2_i32_375
  let v769 : BitVec 32 := Scalar.remsi v12 v768
  let c0_i32_379 : BitVec 32 := 0#32
  let v771 : BitVec 1 := Scalar.cmpi .slt v769 c0_i32_379
  let c0_i32_380 : BitVec 32 := 0#32
  let v772 : BitVec 1 := Scalar.cmpi .slt v768 c0_i32_380
  let v773 : BitVec 1 := Scalar.xori v771 v772
  let c0_i32_378 : BitVec 32 := 0#32
  let v770 : BitVec 1 := Scalar.cmpi .ne v769 c0_i32_378
  let v774 : BitVec 1 := Scalar.andi v773 v770
  let v775 : BitVec 32 := Scalar.addi v769 v768
  let v776 : BitVec 32 := Scalar.select v774 v775 v769
  let v777 : Index := Scalar.indexCast v776
  let c128_381 : Index := 128#32
  let c1280_382 : Index := 1280#32
  ![v777.toNat, 128, 1280]
def k0_off69 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_389 : BitVec 32 := 2#32
  let c0_i32_390 : BitVec 32 := 0#32
  let v794 : BitVec 1 := Scalar.cmpi .eq c2_i32_389 c0_i32_390
  let c1_i32_391 : BitVec 32 := 1#32
  let v795 : BitVec 32 := Scalar.select v794 c1_i32_391 c2_i32_389
  let v796 : BitVec 32 := Scalar.remsi v12 v795
  let c0_i32_393 : BitVec 32 := 0#32
  let v798 : BitVec 1 := Scalar.cmpi .slt v796 c0_i32_393
  let c0_i32_394 : BitVec 32 := 0#32
  let v799 : BitVec 1 := Scalar.cmpi .slt v795 c0_i32_394
  let v800 : BitVec 1 := Scalar.xori v798 v799
  let c0_i32_392 : BitVec 32 := 0#32
  let v797 : BitVec 1 := Scalar.cmpi .ne v796 c0_i32_392
  let v801 : BitVec 1 := Scalar.andi v800 v797
  let v802 : BitVec 32 := Scalar.addi v796 v795
  let v803 : BitVec 32 := Scalar.select v801 v802 v796
  let v804 : Index := Scalar.indexCast v803
  let c128_395 : Index := 128#32
  let c1408_396 : Index := 1408#32
  ![v804.toNat, 128, 1408]
def k0_off70 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_403 : BitVec 32 := 2#32
  let c0_i32_404 : BitVec 32 := 0#32
  let v821 : BitVec 1 := Scalar.cmpi .eq c2_i32_403 c0_i32_404
  let c1_i32_405 : BitVec 32 := 1#32
  let v822 : BitVec 32 := Scalar.select v821 c1_i32_405 c2_i32_403
  let v823 : BitVec 32 := Scalar.remsi v12 v822
  let c0_i32_407 : BitVec 32 := 0#32
  let v825 : BitVec 1 := Scalar.cmpi .slt v823 c0_i32_407
  let c0_i32_408 : BitVec 32 := 0#32
  let v826 : BitVec 1 := Scalar.cmpi .slt v822 c0_i32_408
  let v827 : BitVec 1 := Scalar.xori v825 v826
  let c0_i32_406 : BitVec 32 := 0#32
  let v824 : BitVec 1 := Scalar.cmpi .ne v823 c0_i32_406
  let v828 : BitVec 1 := Scalar.andi v827 v824
  let v829 : BitVec 32 := Scalar.addi v823 v822
  let v830 : BitVec 32 := Scalar.select v828 v829 v823
  let v831 : Index := Scalar.indexCast v830
  let c128_409 : Index := 128#32
  let c1536_410 : Index := 1536#32
  ![v831.toNat, 128, 1536]
def k0_off71 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_417 : BitVec 32 := 2#32
  let c0_i32_418 : BitVec 32 := 0#32
  let v848 : BitVec 1 := Scalar.cmpi .eq c2_i32_417 c0_i32_418
  let c1_i32_419 : BitVec 32 := 1#32
  let v849 : BitVec 32 := Scalar.select v848 c1_i32_419 c2_i32_417
  let v850 : BitVec 32 := Scalar.remsi v12 v849
  let c0_i32_421 : BitVec 32 := 0#32
  let v852 : BitVec 1 := Scalar.cmpi .slt v850 c0_i32_421
  let c0_i32_422 : BitVec 32 := 0#32
  let v853 : BitVec 1 := Scalar.cmpi .slt v849 c0_i32_422
  let v854 : BitVec 1 := Scalar.xori v852 v853
  let c0_i32_420 : BitVec 32 := 0#32
  let v851 : BitVec 1 := Scalar.cmpi .ne v850 c0_i32_420
  let v855 : BitVec 1 := Scalar.andi v854 v851
  let v856 : BitVec 32 := Scalar.addi v850 v849
  let v857 : BitVec 32 := Scalar.select v855 v856 v850
  let v858 : Index := Scalar.indexCast v857
  let c128_423 : Index := 128#32
  let c1664_424 : Index := 1664#32
  ![v858.toNat, 128, 1664]
def k0_off72 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_431 : BitVec 32 := 2#32
  let c0_i32_432 : BitVec 32 := 0#32
  let v875 : BitVec 1 := Scalar.cmpi .eq c2_i32_431 c0_i32_432
  let c1_i32_433 : BitVec 32 := 1#32
  let v876 : BitVec 32 := Scalar.select v875 c1_i32_433 c2_i32_431
  let v877 : BitVec 32 := Scalar.remsi v12 v876
  let c0_i32_435 : BitVec 32 := 0#32
  let v879 : BitVec 1 := Scalar.cmpi .slt v877 c0_i32_435
  let c0_i32_436 : BitVec 32 := 0#32
  let v880 : BitVec 1 := Scalar.cmpi .slt v876 c0_i32_436
  let v881 : BitVec 1 := Scalar.xori v879 v880
  let c0_i32_434 : BitVec 32 := 0#32
  let v878 : BitVec 1 := Scalar.cmpi .ne v877 c0_i32_434
  let v882 : BitVec 1 := Scalar.andi v881 v878
  let v883 : BitVec 32 := Scalar.addi v877 v876
  let v884 : BitVec 32 := Scalar.select v882 v883 v877
  let v885 : Index := Scalar.indexCast v884
  let c128_437 : Index := 128#32
  let c1792_438 : Index := 1792#32
  ![v885.toNat, 128, 1792]
def k0_off73 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_445 : BitVec 32 := 2#32
  let c0_i32_446 : BitVec 32 := 0#32
  let v902 : BitVec 1 := Scalar.cmpi .eq c2_i32_445 c0_i32_446
  let c1_i32_447 : BitVec 32 := 1#32
  let v903 : BitVec 32 := Scalar.select v902 c1_i32_447 c2_i32_445
  let v904 : BitVec 32 := Scalar.remsi v12 v903
  let c0_i32_449 : BitVec 32 := 0#32
  let v906 : BitVec 1 := Scalar.cmpi .slt v904 c0_i32_449
  let c0_i32_450 : BitVec 32 := 0#32
  let v907 : BitVec 1 := Scalar.cmpi .slt v903 c0_i32_450
  let v908 : BitVec 1 := Scalar.xori v906 v907
  let c0_i32_448 : BitVec 32 := 0#32
  let v905 : BitVec 1 := Scalar.cmpi .ne v904 c0_i32_448
  let v909 : BitVec 1 := Scalar.andi v908 v905
  let v910 : BitVec 32 := Scalar.addi v904 v903
  let v911 : BitVec 32 := Scalar.select v909 v910 v904
  let v912 : Index := Scalar.indexCast v911
  let c128_451 : Index := 128#32
  let c1920_452 : Index := 1920#32
  ![v912.toNat, 128, 1920]
def k0_off74 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_459 : BitVec 32 := 2#32
  let c0_i32_460 : BitVec 32 := 0#32
  let v929 : BitVec 1 := Scalar.cmpi .eq c2_i32_459 c0_i32_460
  let c1_i32_461 : BitVec 32 := 1#32
  let v930 : BitVec 32 := Scalar.select v929 c1_i32_461 c2_i32_459
  let v931 : BitVec 32 := Scalar.remsi v12 v930
  let c0_i32_463 : BitVec 32 := 0#32
  let v933 : BitVec 1 := Scalar.cmpi .slt v931 c0_i32_463
  let c0_i32_464 : BitVec 32 := 0#32
  let v934 : BitVec 1 := Scalar.cmpi .slt v930 c0_i32_464
  let v935 : BitVec 1 := Scalar.xori v933 v934
  let c0_i32_462 : BitVec 32 := 0#32
  let v932 : BitVec 1 := Scalar.cmpi .ne v931 c0_i32_462
  let v936 : BitVec 1 := Scalar.andi v935 v932
  let v937 : BitVec 32 := Scalar.addi v931 v930
  let v938 : BitVec 32 := Scalar.select v936 v937 v931
  let v939 : Index := Scalar.indexCast v938
  let c128_465 : Index := 128#32
  let c2048_466 : Index := 2048#32
  ![v939.toNat, 128, 2048]
def k0_off75 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_473 : BitVec 32 := 2#32
  let c0_i32_474 : BitVec 32 := 0#32
  let v956 : BitVec 1 := Scalar.cmpi .eq c2_i32_473 c0_i32_474
  let c1_i32_475 : BitVec 32 := 1#32
  let v957 : BitVec 32 := Scalar.select v956 c1_i32_475 c2_i32_473
  let v958 : BitVec 32 := Scalar.remsi v12 v957
  let c0_i32_477 : BitVec 32 := 0#32
  let v960 : BitVec 1 := Scalar.cmpi .slt v958 c0_i32_477
  let c0_i32_478 : BitVec 32 := 0#32
  let v961 : BitVec 1 := Scalar.cmpi .slt v957 c0_i32_478
  let v962 : BitVec 1 := Scalar.xori v960 v961
  let c0_i32_476 : BitVec 32 := 0#32
  let v959 : BitVec 1 := Scalar.cmpi .ne v958 c0_i32_476
  let v963 : BitVec 1 := Scalar.andi v962 v959
  let v964 : BitVec 32 := Scalar.addi v958 v957
  let v965 : BitVec 32 := Scalar.select v963 v964 v958
  let v966 : Index := Scalar.indexCast v965
  let c256_479 : Index := 256#32
  let c0_480 : Index := 0#32
  ![v966.toNat, 256, 0]
def k0_off76 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_486 : BitVec 32 := 2#32
  let c0_i32_487 : BitVec 32 := 0#32
  let v983 : BitVec 1 := Scalar.cmpi .eq c2_i32_486 c0_i32_487
  let c1_i32_488 : BitVec 32 := 1#32
  let v984 : BitVec 32 := Scalar.select v983 c1_i32_488 c2_i32_486
  let v985 : BitVec 32 := Scalar.remsi v12 v984
  let c0_i32_490 : BitVec 32 := 0#32
  let v987 : BitVec 1 := Scalar.cmpi .slt v985 c0_i32_490
  let c0_i32_491 : BitVec 32 := 0#32
  let v988 : BitVec 1 := Scalar.cmpi .slt v984 c0_i32_491
  let v989 : BitVec 1 := Scalar.xori v987 v988
  let c0_i32_489 : BitVec 32 := 0#32
  let v986 : BitVec 1 := Scalar.cmpi .ne v985 c0_i32_489
  let v990 : BitVec 1 := Scalar.andi v989 v986
  let v991 : BitVec 32 := Scalar.addi v985 v984
  let v992 : BitVec 32 := Scalar.select v990 v991 v985
  let v993 : Index := Scalar.indexCast v992
  let c256_492 : Index := 256#32
  let c128_493 : Index := 128#32
  ![v993.toNat, 256, 128]
def k0_off77 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_500 : BitVec 32 := 2#32
  let c0_i32_501 : BitVec 32 := 0#32
  let v1010 : BitVec 1 := Scalar.cmpi .eq c2_i32_500 c0_i32_501
  let c1_i32_502 : BitVec 32 := 1#32
  let v1011 : BitVec 32 := Scalar.select v1010 c1_i32_502 c2_i32_500
  let v1012 : BitVec 32 := Scalar.remsi v12 v1011
  let c0_i32_504 : BitVec 32 := 0#32
  let v1014 : BitVec 1 := Scalar.cmpi .slt v1012 c0_i32_504
  let c0_i32_505 : BitVec 32 := 0#32
  let v1015 : BitVec 1 := Scalar.cmpi .slt v1011 c0_i32_505
  let v1016 : BitVec 1 := Scalar.xori v1014 v1015
  let c0_i32_503 : BitVec 32 := 0#32
  let v1013 : BitVec 1 := Scalar.cmpi .ne v1012 c0_i32_503
  let v1017 : BitVec 1 := Scalar.andi v1016 v1013
  let v1018 : BitVec 32 := Scalar.addi v1012 v1011
  let v1019 : BitVec 32 := Scalar.select v1017 v1018 v1012
  let v1020 : Index := Scalar.indexCast v1019
  let c256_506 : Index := 256#32
  let c256_507 : Index := 256#32
  ![v1020.toNat, 256, 256]
def k0_off78 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_514 : BitVec 32 := 2#32
  let c0_i32_515 : BitVec 32 := 0#32
  let v1037 : BitVec 1 := Scalar.cmpi .eq c2_i32_514 c0_i32_515
  let c1_i32_516 : BitVec 32 := 1#32
  let v1038 : BitVec 32 := Scalar.select v1037 c1_i32_516 c2_i32_514
  let v1039 : BitVec 32 := Scalar.remsi v12 v1038
  let c0_i32_518 : BitVec 32 := 0#32
  let v1041 : BitVec 1 := Scalar.cmpi .slt v1039 c0_i32_518
  let c0_i32_519 : BitVec 32 := 0#32
  let v1042 : BitVec 1 := Scalar.cmpi .slt v1038 c0_i32_519
  let v1043 : BitVec 1 := Scalar.xori v1041 v1042
  let c0_i32_517 : BitVec 32 := 0#32
  let v1040 : BitVec 1 := Scalar.cmpi .ne v1039 c0_i32_517
  let v1044 : BitVec 1 := Scalar.andi v1043 v1040
  let v1045 : BitVec 32 := Scalar.addi v1039 v1038
  let v1046 : BitVec 32 := Scalar.select v1044 v1045 v1039
  let v1047 : Index := Scalar.indexCast v1046
  let c256_520 : Index := 256#32
  let c384_521 : Index := 384#32
  ![v1047.toNat, 256, 384]
def k0_off79 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_528 : BitVec 32 := 2#32
  let c0_i32_529 : BitVec 32 := 0#32
  let v1064 : BitVec 1 := Scalar.cmpi .eq c2_i32_528 c0_i32_529
  let c1_i32_530 : BitVec 32 := 1#32
  let v1065 : BitVec 32 := Scalar.select v1064 c1_i32_530 c2_i32_528
  let v1066 : BitVec 32 := Scalar.remsi v12 v1065
  let c0_i32_532 : BitVec 32 := 0#32
  let v1068 : BitVec 1 := Scalar.cmpi .slt v1066 c0_i32_532
  let c0_i32_533 : BitVec 32 := 0#32
  let v1069 : BitVec 1 := Scalar.cmpi .slt v1065 c0_i32_533
  let v1070 : BitVec 1 := Scalar.xori v1068 v1069
  let c0_i32_531 : BitVec 32 := 0#32
  let v1067 : BitVec 1 := Scalar.cmpi .ne v1066 c0_i32_531
  let v1071 : BitVec 1 := Scalar.andi v1070 v1067
  let v1072 : BitVec 32 := Scalar.addi v1066 v1065
  let v1073 : BitVec 32 := Scalar.select v1071 v1072 v1066
  let v1074 : Index := Scalar.indexCast v1073
  let c256_534 : Index := 256#32
  let c512_535 : Index := 512#32
  ![v1074.toNat, 256, 512]
def k0_off80 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_542 : BitVec 32 := 2#32
  let c0_i32_543 : BitVec 32 := 0#32
  let v1091 : BitVec 1 := Scalar.cmpi .eq c2_i32_542 c0_i32_543
  let c1_i32_544 : BitVec 32 := 1#32
  let v1092 : BitVec 32 := Scalar.select v1091 c1_i32_544 c2_i32_542
  let v1093 : BitVec 32 := Scalar.remsi v12 v1092
  let c0_i32_546 : BitVec 32 := 0#32
  let v1095 : BitVec 1 := Scalar.cmpi .slt v1093 c0_i32_546
  let c0_i32_547 : BitVec 32 := 0#32
  let v1096 : BitVec 1 := Scalar.cmpi .slt v1092 c0_i32_547
  let v1097 : BitVec 1 := Scalar.xori v1095 v1096
  let c0_i32_545 : BitVec 32 := 0#32
  let v1094 : BitVec 1 := Scalar.cmpi .ne v1093 c0_i32_545
  let v1098 : BitVec 1 := Scalar.andi v1097 v1094
  let v1099 : BitVec 32 := Scalar.addi v1093 v1092
  let v1100 : BitVec 32 := Scalar.select v1098 v1099 v1093
  let v1101 : Index := Scalar.indexCast v1100
  let c256_548 : Index := 256#32
  let c640_549 : Index := 640#32
  ![v1101.toNat, 256, 640]
def k0_off81 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_556 : BitVec 32 := 2#32
  let c0_i32_557 : BitVec 32 := 0#32
  let v1118 : BitVec 1 := Scalar.cmpi .eq c2_i32_556 c0_i32_557
  let c1_i32_558 : BitVec 32 := 1#32
  let v1119 : BitVec 32 := Scalar.select v1118 c1_i32_558 c2_i32_556
  let v1120 : BitVec 32 := Scalar.remsi v12 v1119
  let c0_i32_560 : BitVec 32 := 0#32
  let v1122 : BitVec 1 := Scalar.cmpi .slt v1120 c0_i32_560
  let c0_i32_561 : BitVec 32 := 0#32
  let v1123 : BitVec 1 := Scalar.cmpi .slt v1119 c0_i32_561
  let v1124 : BitVec 1 := Scalar.xori v1122 v1123
  let c0_i32_559 : BitVec 32 := 0#32
  let v1121 : BitVec 1 := Scalar.cmpi .ne v1120 c0_i32_559
  let v1125 : BitVec 1 := Scalar.andi v1124 v1121
  let v1126 : BitVec 32 := Scalar.addi v1120 v1119
  let v1127 : BitVec 32 := Scalar.select v1125 v1126 v1120
  let v1128 : Index := Scalar.indexCast v1127
  let c256_562 : Index := 256#32
  let c768_563 : Index := 768#32
  ![v1128.toNat, 256, 768]
def k0_off82 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_570 : BitVec 32 := 2#32
  let c0_i32_571 : BitVec 32 := 0#32
  let v1145 : BitVec 1 := Scalar.cmpi .eq c2_i32_570 c0_i32_571
  let c1_i32_572 : BitVec 32 := 1#32
  let v1146 : BitVec 32 := Scalar.select v1145 c1_i32_572 c2_i32_570
  let v1147 : BitVec 32 := Scalar.remsi v12 v1146
  let c0_i32_574 : BitVec 32 := 0#32
  let v1149 : BitVec 1 := Scalar.cmpi .slt v1147 c0_i32_574
  let c0_i32_575 : BitVec 32 := 0#32
  let v1150 : BitVec 1 := Scalar.cmpi .slt v1146 c0_i32_575
  let v1151 : BitVec 1 := Scalar.xori v1149 v1150
  let c0_i32_573 : BitVec 32 := 0#32
  let v1148 : BitVec 1 := Scalar.cmpi .ne v1147 c0_i32_573
  let v1152 : BitVec 1 := Scalar.andi v1151 v1148
  let v1153 : BitVec 32 := Scalar.addi v1147 v1146
  let v1154 : BitVec 32 := Scalar.select v1152 v1153 v1147
  let v1155 : Index := Scalar.indexCast v1154
  let c256_576 : Index := 256#32
  let c896_577 : Index := 896#32
  ![v1155.toNat, 256, 896]
def k0_off83 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_584 : BitVec 32 := 2#32
  let c0_i32_585 : BitVec 32 := 0#32
  let v1172 : BitVec 1 := Scalar.cmpi .eq c2_i32_584 c0_i32_585
  let c1_i32_586 : BitVec 32 := 1#32
  let v1173 : BitVec 32 := Scalar.select v1172 c1_i32_586 c2_i32_584
  let v1174 : BitVec 32 := Scalar.remsi v12 v1173
  let c0_i32_588 : BitVec 32 := 0#32
  let v1176 : BitVec 1 := Scalar.cmpi .slt v1174 c0_i32_588
  let c0_i32_589 : BitVec 32 := 0#32
  let v1177 : BitVec 1 := Scalar.cmpi .slt v1173 c0_i32_589
  let v1178 : BitVec 1 := Scalar.xori v1176 v1177
  let c0_i32_587 : BitVec 32 := 0#32
  let v1175 : BitVec 1 := Scalar.cmpi .ne v1174 c0_i32_587
  let v1179 : BitVec 1 := Scalar.andi v1178 v1175
  let v1180 : BitVec 32 := Scalar.addi v1174 v1173
  let v1181 : BitVec 32 := Scalar.select v1179 v1180 v1174
  let v1182 : Index := Scalar.indexCast v1181
  let c256_590 : Index := 256#32
  let c1024_591 : Index := 1024#32
  ![v1182.toNat, 256, 1024]
def k0_off84 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_598 : BitVec 32 := 2#32
  let c0_i32_599 : BitVec 32 := 0#32
  let v1199 : BitVec 1 := Scalar.cmpi .eq c2_i32_598 c0_i32_599
  let c1_i32_600 : BitVec 32 := 1#32
  let v1200 : BitVec 32 := Scalar.select v1199 c1_i32_600 c2_i32_598
  let v1201 : BitVec 32 := Scalar.remsi v12 v1200
  let c0_i32_602 : BitVec 32 := 0#32
  let v1203 : BitVec 1 := Scalar.cmpi .slt v1201 c0_i32_602
  let c0_i32_603 : BitVec 32 := 0#32
  let v1204 : BitVec 1 := Scalar.cmpi .slt v1200 c0_i32_603
  let v1205 : BitVec 1 := Scalar.xori v1203 v1204
  let c0_i32_601 : BitVec 32 := 0#32
  let v1202 : BitVec 1 := Scalar.cmpi .ne v1201 c0_i32_601
  let v1206 : BitVec 1 := Scalar.andi v1205 v1202
  let v1207 : BitVec 32 := Scalar.addi v1201 v1200
  let v1208 : BitVec 32 := Scalar.select v1206 v1207 v1201
  let v1209 : Index := Scalar.indexCast v1208
  let c256_604 : Index := 256#32
  let c1152_605 : Index := 1152#32
  ![v1209.toNat, 256, 1152]
def k0_off85 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_612 : BitVec 32 := 2#32
  let c0_i32_613 : BitVec 32 := 0#32
  let v1226 : BitVec 1 := Scalar.cmpi .eq c2_i32_612 c0_i32_613
  let c1_i32_614 : BitVec 32 := 1#32
  let v1227 : BitVec 32 := Scalar.select v1226 c1_i32_614 c2_i32_612
  let v1228 : BitVec 32 := Scalar.remsi v12 v1227
  let c0_i32_616 : BitVec 32 := 0#32
  let v1230 : BitVec 1 := Scalar.cmpi .slt v1228 c0_i32_616
  let c0_i32_617 : BitVec 32 := 0#32
  let v1231 : BitVec 1 := Scalar.cmpi .slt v1227 c0_i32_617
  let v1232 : BitVec 1 := Scalar.xori v1230 v1231
  let c0_i32_615 : BitVec 32 := 0#32
  let v1229 : BitVec 1 := Scalar.cmpi .ne v1228 c0_i32_615
  let v1233 : BitVec 1 := Scalar.andi v1232 v1229
  let v1234 : BitVec 32 := Scalar.addi v1228 v1227
  let v1235 : BitVec 32 := Scalar.select v1233 v1234 v1228
  let v1236 : Index := Scalar.indexCast v1235
  let c256_618 : Index := 256#32
  let c1280_619 : Index := 1280#32
  ![v1236.toNat, 256, 1280]
def k0_off86 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_626 : BitVec 32 := 2#32
  let c0_i32_627 : BitVec 32 := 0#32
  let v1253 : BitVec 1 := Scalar.cmpi .eq c2_i32_626 c0_i32_627
  let c1_i32_628 : BitVec 32 := 1#32
  let v1254 : BitVec 32 := Scalar.select v1253 c1_i32_628 c2_i32_626
  let v1255 : BitVec 32 := Scalar.remsi v12 v1254
  let c0_i32_630 : BitVec 32 := 0#32
  let v1257 : BitVec 1 := Scalar.cmpi .slt v1255 c0_i32_630
  let c0_i32_631 : BitVec 32 := 0#32
  let v1258 : BitVec 1 := Scalar.cmpi .slt v1254 c0_i32_631
  let v1259 : BitVec 1 := Scalar.xori v1257 v1258
  let c0_i32_629 : BitVec 32 := 0#32
  let v1256 : BitVec 1 := Scalar.cmpi .ne v1255 c0_i32_629
  let v1260 : BitVec 1 := Scalar.andi v1259 v1256
  let v1261 : BitVec 32 := Scalar.addi v1255 v1254
  let v1262 : BitVec 32 := Scalar.select v1260 v1261 v1255
  let v1263 : Index := Scalar.indexCast v1262
  let c256_632 : Index := 256#32
  let c1408_633 : Index := 1408#32
  ![v1263.toNat, 256, 1408]
def k0_off87 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_640 : BitVec 32 := 2#32
  let c0_i32_641 : BitVec 32 := 0#32
  let v1280 : BitVec 1 := Scalar.cmpi .eq c2_i32_640 c0_i32_641
  let c1_i32_642 : BitVec 32 := 1#32
  let v1281 : BitVec 32 := Scalar.select v1280 c1_i32_642 c2_i32_640
  let v1282 : BitVec 32 := Scalar.remsi v12 v1281
  let c0_i32_644 : BitVec 32 := 0#32
  let v1284 : BitVec 1 := Scalar.cmpi .slt v1282 c0_i32_644
  let c0_i32_645 : BitVec 32 := 0#32
  let v1285 : BitVec 1 := Scalar.cmpi .slt v1281 c0_i32_645
  let v1286 : BitVec 1 := Scalar.xori v1284 v1285
  let c0_i32_643 : BitVec 32 := 0#32
  let v1283 : BitVec 1 := Scalar.cmpi .ne v1282 c0_i32_643
  let v1287 : BitVec 1 := Scalar.andi v1286 v1283
  let v1288 : BitVec 32 := Scalar.addi v1282 v1281
  let v1289 : BitVec 32 := Scalar.select v1287 v1288 v1282
  let v1290 : Index := Scalar.indexCast v1289
  let c256_646 : Index := 256#32
  let c1536_647 : Index := 1536#32
  ![v1290.toNat, 256, 1536]
def k0_off88 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_654 : BitVec 32 := 2#32
  let c0_i32_655 : BitVec 32 := 0#32
  let v1307 : BitVec 1 := Scalar.cmpi .eq c2_i32_654 c0_i32_655
  let c1_i32_656 : BitVec 32 := 1#32
  let v1308 : BitVec 32 := Scalar.select v1307 c1_i32_656 c2_i32_654
  let v1309 : BitVec 32 := Scalar.remsi v12 v1308
  let c0_i32_658 : BitVec 32 := 0#32
  let v1311 : BitVec 1 := Scalar.cmpi .slt v1309 c0_i32_658
  let c0_i32_659 : BitVec 32 := 0#32
  let v1312 : BitVec 1 := Scalar.cmpi .slt v1308 c0_i32_659
  let v1313 : BitVec 1 := Scalar.xori v1311 v1312
  let c0_i32_657 : BitVec 32 := 0#32
  let v1310 : BitVec 1 := Scalar.cmpi .ne v1309 c0_i32_657
  let v1314 : BitVec 1 := Scalar.andi v1313 v1310
  let v1315 : BitVec 32 := Scalar.addi v1309 v1308
  let v1316 : BitVec 32 := Scalar.select v1314 v1315 v1309
  let v1317 : Index := Scalar.indexCast v1316
  let c256_660 : Index := 256#32
  let c1664_661 : Index := 1664#32
  ![v1317.toNat, 256, 1664]
def k0_off89 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_668 : BitVec 32 := 2#32
  let c0_i32_669 : BitVec 32 := 0#32
  let v1334 : BitVec 1 := Scalar.cmpi .eq c2_i32_668 c0_i32_669
  let c1_i32_670 : BitVec 32 := 1#32
  let v1335 : BitVec 32 := Scalar.select v1334 c1_i32_670 c2_i32_668
  let v1336 : BitVec 32 := Scalar.remsi v12 v1335
  let c0_i32_672 : BitVec 32 := 0#32
  let v1338 : BitVec 1 := Scalar.cmpi .slt v1336 c0_i32_672
  let c0_i32_673 : BitVec 32 := 0#32
  let v1339 : BitVec 1 := Scalar.cmpi .slt v1335 c0_i32_673
  let v1340 : BitVec 1 := Scalar.xori v1338 v1339
  let c0_i32_671 : BitVec 32 := 0#32
  let v1337 : BitVec 1 := Scalar.cmpi .ne v1336 c0_i32_671
  let v1341 : BitVec 1 := Scalar.andi v1340 v1337
  let v1342 : BitVec 32 := Scalar.addi v1336 v1335
  let v1343 : BitVec 32 := Scalar.select v1341 v1342 v1336
  let v1344 : Index := Scalar.indexCast v1343
  let c256_674 : Index := 256#32
  let c1792_675 : Index := 1792#32
  ![v1344.toNat, 256, 1792]
def k0_off90 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_682 : BitVec 32 := 2#32
  let c0_i32_683 : BitVec 32 := 0#32
  let v1361 : BitVec 1 := Scalar.cmpi .eq c2_i32_682 c0_i32_683
  let c1_i32_684 : BitVec 32 := 1#32
  let v1362 : BitVec 32 := Scalar.select v1361 c1_i32_684 c2_i32_682
  let v1363 : BitVec 32 := Scalar.remsi v12 v1362
  let c0_i32_686 : BitVec 32 := 0#32
  let v1365 : BitVec 1 := Scalar.cmpi .slt v1363 c0_i32_686
  let c0_i32_687 : BitVec 32 := 0#32
  let v1366 : BitVec 1 := Scalar.cmpi .slt v1362 c0_i32_687
  let v1367 : BitVec 1 := Scalar.xori v1365 v1366
  let c0_i32_685 : BitVec 32 := 0#32
  let v1364 : BitVec 1 := Scalar.cmpi .ne v1363 c0_i32_685
  let v1368 : BitVec 1 := Scalar.andi v1367 v1364
  let v1369 : BitVec 32 := Scalar.addi v1363 v1362
  let v1370 : BitVec 32 := Scalar.select v1368 v1369 v1363
  let v1371 : Index := Scalar.indexCast v1370
  let c256_688 : Index := 256#32
  let c1920_689 : Index := 1920#32
  ![v1371.toNat, 256, 1920]
def k0_off91 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_696 : BitVec 32 := 2#32
  let c0_i32_697 : BitVec 32 := 0#32
  let v1388 : BitVec 1 := Scalar.cmpi .eq c2_i32_696 c0_i32_697
  let c1_i32_698 : BitVec 32 := 1#32
  let v1389 : BitVec 32 := Scalar.select v1388 c1_i32_698 c2_i32_696
  let v1390 : BitVec 32 := Scalar.remsi v12 v1389
  let c0_i32_700 : BitVec 32 := 0#32
  let v1392 : BitVec 1 := Scalar.cmpi .slt v1390 c0_i32_700
  let c0_i32_701 : BitVec 32 := 0#32
  let v1393 : BitVec 1 := Scalar.cmpi .slt v1389 c0_i32_701
  let v1394 : BitVec 1 := Scalar.xori v1392 v1393
  let c0_i32_699 : BitVec 32 := 0#32
  let v1391 : BitVec 1 := Scalar.cmpi .ne v1390 c0_i32_699
  let v1395 : BitVec 1 := Scalar.andi v1394 v1391
  let v1396 : BitVec 32 := Scalar.addi v1390 v1389
  let v1397 : BitVec 32 := Scalar.select v1395 v1396 v1390
  let v1398 : Index := Scalar.indexCast v1397
  let c256_702 : Index := 256#32
  let c2048_703 : Index := 2048#32
  ![v1398.toNat, 256, 2048]
def k0_off92 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_709 : BitVec 32 := 2#32
  let c0_i32_710 : BitVec 32 := 0#32
  let v1415 : BitVec 1 := Scalar.cmpi .eq c2_i32_709 c0_i32_710
  let c1_i32_711 : BitVec 32 := 1#32
  let v1416 : BitVec 32 := Scalar.select v1415 c1_i32_711 c2_i32_709
  let v1417 : BitVec 32 := Scalar.remsi v12 v1416
  let c0_i32_713 : BitVec 32 := 0#32
  let v1419 : BitVec 1 := Scalar.cmpi .slt v1417 c0_i32_713
  let c0_i32_714 : BitVec 32 := 0#32
  let v1420 : BitVec 1 := Scalar.cmpi .slt v1416 c0_i32_714
  let v1421 : BitVec 1 := Scalar.xori v1419 v1420
  let c0_i32_712 : BitVec 32 := 0#32
  let v1418 : BitVec 1 := Scalar.cmpi .ne v1417 c0_i32_712
  let v1422 : BitVec 1 := Scalar.andi v1421 v1418
  let v1423 : BitVec 32 := Scalar.addi v1417 v1416
  let v1424 : BitVec 32 := Scalar.select v1422 v1423 v1417
  let v1425 : Index := Scalar.indexCast v1424
  let c384_715 : Index := 384#32
  let c0_716 : Index := 0#32
  ![v1425.toNat, 384, 0]
def k0_off93 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_722 : BitVec 32 := 2#32
  let c0_i32_723 : BitVec 32 := 0#32
  let v1442 : BitVec 1 := Scalar.cmpi .eq c2_i32_722 c0_i32_723
  let c1_i32_724 : BitVec 32 := 1#32
  let v1443 : BitVec 32 := Scalar.select v1442 c1_i32_724 c2_i32_722
  let v1444 : BitVec 32 := Scalar.remsi v12 v1443
  let c0_i32_726 : BitVec 32 := 0#32
  let v1446 : BitVec 1 := Scalar.cmpi .slt v1444 c0_i32_726
  let c0_i32_727 : BitVec 32 := 0#32
  let v1447 : BitVec 1 := Scalar.cmpi .slt v1443 c0_i32_727
  let v1448 : BitVec 1 := Scalar.xori v1446 v1447
  let c0_i32_725 : BitVec 32 := 0#32
  let v1445 : BitVec 1 := Scalar.cmpi .ne v1444 c0_i32_725
  let v1449 : BitVec 1 := Scalar.andi v1448 v1445
  let v1450 : BitVec 32 := Scalar.addi v1444 v1443
  let v1451 : BitVec 32 := Scalar.select v1449 v1450 v1444
  let v1452 : Index := Scalar.indexCast v1451
  let c384_728 : Index := 384#32
  let c128_729 : Index := 128#32
  ![v1452.toNat, 384, 128]
def k0_off94 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_736 : BitVec 32 := 2#32
  let c0_i32_737 : BitVec 32 := 0#32
  let v1469 : BitVec 1 := Scalar.cmpi .eq c2_i32_736 c0_i32_737
  let c1_i32_738 : BitVec 32 := 1#32
  let v1470 : BitVec 32 := Scalar.select v1469 c1_i32_738 c2_i32_736
  let v1471 : BitVec 32 := Scalar.remsi v12 v1470
  let c0_i32_740 : BitVec 32 := 0#32
  let v1473 : BitVec 1 := Scalar.cmpi .slt v1471 c0_i32_740
  let c0_i32_741 : BitVec 32 := 0#32
  let v1474 : BitVec 1 := Scalar.cmpi .slt v1470 c0_i32_741
  let v1475 : BitVec 1 := Scalar.xori v1473 v1474
  let c0_i32_739 : BitVec 32 := 0#32
  let v1472 : BitVec 1 := Scalar.cmpi .ne v1471 c0_i32_739
  let v1476 : BitVec 1 := Scalar.andi v1475 v1472
  let v1477 : BitVec 32 := Scalar.addi v1471 v1470
  let v1478 : BitVec 32 := Scalar.select v1476 v1477 v1471
  let v1479 : Index := Scalar.indexCast v1478
  let c384_742 : Index := 384#32
  let c256_743 : Index := 256#32
  ![v1479.toNat, 384, 256]
def k0_off95 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_750 : BitVec 32 := 2#32
  let c0_i32_751 : BitVec 32 := 0#32
  let v1496 : BitVec 1 := Scalar.cmpi .eq c2_i32_750 c0_i32_751
  let c1_i32_752 : BitVec 32 := 1#32
  let v1497 : BitVec 32 := Scalar.select v1496 c1_i32_752 c2_i32_750
  let v1498 : BitVec 32 := Scalar.remsi v12 v1497
  let c0_i32_754 : BitVec 32 := 0#32
  let v1500 : BitVec 1 := Scalar.cmpi .slt v1498 c0_i32_754
  let c0_i32_755 : BitVec 32 := 0#32
  let v1501 : BitVec 1 := Scalar.cmpi .slt v1497 c0_i32_755
  let v1502 : BitVec 1 := Scalar.xori v1500 v1501
  let c0_i32_753 : BitVec 32 := 0#32
  let v1499 : BitVec 1 := Scalar.cmpi .ne v1498 c0_i32_753
  let v1503 : BitVec 1 := Scalar.andi v1502 v1499
  let v1504 : BitVec 32 := Scalar.addi v1498 v1497
  let v1505 : BitVec 32 := Scalar.select v1503 v1504 v1498
  let v1506 : Index := Scalar.indexCast v1505
  let c384_756 : Index := 384#32
  let c384_757 : Index := 384#32
  ![v1506.toNat, 384, 384]
def k0_off96 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_764 : BitVec 32 := 2#32
  let c0_i32_765 : BitVec 32 := 0#32
  let v1523 : BitVec 1 := Scalar.cmpi .eq c2_i32_764 c0_i32_765
  let c1_i32_766 : BitVec 32 := 1#32
  let v1524 : BitVec 32 := Scalar.select v1523 c1_i32_766 c2_i32_764
  let v1525 : BitVec 32 := Scalar.remsi v12 v1524
  let c0_i32_768 : BitVec 32 := 0#32
  let v1527 : BitVec 1 := Scalar.cmpi .slt v1525 c0_i32_768
  let c0_i32_769 : BitVec 32 := 0#32
  let v1528 : BitVec 1 := Scalar.cmpi .slt v1524 c0_i32_769
  let v1529 : BitVec 1 := Scalar.xori v1527 v1528
  let c0_i32_767 : BitVec 32 := 0#32
  let v1526 : BitVec 1 := Scalar.cmpi .ne v1525 c0_i32_767
  let v1530 : BitVec 1 := Scalar.andi v1529 v1526
  let v1531 : BitVec 32 := Scalar.addi v1525 v1524
  let v1532 : BitVec 32 := Scalar.select v1530 v1531 v1525
  let v1533 : Index := Scalar.indexCast v1532
  let c384_770 : Index := 384#32
  let c512_771 : Index := 512#32
  ![v1533.toNat, 384, 512]
def k0_off97 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_778 : BitVec 32 := 2#32
  let c0_i32_779 : BitVec 32 := 0#32
  let v1550 : BitVec 1 := Scalar.cmpi .eq c2_i32_778 c0_i32_779
  let c1_i32_780 : BitVec 32 := 1#32
  let v1551 : BitVec 32 := Scalar.select v1550 c1_i32_780 c2_i32_778
  let v1552 : BitVec 32 := Scalar.remsi v12 v1551
  let c0_i32_782 : BitVec 32 := 0#32
  let v1554 : BitVec 1 := Scalar.cmpi .slt v1552 c0_i32_782
  let c0_i32_783 : BitVec 32 := 0#32
  let v1555 : BitVec 1 := Scalar.cmpi .slt v1551 c0_i32_783
  let v1556 : BitVec 1 := Scalar.xori v1554 v1555
  let c0_i32_781 : BitVec 32 := 0#32
  let v1553 : BitVec 1 := Scalar.cmpi .ne v1552 c0_i32_781
  let v1557 : BitVec 1 := Scalar.andi v1556 v1553
  let v1558 : BitVec 32 := Scalar.addi v1552 v1551
  let v1559 : BitVec 32 := Scalar.select v1557 v1558 v1552
  let v1560 : Index := Scalar.indexCast v1559
  let c384_784 : Index := 384#32
  let c640_785 : Index := 640#32
  ![v1560.toNat, 384, 640]
def k0_off98 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_792 : BitVec 32 := 2#32
  let c0_i32_793 : BitVec 32 := 0#32
  let v1577 : BitVec 1 := Scalar.cmpi .eq c2_i32_792 c0_i32_793
  let c1_i32_794 : BitVec 32 := 1#32
  let v1578 : BitVec 32 := Scalar.select v1577 c1_i32_794 c2_i32_792
  let v1579 : BitVec 32 := Scalar.remsi v12 v1578
  let c0_i32_796 : BitVec 32 := 0#32
  let v1581 : BitVec 1 := Scalar.cmpi .slt v1579 c0_i32_796
  let c0_i32_797 : BitVec 32 := 0#32
  let v1582 : BitVec 1 := Scalar.cmpi .slt v1578 c0_i32_797
  let v1583 : BitVec 1 := Scalar.xori v1581 v1582
  let c0_i32_795 : BitVec 32 := 0#32
  let v1580 : BitVec 1 := Scalar.cmpi .ne v1579 c0_i32_795
  let v1584 : BitVec 1 := Scalar.andi v1583 v1580
  let v1585 : BitVec 32 := Scalar.addi v1579 v1578
  let v1586 : BitVec 32 := Scalar.select v1584 v1585 v1579
  let v1587 : Index := Scalar.indexCast v1586
  let c384_798 : Index := 384#32
  let c768_799 : Index := 768#32
  ![v1587.toNat, 384, 768]
def k0_off99 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_806 : BitVec 32 := 2#32
  let c0_i32_807 : BitVec 32 := 0#32
  let v1604 : BitVec 1 := Scalar.cmpi .eq c2_i32_806 c0_i32_807
  let c1_i32_808 : BitVec 32 := 1#32
  let v1605 : BitVec 32 := Scalar.select v1604 c1_i32_808 c2_i32_806
  let v1606 : BitVec 32 := Scalar.remsi v12 v1605
  let c0_i32_810 : BitVec 32 := 0#32
  let v1608 : BitVec 1 := Scalar.cmpi .slt v1606 c0_i32_810
  let c0_i32_811 : BitVec 32 := 0#32
  let v1609 : BitVec 1 := Scalar.cmpi .slt v1605 c0_i32_811
  let v1610 : BitVec 1 := Scalar.xori v1608 v1609
  let c0_i32_809 : BitVec 32 := 0#32
  let v1607 : BitVec 1 := Scalar.cmpi .ne v1606 c0_i32_809
  let v1611 : BitVec 1 := Scalar.andi v1610 v1607
  let v1612 : BitVec 32 := Scalar.addi v1606 v1605
  let v1613 : BitVec 32 := Scalar.select v1611 v1612 v1606
  let v1614 : Index := Scalar.indexCast v1613
  let c384_812 : Index := 384#32
  let c896_813 : Index := 896#32
  ![v1614.toNat, 384, 896]
def k0_off100 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_820 : BitVec 32 := 2#32
  let c0_i32_821 : BitVec 32 := 0#32
  let v1631 : BitVec 1 := Scalar.cmpi .eq c2_i32_820 c0_i32_821
  let c1_i32_822 : BitVec 32 := 1#32
  let v1632 : BitVec 32 := Scalar.select v1631 c1_i32_822 c2_i32_820
  let v1633 : BitVec 32 := Scalar.remsi v12 v1632
  let c0_i32_824 : BitVec 32 := 0#32
  let v1635 : BitVec 1 := Scalar.cmpi .slt v1633 c0_i32_824
  let c0_i32_825 : BitVec 32 := 0#32
  let v1636 : BitVec 1 := Scalar.cmpi .slt v1632 c0_i32_825
  let v1637 : BitVec 1 := Scalar.xori v1635 v1636
  let c0_i32_823 : BitVec 32 := 0#32
  let v1634 : BitVec 1 := Scalar.cmpi .ne v1633 c0_i32_823
  let v1638 : BitVec 1 := Scalar.andi v1637 v1634
  let v1639 : BitVec 32 := Scalar.addi v1633 v1632
  let v1640 : BitVec 32 := Scalar.select v1638 v1639 v1633
  let v1641 : Index := Scalar.indexCast v1640
  let c384_826 : Index := 384#32
  let c1024_827 : Index := 1024#32
  ![v1641.toNat, 384, 1024]
def k0_off101 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_834 : BitVec 32 := 2#32
  let c0_i32_835 : BitVec 32 := 0#32
  let v1658 : BitVec 1 := Scalar.cmpi .eq c2_i32_834 c0_i32_835
  let c1_i32_836 : BitVec 32 := 1#32
  let v1659 : BitVec 32 := Scalar.select v1658 c1_i32_836 c2_i32_834
  let v1660 : BitVec 32 := Scalar.remsi v12 v1659
  let c0_i32_838 : BitVec 32 := 0#32
  let v1662 : BitVec 1 := Scalar.cmpi .slt v1660 c0_i32_838
  let c0_i32_839 : BitVec 32 := 0#32
  let v1663 : BitVec 1 := Scalar.cmpi .slt v1659 c0_i32_839
  let v1664 : BitVec 1 := Scalar.xori v1662 v1663
  let c0_i32_837 : BitVec 32 := 0#32
  let v1661 : BitVec 1 := Scalar.cmpi .ne v1660 c0_i32_837
  let v1665 : BitVec 1 := Scalar.andi v1664 v1661
  let v1666 : BitVec 32 := Scalar.addi v1660 v1659
  let v1667 : BitVec 32 := Scalar.select v1665 v1666 v1660
  let v1668 : Index := Scalar.indexCast v1667
  let c384_840 : Index := 384#32
  let c1152_841 : Index := 1152#32
  ![v1668.toNat, 384, 1152]
def k0_off102 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_848 : BitVec 32 := 2#32
  let c0_i32_849 : BitVec 32 := 0#32
  let v1685 : BitVec 1 := Scalar.cmpi .eq c2_i32_848 c0_i32_849
  let c1_i32_850 : BitVec 32 := 1#32
  let v1686 : BitVec 32 := Scalar.select v1685 c1_i32_850 c2_i32_848
  let v1687 : BitVec 32 := Scalar.remsi v12 v1686
  let c0_i32_852 : BitVec 32 := 0#32
  let v1689 : BitVec 1 := Scalar.cmpi .slt v1687 c0_i32_852
  let c0_i32_853 : BitVec 32 := 0#32
  let v1690 : BitVec 1 := Scalar.cmpi .slt v1686 c0_i32_853
  let v1691 : BitVec 1 := Scalar.xori v1689 v1690
  let c0_i32_851 : BitVec 32 := 0#32
  let v1688 : BitVec 1 := Scalar.cmpi .ne v1687 c0_i32_851
  let v1692 : BitVec 1 := Scalar.andi v1691 v1688
  let v1693 : BitVec 32 := Scalar.addi v1687 v1686
  let v1694 : BitVec 32 := Scalar.select v1692 v1693 v1687
  let v1695 : Index := Scalar.indexCast v1694
  let c384_854 : Index := 384#32
  let c1280_855 : Index := 1280#32
  ![v1695.toNat, 384, 1280]
def k0_off103 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_862 : BitVec 32 := 2#32
  let c0_i32_863 : BitVec 32 := 0#32
  let v1712 : BitVec 1 := Scalar.cmpi .eq c2_i32_862 c0_i32_863
  let c1_i32_864 : BitVec 32 := 1#32
  let v1713 : BitVec 32 := Scalar.select v1712 c1_i32_864 c2_i32_862
  let v1714 : BitVec 32 := Scalar.remsi v12 v1713
  let c0_i32_866 : BitVec 32 := 0#32
  let v1716 : BitVec 1 := Scalar.cmpi .slt v1714 c0_i32_866
  let c0_i32_867 : BitVec 32 := 0#32
  let v1717 : BitVec 1 := Scalar.cmpi .slt v1713 c0_i32_867
  let v1718 : BitVec 1 := Scalar.xori v1716 v1717
  let c0_i32_865 : BitVec 32 := 0#32
  let v1715 : BitVec 1 := Scalar.cmpi .ne v1714 c0_i32_865
  let v1719 : BitVec 1 := Scalar.andi v1718 v1715
  let v1720 : BitVec 32 := Scalar.addi v1714 v1713
  let v1721 : BitVec 32 := Scalar.select v1719 v1720 v1714
  let v1722 : Index := Scalar.indexCast v1721
  let c384_868 : Index := 384#32
  let c1408_869 : Index := 1408#32
  ![v1722.toNat, 384, 1408]
def k0_off104 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_876 : BitVec 32 := 2#32
  let c0_i32_877 : BitVec 32 := 0#32
  let v1739 : BitVec 1 := Scalar.cmpi .eq c2_i32_876 c0_i32_877
  let c1_i32_878 : BitVec 32 := 1#32
  let v1740 : BitVec 32 := Scalar.select v1739 c1_i32_878 c2_i32_876
  let v1741 : BitVec 32 := Scalar.remsi v12 v1740
  let c0_i32_880 : BitVec 32 := 0#32
  let v1743 : BitVec 1 := Scalar.cmpi .slt v1741 c0_i32_880
  let c0_i32_881 : BitVec 32 := 0#32
  let v1744 : BitVec 1 := Scalar.cmpi .slt v1740 c0_i32_881
  let v1745 : BitVec 1 := Scalar.xori v1743 v1744
  let c0_i32_879 : BitVec 32 := 0#32
  let v1742 : BitVec 1 := Scalar.cmpi .ne v1741 c0_i32_879
  let v1746 : BitVec 1 := Scalar.andi v1745 v1742
  let v1747 : BitVec 32 := Scalar.addi v1741 v1740
  let v1748 : BitVec 32 := Scalar.select v1746 v1747 v1741
  let v1749 : Index := Scalar.indexCast v1748
  let c384_882 : Index := 384#32
  let c1536_883 : Index := 1536#32
  ![v1749.toNat, 384, 1536]
def k0_off105 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_890 : BitVec 32 := 2#32
  let c0_i32_891 : BitVec 32 := 0#32
  let v1766 : BitVec 1 := Scalar.cmpi .eq c2_i32_890 c0_i32_891
  let c1_i32_892 : BitVec 32 := 1#32
  let v1767 : BitVec 32 := Scalar.select v1766 c1_i32_892 c2_i32_890
  let v1768 : BitVec 32 := Scalar.remsi v12 v1767
  let c0_i32_894 : BitVec 32 := 0#32
  let v1770 : BitVec 1 := Scalar.cmpi .slt v1768 c0_i32_894
  let c0_i32_895 : BitVec 32 := 0#32
  let v1771 : BitVec 1 := Scalar.cmpi .slt v1767 c0_i32_895
  let v1772 : BitVec 1 := Scalar.xori v1770 v1771
  let c0_i32_893 : BitVec 32 := 0#32
  let v1769 : BitVec 1 := Scalar.cmpi .ne v1768 c0_i32_893
  let v1773 : BitVec 1 := Scalar.andi v1772 v1769
  let v1774 : BitVec 32 := Scalar.addi v1768 v1767
  let v1775 : BitVec 32 := Scalar.select v1773 v1774 v1768
  let v1776 : Index := Scalar.indexCast v1775
  let c384_896 : Index := 384#32
  let c1664_897 : Index := 1664#32
  ![v1776.toNat, 384, 1664]
def k0_off106 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_904 : BitVec 32 := 2#32
  let c0_i32_905 : BitVec 32 := 0#32
  let v1793 : BitVec 1 := Scalar.cmpi .eq c2_i32_904 c0_i32_905
  let c1_i32_906 : BitVec 32 := 1#32
  let v1794 : BitVec 32 := Scalar.select v1793 c1_i32_906 c2_i32_904
  let v1795 : BitVec 32 := Scalar.remsi v12 v1794
  let c0_i32_908 : BitVec 32 := 0#32
  let v1797 : BitVec 1 := Scalar.cmpi .slt v1795 c0_i32_908
  let c0_i32_909 : BitVec 32 := 0#32
  let v1798 : BitVec 1 := Scalar.cmpi .slt v1794 c0_i32_909
  let v1799 : BitVec 1 := Scalar.xori v1797 v1798
  let c0_i32_907 : BitVec 32 := 0#32
  let v1796 : BitVec 1 := Scalar.cmpi .ne v1795 c0_i32_907
  let v1800 : BitVec 1 := Scalar.andi v1799 v1796
  let v1801 : BitVec 32 := Scalar.addi v1795 v1794
  let v1802 : BitVec 32 := Scalar.select v1800 v1801 v1795
  let v1803 : Index := Scalar.indexCast v1802
  let c384_910 : Index := 384#32
  let c1792_911 : Index := 1792#32
  ![v1803.toNat, 384, 1792]
def k0_off107 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_918 : BitVec 32 := 2#32
  let c0_i32_919 : BitVec 32 := 0#32
  let v1820 : BitVec 1 := Scalar.cmpi .eq c2_i32_918 c0_i32_919
  let c1_i32_920 : BitVec 32 := 1#32
  let v1821 : BitVec 32 := Scalar.select v1820 c1_i32_920 c2_i32_918
  let v1822 : BitVec 32 := Scalar.remsi v12 v1821
  let c0_i32_922 : BitVec 32 := 0#32
  let v1824 : BitVec 1 := Scalar.cmpi .slt v1822 c0_i32_922
  let c0_i32_923 : BitVec 32 := 0#32
  let v1825 : BitVec 1 := Scalar.cmpi .slt v1821 c0_i32_923
  let v1826 : BitVec 1 := Scalar.xori v1824 v1825
  let c0_i32_921 : BitVec 32 := 0#32
  let v1823 : BitVec 1 := Scalar.cmpi .ne v1822 c0_i32_921
  let v1827 : BitVec 1 := Scalar.andi v1826 v1823
  let v1828 : BitVec 32 := Scalar.addi v1822 v1821
  let v1829 : BitVec 32 := Scalar.select v1827 v1828 v1822
  let v1830 : Index := Scalar.indexCast v1829
  let c384_924 : Index := 384#32
  let c1920_925 : Index := 1920#32
  ![v1830.toNat, 384, 1920]
def k0_off108 (k0_t1 : Fin k0_t1_loop.trips) : Fin 3 → Nat :=
  let c0_i32_17 : BitVec 32 := 0#32
  let c0_i32_12 : BitVec 32 := 0#32
  let c1_i32_14 : BitVec 32 := 1#32
  let arg11 : BitVec 32 := Scf.iv c0_i32_12 c1_i32_14 k0_t1
  let c1_i32_16 : BitVec 32 := 1#32
  let v11 : BitVec 32 := Scalar.muli arg11 c1_i32_16
  let v12 : BitVec 32 := Scalar.addi c0_i32_17 v11
  let c2_i32_932 : BitVec 32 := 2#32
  let c0_i32_933 : BitVec 32 := 0#32
  let v1847 : BitVec 1 := Scalar.cmpi .eq c2_i32_932 c0_i32_933
  let c1_i32_934 : BitVec 32 := 1#32
  let v1848 : BitVec 32 := Scalar.select v1847 c1_i32_934 c2_i32_932
  let v1849 : BitVec 32 := Scalar.remsi v12 v1848
  let c0_i32_936 : BitVec 32 := 0#32
  let v1851 : BitVec 1 := Scalar.cmpi .slt v1849 c0_i32_936
  let c0_i32_937 : BitVec 32 := 0#32
  let v1852 : BitVec 1 := Scalar.cmpi .slt v1848 c0_i32_937
  let v1853 : BitVec 1 := Scalar.xori v1851 v1852
  let c0_i32_935 : BitVec 32 := 0#32
  let v1850 : BitVec 1 := Scalar.cmpi .ne v1849 c0_i32_935
  let v1854 : BitVec 1 := Scalar.andi v1853 v1850
  let v1855 : BitVec 32 := Scalar.addi v1849 v1848
  let v1856 : BitVec 32 := Scalar.select v1854 v1855 v1849
  let v1857 : Index := Scalar.indexCast v1856
  let c384_938 : Index := 384#32
  let c2048_939 : Index := 2048#32
  ![v1857.toNat, 384, 2048]
@[reducible] def k0_t2_loop : Scf.Loop 32 :=
  let c0_i32_1 : BitVec 32 := 0#32
  let c17_i32 : BitVec 32 := 17#32
  let v3 : BitVec 32 := Scalar.addi c0_i32_1 c17_i32
  let c1_i32 : BitVec 32 := 1#32
  ⟨c0_i32_1, v3, c1_i32⟩
def k0_off109 (k0_t2 : Fin k0_t2_loop.trips) : Fin 3 → Nat :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let v10 : Index := Scalar.indexCast v6
  let c0 : Index := 0#32
  let c0_8 : Index := 0#32
  ![v10.toNat, 0, 0]
def k0_mult1 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32 : BitVec 32 := 128#32
  let v19 : BitVec 32 := Scalar.muli v6 c128_i32
  v19
def k0_off110 (k0_t2 : Fin k0_t2_loop.trips) : Fin 3 → Nat :=
  let c0_10 : Index := 0#32
  let c0_11 : Index := 0#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32 : BitVec 32 := 128#32
  let v19 : BitVec 32 := Scalar.muli v6 c128_i32
  let v20 : BitVec 32 := v19
  let v21 : Index := Scalar.indexCast v20
  ![0, 0, v21.toNat]
def k0_mult2 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_12 : BitVec 32 := 128#32
  let v28 : BitVec 32 := Scalar.muli v6 c128_i32_12
  v28
def k0_off111 (k0_t2 : Fin k0_t2_loop.trips) : Fin 2 → Nat :=
  let c0_13 : Index := 0#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_12 : BitVec 32 := 128#32
  let v28 : BitVec 32 := Scalar.muli v6 c128_i32_12
  let v29 : BitVec 32 := v28
  let v30 : Index := Scalar.indexCast v29
  ![0, v30.toNat]
def k0_off112 (k0_t2 : Fin k0_t2_loop.trips) : Fin 3 → Nat :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let v37 : Index := Scalar.indexCast v6
  let c1 : Index := 1#32
  let c0_14 : Index := 0#32
  ![v37.toNat, 1, 0]
def k0_mult3 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_17 : BitVec 32 := 128#32
  let v46 : BitVec 32 := Scalar.muli v6 c128_i32_17
  v46
def k0_off113 (k0_t2 : Fin k0_t2_loop.trips) : Fin 3 → Nat :=
  let c1_18 : Index := 1#32
  let c0_19 : Index := 0#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_17 : BitVec 32 := 128#32
  let v46 : BitVec 32 := Scalar.muli v6 c128_i32_17
  let v47 : BitVec 32 := v46
  let v48 : Index := Scalar.indexCast v47
  ![1, 0, v48.toNat]
def k0_mult4 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_20 : BitVec 32 := 128#32
  let v55 : BitVec 32 := Scalar.muli v6 c128_i32_20
  v55
def k0_off114 (k0_t2 : Fin k0_t2_loop.trips) : Fin 2 → Nat :=
  let c128 : Index := 128#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_20 : BitVec 32 := 128#32
  let v55 : BitVec 32 := Scalar.muli v6 c128_i32_20
  let v56 : BitVec 32 := v55
  let v57 : Index := Scalar.indexCast v56
  ![128, v57.toNat]
def k0_off115 (k0_t2 : Fin k0_t2_loop.trips) : Fin 3 → Nat :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let v64 : Index := Scalar.indexCast v6
  let c2 : Index := 2#32
  let c0_21 : Index := 0#32
  ![v64.toNat, 2, 0]
def k0_mult5 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_24 : BitVec 32 := 128#32
  let v73 : BitVec 32 := Scalar.muli v6 c128_i32_24
  v73
def k0_off116 (k0_t2 : Fin k0_t2_loop.trips) : Fin 3 → Nat :=
  let c2_25 : Index := 2#32
  let c0_26 : Index := 0#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_24 : BitVec 32 := 128#32
  let v73 : BitVec 32 := Scalar.muli v6 c128_i32_24
  let v74 : BitVec 32 := v73
  let v75 : Index := Scalar.indexCast v74
  ![2, 0, v75.toNat]
def k0_mult6 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_27 : BitVec 32 := 128#32
  let v82 : BitVec 32 := Scalar.muli v6 c128_i32_27
  v82
def k0_off117 (k0_t2 : Fin k0_t2_loop.trips) : Fin 2 → Nat :=
  let c256 : Index := 256#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_27 : BitVec 32 := 128#32
  let v82 : BitVec 32 := Scalar.muli v6 c128_i32_27
  let v83 : BitVec 32 := v82
  let v84 : Index := Scalar.indexCast v83
  ![256, v84.toNat]
def k0_off118 (k0_t2 : Fin k0_t2_loop.trips) : Fin 3 → Nat :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let v91 : Index := Scalar.indexCast v6
  let c3 : Index := 3#32
  let c0_28 : Index := 0#32
  ![v91.toNat, 3, 0]
def k0_mult7 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_31 : BitVec 32 := 128#32
  let v100 : BitVec 32 := Scalar.muli v6 c128_i32_31
  v100
def k0_off119 (k0_t2 : Fin k0_t2_loop.trips) : Fin 3 → Nat :=
  let c3_32 : Index := 3#32
  let c0_33 : Index := 0#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_31 : BitVec 32 := 128#32
  let v100 : BitVec 32 := Scalar.muli v6 c128_i32_31
  let v101 : BitVec 32 := v100
  let v102 : Index := Scalar.indexCast v101
  ![3, 0, v102.toNat]
def k0_mult8 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_34 : BitVec 32 := 128#32
  let v109 : BitVec 32 := Scalar.muli v6 c128_i32_34
  v109
def k0_off120 (k0_t2 : Fin k0_t2_loop.trips) : Fin 2 → Nat :=
  let c384 : Index := 384#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_34 : BitVec 32 := 128#32
  let v109 : BitVec 32 := Scalar.muli v6 c128_i32_34
  let v110 : BitVec 32 := v109
  let v111 : Index := Scalar.indexCast v110
  ![384, v111.toNat]
def k0_off121 (k0_t2 : Fin k0_t2_loop.trips) : Fin 3 → Nat :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let v118 : Index := Scalar.indexCast v6
  let c4 : Index := 4#32
  let c0_35 : Index := 0#32
  ![v118.toNat, 4, 0]
def k0_mult9 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_38 : BitVec 32 := 128#32
  let v127 : BitVec 32 := Scalar.muli v6 c128_i32_38
  v127
def k0_off122 (k0_t2 : Fin k0_t2_loop.trips) : Fin 3 → Nat :=
  let c4_39 : Index := 4#32
  let c0_40 : Index := 0#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_38 : BitVec 32 := 128#32
  let v127 : BitVec 32 := Scalar.muli v6 c128_i32_38
  let v128 : BitVec 32 := v127
  let v129 : Index := Scalar.indexCast v128
  ![4, 0, v129.toNat]
def k0_mult10 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_41 : BitVec 32 := 128#32
  let v136 : BitVec 32 := Scalar.muli v6 c128_i32_41
  v136
def k0_off123 (k0_t2 : Fin k0_t2_loop.trips) : Fin 2 → Nat :=
  let c512 : Index := 512#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_41 : BitVec 32 := 128#32
  let v136 : BitVec 32 := Scalar.muli v6 c128_i32_41
  let v137 : BitVec 32 := v136
  let v138 : Index := Scalar.indexCast v137
  ![512, v138.toNat]
def k0_off124 (k0_t2 : Fin k0_t2_loop.trips) : Fin 3 → Nat :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let v145 : Index := Scalar.indexCast v6
  let c5 : Index := 5#32
  let c0_42 : Index := 0#32
  ![v145.toNat, 5, 0]
def k0_mult11 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_45 : BitVec 32 := 128#32
  let v154 : BitVec 32 := Scalar.muli v6 c128_i32_45
  v154
def k0_off125 (k0_t2 : Fin k0_t2_loop.trips) : Fin 3 → Nat :=
  let c5_46 : Index := 5#32
  let c0_47 : Index := 0#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_45 : BitVec 32 := 128#32
  let v154 : BitVec 32 := Scalar.muli v6 c128_i32_45
  let v155 : BitVec 32 := v154
  let v156 : Index := Scalar.indexCast v155
  ![5, 0, v156.toNat]
def k0_mult12 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_48 : BitVec 32 := 128#32
  let v163 : BitVec 32 := Scalar.muli v6 c128_i32_48
  v163
def k0_off126 (k0_t2 : Fin k0_t2_loop.trips) : Fin 2 → Nat :=
  let c640 : Index := 640#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_48 : BitVec 32 := 128#32
  let v163 : BitVec 32 := Scalar.muli v6 c128_i32_48
  let v164 : BitVec 32 := v163
  let v165 : Index := Scalar.indexCast v164
  ![640, v165.toNat]
def k0_off127 (k0_t2 : Fin k0_t2_loop.trips) : Fin 3 → Nat :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let v172 : Index := Scalar.indexCast v6
  let c6 : Index := 6#32
  let c0_49 : Index := 0#32
  ![v172.toNat, 6, 0]
def k0_mult13 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_52 : BitVec 32 := 128#32
  let v181 : BitVec 32 := Scalar.muli v6 c128_i32_52
  v181
def k0_off128 (k0_t2 : Fin k0_t2_loop.trips) : Fin 3 → Nat :=
  let c6_53 : Index := 6#32
  let c0_54 : Index := 0#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_52 : BitVec 32 := 128#32
  let v181 : BitVec 32 := Scalar.muli v6 c128_i32_52
  let v182 : BitVec 32 := v181
  let v183 : Index := Scalar.indexCast v182
  ![6, 0, v183.toNat]
def k0_mult14 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_55 : BitVec 32 := 128#32
  let v190 : BitVec 32 := Scalar.muli v6 c128_i32_55
  v190
def k0_off129 (k0_t2 : Fin k0_t2_loop.trips) : Fin 2 → Nat :=
  let c768 : Index := 768#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_55 : BitVec 32 := 128#32
  let v190 : BitVec 32 := Scalar.muli v6 c128_i32_55
  let v191 : BitVec 32 := v190
  let v192 : Index := Scalar.indexCast v191
  ![768, v192.toNat]
def k0_off130 (k0_t2 : Fin k0_t2_loop.trips) : Fin 3 → Nat :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let v199 : Index := Scalar.indexCast v6
  let c7 : Index := 7#32
  let c0_56 : Index := 0#32
  ![v199.toNat, 7, 0]
def k0_mult15 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_59 : BitVec 32 := 128#32
  let v208 : BitVec 32 := Scalar.muli v6 c128_i32_59
  v208
def k0_off131 (k0_t2 : Fin k0_t2_loop.trips) : Fin 3 → Nat :=
  let c7_60 : Index := 7#32
  let c0_61 : Index := 0#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_59 : BitVec 32 := 128#32
  let v208 : BitVec 32 := Scalar.muli v6 c128_i32_59
  let v209 : BitVec 32 := v208
  let v210 : Index := Scalar.indexCast v209
  ![7, 0, v210.toNat]
def k0_mult16 (k0_t2 : Fin k0_t2_loop.trips) : BitVec 32 :=
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_62 : BitVec 32 := 128#32
  let v217 : BitVec 32 := Scalar.muli v6 c128_i32_62
  v217
def k0_off132 (k0_t2 : Fin k0_t2_loop.trips) : Fin 2 → Nat :=
  let c896 : Index := 896#32
  let c0_i32_7 : BitVec 32 := 0#32
  let c0_i32_1 : BitVec 32 := 0#32
  let c1_i32 : BitVec 32 := 1#32
  let arg11 : BitVec 32 := Scf.iv c0_i32_1 c1_i32 k0_t2
  let c1_i32_6 : BitVec 32 := 1#32
  let v5 : BitVec 32 := Scalar.muli arg11 c1_i32_6
  let v6 : BitVec 32 := Scalar.addi c0_i32_7 v5
  let c128_i32_62 : BitVec 32 := 128#32
  let v217 : BitVec 32 := Scalar.muli v6 c128_i32_62
  let v218 : BitVec 32 := v217
  let v219 : Index := Scalar.indexCast v218
  ![896, v219.toNat]
@[reducible] def k0_t3_loop : Scf.Loop 32 :=
  let c0_i32_3 : BitVec 32 := 0#32
  let c15_i32 : BitVec 32 := 15#32
  let v4 : BitVec 32 := Scalar.addi c0_i32_3 c15_i32
  let c1_i32_4 : BitVec 32 := 1#32
  ⟨c0_i32_3, v4, c1_i32_4⟩
def k0_mult17 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  v7
def k0_off133 (k0_t3 : Fin k0_t3_loop.trips) : Fin 2 → Nat :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let v10 : Index := Scalar.indexCast v8
  let c0_9 : Index := 0#32
  ![v10.toNat, 0]
def k0_off134 (k0_t3 : Fin k0_t3_loop.trips) : Fin 2 → Nat :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c3840_i32 : BitVec 32 := 3840#32
  let v13 : BitVec 32 := Scalar.addi v8 c3840_i32
  let v14 : Index := Scalar.indexCast v13
  let c0_10 : Index := 0#32
  ![v14.toNat, 0]
def k0_mult18 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c0_i32_27 : BitVec 32 := 0#32
  let v108 : BitVec 32 := Scalar.addi v8 c0_i32_27
  v108
def k0_off135 (k0_t3 : Fin k0_t3_loop.trips) (c0_i32_27 : BitVec 32) : Fin 3 → Nat :=
  let c0_28 : Index := 0#32
  let c0_29 : Index := 0#32
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let v108 : BitVec 32 := Scalar.addi v8 c0_i32_27
  let v109 : BitVec 32 := v108
  let v110 : Index := Scalar.indexCast v109
  ![0, 0, v110.toNat]
def k0_off136 (k0_t3 : Fin k0_t3_loop.trips) (c0_i32_30 : BitVec 32) : Fin 3 → Nat :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c2_i32 : BitVec 32 := 2#32
  let v114 : BitVec 32 := Scalar.muli v6 c2_i32
  let v115 : BitVec 32 := Scalar.addi v114 c0_i32_30
  let v116 : Index := Scalar.indexCast v115
  let c0_31 : Index := 0#32
  let c0_32 : Index := 0#32
  ![v116.toNat, 0, 0]
def k0_mult19 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c128_i32 : BitVec 32 := 128#32
  let v202 : BitVec 32 := Scalar.addi v8 c128_i32
  v202
def k0_mult20 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c0_i32_85 : BitVec 32 := 0#32
  let v296 : BitVec 32 := Scalar.addi v8 c0_i32_85
  v296
def k0_off137 (k0_t3 : Fin k0_t3_loop.trips) (c0_i32_85 : BitVec 32) : Fin 3 → Nat :=
  let c1 : Index := 1#32
  let c0_86 : Index := 0#32
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let v296 : BitVec 32 := Scalar.addi v8 c0_i32_85
  let v297 : BitVec 32 := v296
  let v298 : Index := Scalar.indexCast v297
  ![1, 0, v298.toNat]
def k0_off138 (k0_t3 : Fin k0_t3_loop.trips) (c0_i32_88 : BitVec 32) : Fin 3 → Nat :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c2_i32_87 : BitVec 32 := 2#32
  let v302 : BitVec 32 := Scalar.muli v6 c2_i32_87
  let v303 : BitVec 32 := Scalar.addi v302 c0_i32_88
  let v304 : Index := Scalar.indexCast v303
  let c1_89 : Index := 1#32
  let c0_90 : Index := 0#32
  ![v304.toNat, 1, 0]
def k0_mult21 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c128_i32_114 : BitVec 32 := 128#32
  let v390 : BitVec 32 := Scalar.addi v8 c128_i32_114
  v390
def k0_mult22 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c0_i32_144 : BitVec 32 := 0#32
  let v484 : BitVec 32 := Scalar.addi v8 c0_i32_144
  v484
def k0_off139 (k0_t3 : Fin k0_t3_loop.trips) (c0_i32_144 : BitVec 32) : Fin 3 → Nat :=
  let c2 : Index := 2#32
  let c0_145 : Index := 0#32
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let v484 : BitVec 32 := Scalar.addi v8 c0_i32_144
  let v485 : BitVec 32 := v484
  let v486 : Index := Scalar.indexCast v485
  ![2, 0, v486.toNat]
def k0_off140 (k0_t3 : Fin k0_t3_loop.trips) (c0_i32_147 : BitVec 32) : Fin 3 → Nat :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c2_i32_146 : BitVec 32 := 2#32
  let v490 : BitVec 32 := Scalar.muli v6 c2_i32_146
  let v491 : BitVec 32 := Scalar.addi v490 c0_i32_147
  let v492 : Index := Scalar.indexCast v491
  let c2_148 : Index := 2#32
  let c0_149 : Index := 0#32
  ![v492.toNat, 2, 0]
def k0_mult23 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c128_i32_173 : BitVec 32 := 128#32
  let v578 : BitVec 32 := Scalar.addi v8 c128_i32_173
  v578
def k0_mult24 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c0_i32_203 : BitVec 32 := 0#32
  let v672 : BitVec 32 := Scalar.addi v8 c0_i32_203
  v672
def k0_off141 (k0_t3 : Fin k0_t3_loop.trips) (c0_i32_203 : BitVec 32) : Fin 3 → Nat :=
  let c3 : Index := 3#32
  let c0_204 : Index := 0#32
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let v672 : BitVec 32 := Scalar.addi v8 c0_i32_203
  let v673 : BitVec 32 := v672
  let v674 : Index := Scalar.indexCast v673
  ![3, 0, v674.toNat]
def k0_off142 (k0_t3 : Fin k0_t3_loop.trips) (c0_i32_206 : BitVec 32) : Fin 3 → Nat :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c2_i32_205 : BitVec 32 := 2#32
  let v678 : BitVec 32 := Scalar.muli v6 c2_i32_205
  let v679 : BitVec 32 := Scalar.addi v678 c0_i32_206
  let v680 : Index := Scalar.indexCast v679
  let c3_207 : Index := 3#32
  let c0_208 : Index := 0#32
  ![v680.toNat, 3, 0]
def k0_mult25 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c128_i32_232 : BitVec 32 := 128#32
  let v766 : BitVec 32 := Scalar.addi v8 c128_i32_232
  v766
def k0_mult26 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c0_i32_271 : BitVec 32 := 0#32
  let v877 : BitVec 32 := Scalar.addi v8 c0_i32_271
  v877
def k0_off143 (k0_t3 : Fin k0_t3_loop.trips) (c0_i32_271 : BitVec 32) : Fin 3 → Nat :=
  let c4 : Index := 4#32
  let c0_272 : Index := 0#32
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let v877 : BitVec 32 := Scalar.addi v8 c0_i32_271
  let v878 : BitVec 32 := v877
  let v879 : Index := Scalar.indexCast v878
  ![4, 0, v879.toNat]
def k0_off144 (k0_t3 : Fin k0_t3_loop.trips) (c0_i32_274 : BitVec 32) : Fin 3 → Nat :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c2_i32_273 : BitVec 32 := 2#32
  let v883 : BitVec 32 := Scalar.muli v6 c2_i32_273
  let v884 : BitVec 32 := Scalar.addi v883 c0_i32_274
  let v885 : Index := Scalar.indexCast v884
  let c4_275 : Index := 4#32
  let c0_276 : Index := 0#32
  ![v885.toNat, 4, 0]
def k0_mult27 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c128_i32_300 : BitVec 32 := 128#32
  let v971 : BitVec 32 := Scalar.addi v8 c128_i32_300
  v971
def k0_mult28 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c0_i32_330 : BitVec 32 := 0#32
  let v1065 : BitVec 32 := Scalar.addi v8 c0_i32_330
  v1065
def k0_off145 (k0_t3 : Fin k0_t3_loop.trips) (c0_i32_330 : BitVec 32) : Fin 3 → Nat :=
  let c5 : Index := 5#32
  let c0_331 : Index := 0#32
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let v1065 : BitVec 32 := Scalar.addi v8 c0_i32_330
  let v1066 : BitVec 32 := v1065
  let v1067 : Index := Scalar.indexCast v1066
  ![5, 0, v1067.toNat]
def k0_off146 (k0_t3 : Fin k0_t3_loop.trips) (c0_i32_333 : BitVec 32) : Fin 3 → Nat :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c2_i32_332 : BitVec 32 := 2#32
  let v1071 : BitVec 32 := Scalar.muli v6 c2_i32_332
  let v1072 : BitVec 32 := Scalar.addi v1071 c0_i32_333
  let v1073 : Index := Scalar.indexCast v1072
  let c5_334 : Index := 5#32
  let c0_335 : Index := 0#32
  ![v1073.toNat, 5, 0]
def k0_mult29 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c128_i32_359 : BitVec 32 := 128#32
  let v1159 : BitVec 32 := Scalar.addi v8 c128_i32_359
  v1159
def k0_mult30 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c0_i32_389 : BitVec 32 := 0#32
  let v1253 : BitVec 32 := Scalar.addi v8 c0_i32_389
  v1253
def k0_off147 (k0_t3 : Fin k0_t3_loop.trips) (c0_i32_389 : BitVec 32) : Fin 3 → Nat :=
  let c6 : Index := 6#32
  let c0_390 : Index := 0#32
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let v1253 : BitVec 32 := Scalar.addi v8 c0_i32_389
  let v1254 : BitVec 32 := v1253
  let v1255 : Index := Scalar.indexCast v1254
  ![6, 0, v1255.toNat]
def k0_off148 (k0_t3 : Fin k0_t3_loop.trips) (c0_i32_392 : BitVec 32) : Fin 3 → Nat :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c2_i32_391 : BitVec 32 := 2#32
  let v1259 : BitVec 32 := Scalar.muli v6 c2_i32_391
  let v1260 : BitVec 32 := Scalar.addi v1259 c0_i32_392
  let v1261 : Index := Scalar.indexCast v1260
  let c6_393 : Index := 6#32
  let c0_394 : Index := 0#32
  ![v1261.toNat, 6, 0]
def k0_mult31 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c128_i32_418 : BitVec 32 := 128#32
  let v1347 : BitVec 32 := Scalar.addi v8 c128_i32_418
  v1347
def k0_mult32 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c0_i32_448 : BitVec 32 := 0#32
  let v1441 : BitVec 32 := Scalar.addi v8 c0_i32_448
  v1441
def k0_off149 (k0_t3 : Fin k0_t3_loop.trips) (c0_i32_448 : BitVec 32) : Fin 3 → Nat :=
  let c7 : Index := 7#32
  let c0_449 : Index := 0#32
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let v1441 : BitVec 32 := Scalar.addi v8 c0_i32_448
  let v1442 : BitVec 32 := v1441
  let v1443 : Index := Scalar.indexCast v1442
  ![7, 0, v1443.toNat]
def k0_off150 (k0_t3 : Fin k0_t3_loop.trips) (c0_i32_451 : BitVec 32) : Fin 3 → Nat :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c2_i32_450 : BitVec 32 := 2#32
  let v1447 : BitVec 32 := Scalar.muli v6 c2_i32_450
  let v1448 : BitVec 32 := Scalar.addi v1447 c0_i32_451
  let v1449 : Index := Scalar.indexCast v1448
  let c7_452 : Index := 7#32
  let c0_453 : Index := 0#32
  ![v1449.toNat, 7, 0]
def k0_mult33 (k0_t3 : Fin k0_t3_loop.trips) : BitVec 32 :=
  let c0_i32_7 : BitVec 32 := 0#32
  let c0_i32_3 : BitVec 32 := 0#32
  let c1_i32_4 : BitVec 32 := 1#32
  let arg11 : BitVec 32 := Scf.iv c0_i32_3 c1_i32_4 k0_t3
  let c1_i32_6 : BitVec 32 := 1#32
  let v5 : BitVec 32 := Scalar.muli arg11 c1_i32_6
  let v6 : BitVec 32 := Scalar.addi c0_i32_7 v5
  let c256_i32 : BitVec 32 := 256#32
  let v7 : BitVec 32 := Scalar.muli v6 c256_i32
  let v8 : BitVec 32 := v7
  let c128_i32_477 : BitVec 32 := 128#32
  let v1535 : BitVec 32 := Scalar.addi v8 c128_i32_477
  v1535
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x128x2176 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S17x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S17x60 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x3840 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S30x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x4096x2176 : Shape := ⟨3, ![8, 4096, 2176]⟩
abbrev S8x4096x17 : Shape := ⟨3, ![8, 4096, 17]⟩
abbrev S7680x2176 : Shape := ⟨2, ![7680, 2176]⟩
abbrev S60x17 : Shape := ⟨2, ![60, 17]⟩
abbrev S8x4096x3840 : Shape := ⟨3, ![8, 4096, 3840]⟩
abbrev S8x4096x30 : Shape := ⟨3, ![8, 4096, 30]⟩
abbrev S8x4096x17x128 : Shape := ⟨4, ![8, 4096, 17, 128]⟩
abbrev S8x4096x17x1 : Shape := ⟨4, ![8, 4096, 17, 1]⟩
abbrev S32768x2176 : Shape := ⟨2, ![32768, 2176]⟩
abbrev S60x128x17x128 : Shape := ⟨4, ![60, 128, 17, 128]⟩
abbrev S60x1x17x1 : Shape := ⟨4, ![60, 1, 17, 1]⟩
abbrev S32768x7680 : Shape := ⟨2, ![32768, 7680]⟩
abbrev S32768x3840 : Shape := ⟨2, ![32768, 3840]⟩
abbrev S8x4096x30x128 : Shape := ⟨4, ![8, 4096, 30, 128]⟩
abbrev S8x4096x30x1 : Shape := ⟨4, ![8, 4096, 30, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x2176, .fp8e4m3⟩
  | .hbm, ⟨1, _⟩ => ⟨S8x4096x17, .f32⟩
  | .hbm, ⟨2, _⟩ => ⟨S7680x2176, .fp8e4m3⟩
  | .hbm, ⟨3, _⟩ => ⟨S60x17, .f32⟩
  | .hbm, ⟨4, _⟩ => ⟨S8x4096x3840, .fp8e4m3⟩
  | .hbm, ⟨5, _⟩ => ⟨S8x4096x30, .f32⟩
  | .local _ .vmem, ⟨0, _⟩ => ⟨S8x4096x2176, .fp8e4m3⟩
  | .local _ .vmem, ⟨1, _⟩ => ⟨S8x4096x17, .f32⟩
  | .local _ .vmem, ⟨2, _⟩ => ⟨S7680x2176, .fp8e4m3⟩
  | .local _ .vmem, ⟨3, _⟩ => ⟨S60x17, .f32⟩
  | .local _ .vmem, ⟨4, _⟩ => ⟨S8x4096x3840, .fp8e4m3⟩
  | .local _ .vmem, ⟨5, _⟩ => ⟨S8x4096x30, .f32⟩
  | _, _ => ⟨S8x4096x2176, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x4096x2176 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x2176 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S60x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x3840 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x30 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelIdeal.Names.lean ====
/-
  The names the weight loop is written in: chunk `b` of the quantised weight (512 of its rows), slot `s` of the
  landing buffer, slot `s`'s semaphore; and the printed offsets of the loop's trip `k` in closed form.
-/
module

public import proofs.«01_k».proof.Proof.Gen.KernelIdeal.Launch
public import proofs.«01_k».proof.Proof.Gen.KernelIdeal.Loops
public import Idealize.ShloMosaic.Lib.Pipeline.Kit
public import Idealize.ShloMosaic.Lib.Ring
public import Idealize.ShloMosaic.Lib.Affine
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic

/-- The quantised weight, whole, where the launch left it. -/
abbrev wM : Memref sig .tc .hbm S7680x2176 .fp8e4m3 := Memref.whole main_arg2
/-- The two-slot landing buffer. -/
abbrev landM : Memref sig .tc .vmem S2x512x2176 .fp8e4m3 := Memref.whole cc0_scratch1

/-- Chunk `b` starts at row `512 b`. -/
abbrev grpOff (b : Fin 15) : Fin 2 → Nat := ![512 * b.val, 0]
/-- A chunk lies in the weight. -/
theorem grpOff_inb (b : Fin 15) : ∀ a, grpOff b a + S512x2176.size a ≤ S7680x2176.size a := by
  have := b.isLt; intro a; fin_cases a
  · show 512 * b.val + 512 ≤ 7680; omega
  · show 0 + 2176 ≤ 2176; omega
/-- Slot `s` is the `s`-th of the landing buffer's two pages. -/
abbrev slotOff (s : Fin 2) : Fin 3 → Nat := ![s.val, 0, 0]
/-- A slot lies in the landing buffer. -/
theorem slotOff_inb (s : Fin 2) : ∀ a, slotOff s a + S1x512x2176.size a ≤ S2x512x2176.size a := by
  have := s.isLt; intro a; fin_cases a
  · show s.val + 1 ≤ 2; omega
  · show 0 + 512 ≤ 512; omega
  · show 0 + 2176 ≤ 2176; omega
/-- Slot `s`'s semaphore is the `s`-th. -/
abbrev semOff (s : Fin 2) : Fin 1 → Nat := ![s.val]
/-- A slot has its semaphore. -/
theorem semOff_inb (s : Fin 2) : ∀ a, semOff s a + S1.size a ≤ S2.size a := by
  have := s.isLt; intro a; fin_cases a; show s.val + 1 ≤ 2; omega

/-- Chunk `b` of the weight, as the body slices it. -/
def grp (b : Fin 15) : Memref sig .tc .hbm S512x2176 .fp8e4m3 :=
  wM.slice (Rect.unit (s := S7680x2176) (grpOff b) S512x2176.size (grpOff_inb b)) (fun _ => rfl)
/-- Slot `s` of the landing buffer, as the body slices and squeezes it. -/
def rslot (s : Fin 2) : Memref sig .tc .vmem S512x2176 .fp8e4m3 :=
  (landM.slice (Rect.unit (s := S2x512x2176) (slotOff s) S1x512x2176.size (slotOff_inb s)) (fun _ => rfl)).squeeze S512x2176 squeezes_S1x512x2176_S512x2176
/-- Slot `s`'s semaphore, as the body slices and squeezes it. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 15) : ClosedOff (grpOff b) := ⟨grpOff b, rfl⟩

/-! ## The trip's offsets in closed form -/

/-- A trip number is below 15. -/
theorem trip_lt (k : Fin k0_t1_loop.trips) : k.val < 15 := Nat.lt_of_lt_of_le k.isLt k0_t1_abs.2.1

/-- The next copy's semaphore, -/
theorem off1_eq : ∀ k : Fin k0_t1_loop.trips, k0_off1 k = semOff (Ring.sl 2 (k.val + 1)) := by decide +kernel
/-- its slot; -/
theorem off2_eq : ∀ k : Fin k0_t1_loop.trips, k0_off2 k = slotOff (Ring.sl 2 (k.val + 1)) := by decide +kernel
/-- this copy's semaphore, -/
theorem off4_eq : ∀ k : Fin k0_t1_loop.trips, k0_off4 k = semOff (Ring.sl 2 k.val) := by decide +kernel
/-- its slot; -/
theorem off5_eq : ∀ k : Fin k0_t1_loop.trips, k0_off5 k = slotOff (Ring.sl 2 k.val) := by decide +kernel
/-- the next copy's chunk; -/
theorem off3_eq (k : Fin k0_t1_loop.trips) (hk : k.val + 1 < 15) : k0_off3 k = grpOff (Ring.bk 15 (k.val + 1)) := by
  rw [k0_off3_eq]; unfold grpOff; rw [Ring.bk_val hk]; congr 1
/-- this copy's chunk. -/
theorem off6_eq (k : Fin k0_t1_loop.trips) : k0_off6 k = grpOff (Ring.bk 15 k.val) := by
  rw [k0_off6_eq]; unfold grpOff; rw [Ring.bk_val (trip_lt k)]

/-- The next chunk is fetched at every trip but the last. -/
theorem cond2_iff : ∀ k : Fin k0_t1_loop.trips, k0_cond2 k = 1#1 ↔ k.val + 1 < 15 := by decide +kernel
/-- The weight is expanded at the first point only. -/
theorem cond1_iff : ∀ i : grid0.Coords, k0_cond1 i = 1#1 ↔ (i 0).val = 0 := by decide +kernel

/-- A box of trip `k`'s slot, from row `a` and column `b`. -/
abbrev boxOff (k : Fin k0_t1_loop.trips) (a b : Nat) : Fin 3 → Nat := ![(Ring.sl 2 k.val).val, a, b]
/-- The slot word the body computes for each of its loads is the trip's parity. -/
theorem box_eq (k : Fin k0_t1_loop.trips) (a b : Nat) : ![k0_off5 k 0, a, b] = boxOff k a b := by
  rw [off5_eq k]; rfl

instance (k : Fin k0_t1_loop.trips) : ClosedOff (k0_off2 k) := ⟨slotOff (Ring.sl 2 (k.val + 1)), off2_eq k⟩
instance (k : Fin k0_t1_loop.trips) : ClosedOff (k0_off5 k) := ⟨slotOff (Ring.sl 2 k.val), off5_eq k⟩

instance (k : Fin k0_t1_loop.trips) : ClosedOff (k0_off8 k) := ⟨boxOff k 0 0, box_eq k 0 0⟩
instance (k : Fin k0_t1_loop.trips) : ClosedOff (k0_off11 k) := ⟨boxOff k 0 128, box_eq k 0 128⟩
instance (k : Fin k0_t1_loop.trips) : ClosedOff (k0_off14 k) := ⟨boxOff k 0 256, box_eq k 0 256⟩
instance (k : Fin k0_t1_loop.trips) : ClosedOff (k0_off17 k) := ⟨boxOff k 0 384, box_eq k 0 384⟩
instance (k : Fin k0_t1_loop.trips) : ClosedOff (k0_off20 k) := ⟨boxOff k 0 512, box_eq k 0 512⟩
instance (k : Fin k0_t1_loop.trips) : ClosedOff (k0_off23 k) := ⟨boxOff k 0 640, box_eq k 0 640⟩
instance (k : Fin k0_t1_loop.trips) : ClosedOff (k0_off26 k) := ⟨boxOff k 0 768, box_eq k 0 768⟩
instance (k : Fin k0_t1_loop.trips) : ClosedOff (k0_off29 k) := ⟨boxOff k 0 896, box_eq k 0 896⟩
instance (k : Fin k0_t1_loop.trips) : ClosedOff (k0_off32 k) := ⟨boxOff k 0 1024, box_eq k 0 1024⟩
instance (k : Fin k0_t1_loop.trips) : ClosedOff (k0_off35 k) := ⟨boxOff k 0 1152, box_eq k 0 1152⟩
instance (k : Fin k0_t1_loop.trips) : ClosedOff (k0_off38 k) := ⟨boxOff k 0 1280, box_eq k 0 1280⟩
instance (k : Fin k0_t1_loop.trips) : ClosedOff (k0_off41 k) := ⟨boxOff k 0 1408, box_eq k 0 1408⟩
instance (k : Fin k0_t1_loop.trips) : ClosedOff (k0_off44 k) := ⟨boxOff k 0 1536, box_eq k 0 1536⟩
instance (k : Fin k0_t1_loop.trips) : ClosedOff (k0_off47 k) := ⟨boxOff k 0 1664, box_eq k 0 1664⟩
instance (k : Fin k0_t1_loop.trips) : ClosedOff (k0_off50 k) := ⟨boxOff k 0 1792, box_eq k 0 1792⟩
instance (k : Fin k0_t1_loop.trips) : ClosedOff (k0_off53 k) := ⟨boxOff k 0 1920, box_eq k 0 1920⟩
instance (k : Fin k0_t1_loop.trips) : ClosedOff (k0_off56 k) := ⟨boxOff k 0 2048, box_eq k 0 2048⟩
instance (k : Fin k0_t1_loop.trips) : ClosedOff (k0_off58 k) := ⟨boxOff k 128 0, box_eq k 128 0⟩
instance (k : Fin k0_t1_loop.trips) : ClosedOff (k0_off59 k) := ⟨boxOff k 128 128, box_eq k 128 128⟩
instance (k : Fin k0_t1_loop.trips) : ClosedOff (k0_off60 k) := ⟨boxOff k 128 256, box_eq k 128 256⟩
instance (k : Fin k0_t1_loop.trips) : ClosedOff (k0_off61 k) := ⟨boxOff k 128 384, box_eq k 128 384⟩
instance (k : Fin k0_t1_loop.trips) : ClosedOff (k0_off62 k) := ⟨boxOff k 128 512, box_eq k 128 512⟩
instance (k : Fin k0_t1_loop.trips) : ClosedOff (k0_off63 k) := ⟨boxOff k 128 640, box_eq k 128 640⟩
instance (k : Fin k0_t1_loop.trips) : ClosedOff (k0_off64 k) := ⟨boxOff k 128 768, box_eq k 128 768⟩
instance (k : Fin k0_t1_loop.trips) : ClosedOff (k0_off65 k) := ⟨boxOff k 128 896, box_eq k 128 896⟩
instance (k : Fin k0_t1_loop.trips) : ClosedOff (k0_off66 k) := ⟨boxOff k 128 1024, box_eq k 128 1024⟩
instance (k : Fin k0_t1_loop.trips) : ClosedOff (k0_off67 k) := ⟨boxOff k 128 1152, box_eq k 128 1152⟩
instance (k : Fin k0_t1_loop.trips) : ClosedOff (k0_off68 k) := ⟨boxOff k 128 1280, box_eq k 128 1280⟩
instance (k : Fin k0_t1_loop.trips) : ClosedOff (k0_off69 k) := ⟨boxOff k 128 1408, box_eq k 128 1408⟩
instance (k : Fin k0_t1_loop.trips) : ClosedOff (k0_off70 k) := ⟨boxOff k 128 1536, box_eq k 128 1536⟩
instance (k : Fin k0_t1_loop.trips) : ClosedOff (k0_off71 k) := ⟨boxOff k 128 1664, box_eq k 128 1664⟩
instance (k : Fin k0_t1_loop.trips) : ClosedOff (k0_off72 k) := ⟨boxOff k 128 1792, box_eq k 128 1792⟩
instance (k : Fin k0_t1_loop.trips) : ClosedOff (k0_off73 k) := ⟨boxOff k 128 1920, box_eq k 128 1920⟩
instance (k : Fin k0_t1_loop.trips) : ClosedOff (k0_off74 k) := ⟨boxOff k 128 2048, box_eq k 128 2048⟩
instance (k : Fin k0_t1_loop.trips) : ClosedOff (k0_off75 k) := ⟨boxOff k 256 0, box_eq k 256 0⟩
instance (k : Fin k0_t1_loop.trips) : ClosedOff (k0_off76 k) := ⟨boxOff k 256 128, box_eq k 256 128⟩
instance (k : Fin k0_t1_loop.trips) : ClosedOff (k0_off77 k) := ⟨boxOff k 256 256, box_eq k 256 256⟩
instance (k : Fin k0_t1_loop.trips) : ClosedOff (k0_off78 k) := ⟨boxOff k 256 384, box_eq k 256 384⟩
instance (k : Fin k0_t1_loop.trips) : ClosedOff (k0_off79 k) := ⟨boxOff k 256 512, box_eq k 256 512⟩
instance (k : Fin k0_t1_loop.trips) : ClosedOff (k0_off80 k) := ⟨boxOff k 256 640, box_eq k 256 640⟩
instance (k : Fin k0_t1_loop.trips) : ClosedOff (k0_off81 k) := ⟨boxOff k 256 768, box_eq k 256 768⟩
instance (k : Fin k0_t1_loop.trips) : ClosedOff (k0_off82 k) := ⟨boxOff k 256 896, box_eq k 256 896⟩
instance (k : Fin k0_t1_loop.trips) : ClosedOff (k0_off83 k) := ⟨boxOff k 256 1024, box_eq k 256 1024⟩
instance (k : Fin k0_t1_loop.trips) : ClosedOff (k0_off84 k) := ⟨boxOff k 256 1152, box_eq k 256 1152⟩
instance (k : Fin k0_t1_loop.trips) : ClosedOff (k0_off85 k) := ⟨boxOff k 256 1280, box_eq k 256 1280⟩
instance (k : Fin k0_t1_loop.trips) : ClosedOff (k0_off86 k) := ⟨boxOff k 256 1408, box_eq k 256 1408⟩
instance (k : Fin k0_t1_loop.trips) : ClosedOff (k0_off87 k) := ⟨boxOff k 256 1536, box_eq k 256 1536⟩
instance (k : Fin k0_t1_loop.trips) : ClosedOff (k0_off88 k) := ⟨boxOff k 256 1664, box_eq k 256 1664⟩
instance (k : Fin k0_t1_loop.trips) : ClosedOff (k0_off89 k) := ⟨boxOff k 256 1792, box_eq k 256 1792⟩
instance (k : Fin k0_t1_loop.trips) : ClosedOff (k0_off90 k) := ⟨boxOff k 256 1920, box_eq k 256 1920⟩
instance (k : Fin k0_t1_loop.trips) : ClosedOff (k0_off91 k) := ⟨boxOff k 256 2048, box_eq k 256 2048⟩
instance (k : Fin k0_t1_loop.trips) : ClosedOff (k0_off92 k) := ⟨boxOff k 384 0, box_eq k 384 0⟩
instance (k : Fin k0_t1_loop.trips) : ClosedOff (k0_off93 k) := ⟨boxOff k 384 128, box_eq k 384 128⟩
instance (k : Fin k0_t1_loop.trips) : ClosedOff (k0_off94 k) := ⟨boxOff k 384 256, box_eq k 384 256⟩
instance (k : Fin k0_t1_loop.trips) : ClosedOff (k0_off95 k) := ⟨boxOff k 384 384, box_eq k 384 384⟩
instance (k : Fin k0_t1_loop.trips) : ClosedOff (k0_off96 k) := ⟨boxOff k 384 512, box_eq k 384 512⟩
instance (k : Fin k0_t1_loop.trips) : ClosedOff (k0_off97 k) := ⟨boxOff k 384 640, box_eq k 384 640⟩
instance (k : Fin k0_t1_loop.trips) : ClosedOff (k0_off98 k) := ⟨boxOff k 384 768, box_eq k 384 768⟩
instance (k : Fin k0_t1_loop.trips) : ClosedOff (k0_off99 k) := ⟨boxOff k 384 896, box_eq k 384 896⟩
instance (k : Fin k0_t1_loop.trips) : ClosedOff (k0_off100 k) := ⟨boxOff k 384 1024, box_eq k 384 1024⟩
instance (k : Fin k0_t1_loop.trips) : ClosedOff (k0_off101 k) := ⟨boxOff k 384 1152, box_eq k 384 1152⟩
instance (k : Fin k0_t1_loop.trips) : ClosedOff (k0_off102 k) := ⟨boxOff k 384 1280, box_eq k 384 1280⟩
instance (k : Fin k0_t1_loop.trips) : ClosedOff (k0_off103 k) := ⟨boxOff k 384 1408, box_eq k 384 1408⟩
instance (k : Fin k0_t1_loop.trips) : ClosedOff (k0_off104 k) := ⟨boxOff k 384 1536, box_eq k 384 1536⟩
instance (k : Fin k0_t1_loop.trips) : ClosedOff (k0_off105 k) := ⟨boxOff k 384 1664, box_eq k 384 1664⟩
instance (k : Fin k0_t1_loop.trips) : ClosedOff (k0_off106 k) := ⟨boxOff k 384 1792, box_eq k 384 1792⟩
instance (k : Fin k0_t1_loop.trips) : ClosedOff (k0_off107 k) := ⟨boxOff k 384 1920, box_eq k 384 1920⟩
instance (k : Fin k0_t1_loop.trips) : ClosedOff (k0_off108 k) := ⟨boxOff k 384 2048, box_eq k 384 2048⟩

/-! ## The body's slices are those names -/

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (landM.slice (Rect.unit (s := S2x512x2176) off S1x512x2176.size hh) hs).squeeze S512x2176 squeezes_S1x512x2176_S512x2176 = rslot s :=
  congrArg (fun M : Memref sig .tc .vmem S1x512x2176 .fp8e4m3 => M.squeeze S512x2176 squeezes_S1x512x2176_S512x2176) (Memref.slice_unit_congr _ e _ _ _ _)
private theorem grp_congr {off : Fin 2 → Nat} {b : Fin 15} (e : off = grpOff b) (hh hs) :
    wM.slice (Rect.unit (s := S7680x2176) off S512x2176.size hh) hs = grp b :=
  Memref.slice_unit_congr _ e hh (grpOff_inb b) hs (fun _ => rfl)

/-- Before the loop: semaphore, slot and chunk 0. -/
@[sl_canon] theorem semL0 (hh) : (cc0_scratch3.slice (Rect.unit (s := S2) ![0] S1.size hh)).squeeze S_ squeezes_S1_S_ = csm 0 := csm_congr (by decide) _
@[sl_canon] theorem slotL0 (hh hs) : (landM.slice (Rect.unit (s := S2x512x2176) ![0, 0, 0] S1x512x2176.size hh) hs).squeeze S512x2176 squeezes_S1x512x2176_S512x2176 = rslot 0 := rslot_congr (by decide) _ _
@[sl_canon] theorem grpL0 (hh hs) : wM.slice (Rect.unit (s := S7680x2176) ![0, 0] S512x2176.size hh) hs = grp 0 := grp_congr (by decide) _ _

/-- Trip `k` issues chunk `k + 1` into the other slot, -/
@[sl_canon] theorem semI (k : Fin k0_t1_loop.trips) (hh) :
    (cc0_scratch3.slice (Rect.unit (s := S2) (k0_off1 k) S1.size hh)).squeeze S_ squeezes_S1_S_ = csm (Ring.sl 2 (k.val + 1)) := csm_congr (off1_eq k) _
@[sl_canon] theorem slotI (k : Fin k0_t1_loop.trips) (hh hs) :
    (landM.slice (Rect.unit (s := S2x512x2176) (k0_off2 k) S1x512x2176.size hh) hs).squeeze S512x2176 squeezes_S1x512x2176_S512x2176 = rslot (Ring.sl 2 (k.val + 1)) := rslot_congr (off2_eq k) _ _
@[sl_canon] theorem grpI (k : Fin k0_t1_loop.trips) (hk : k.val + 1 < 15) (hh hs) :
    wM.slice (Rect.unit (s := S7680x2176) (k0_off3 k) S512x2176.size hh) hs = grp (Ring.bk 15 (k.val + 1)) := grp_congr (off3_eq k hk) _ _
/-- and waits for chunk `k` in its own. -/
@[sl_canon] theorem semW (k : Fin k0_t1_loop.trips) (hh) :
    (cc0_scratch3.slice (Rect.unit (s := S2) (k0_off4 k) S1.size hh)).squeeze S_ squeezes_S1_S_ = csm (Ring.sl 2 k.val) := csm_congr (off4_eq k) _
@[sl_canon] theorem slotW (k : Fin k0_t1_loop.trips) (hh hs) :
    (landM.slice (Rect.unit (s := S2x512x2176) (k0_off5 k) S1x512x2176.size hh) hs).squeeze S512x2176 squeezes_S1x512x2176_S512x2176 = rslot (Ring.sl 2 k.val) := rslot_congr (off5_eq k) _ _
@[sl_canon] theorem grpW (k : Fin k0_t1_loop.trips) (hh hs) :
    wM.slice (Rect.unit (s := S7680x2176) (k0_off6 k) S512x2176.size hh) hs = grp (Ring.bk 15 k.val) := grp_congr (off6_eq k) _ _

end Cert.KernelIdeal.Hand

end
-- ==== Proof.KernelIdeal.Trip.lean ====
/-
  One trip of the weight loop, run at a symbolic trip `k`: chunk `k` is waited for in slot `k % 2`, chunk `k + 1` is
  issued into the other slot, and the waited chunk's sixty-eight blocks are scaled and stored.
-/
module

public import proofs.«01_k».proof.Proof.KernelIdeal.Names

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra: the pipeline library's, beside the counters the kernel's own transfers ride on -/

/-- The ghost state. -/
abbrev UU (nD : Nat) (τ : Topo) : Type := UR sig nD τ × Counters
local notation "𝕄" => MT nD τ sig Unit (Elt F) ℕ (UU nD τ) ℕ
/-- No loop needs a variant. -/
abbrev 𝒱₀ : Variants := Variants.none

/-- The expanded weight, whole. -/
abbrev wbM : Memref sig .tc .vmem S7680x2176 .bf16 := Memref.whole cc0_scratch0

section Pieces
variable (c : Dev nD) (XA : Buf (Elt F) (wM.view.loc (c : Thread nD τ)))

/-- A slot's semaphore at zero. -/
abbrev cellP (s : Fin 2) : sProp 𝕄 := semVal ((c : Thread nD τ), SemLoc.dma (csm s).sem) 0
/-- A slot of the landing buffer. -/
abbrev slotP (s : Fin 2) (f : Buf (Elt F) ((rslot s).view.loc (c : Thread nD τ))) : sProp 𝕄 :=
  (rslot s).view.loc (c : Thread nD τ) ↦[(rslot s).view.set]{fullShare} f
/-- Chunk `b` HOME: held on its elements at the weight's contents. -/
abbrev homeP (b : Fin 15) : sProp 𝕄 := (grp b).view.loc (c : Thread nD τ) ↦[(grp b).view.set]{fullShare} XA
/-- Chunk `b`'s words as a slot's payload. -/
abbrev payload (b : Fin 15) : S512x2176.Idx → Elt F .fp8e4m3 := ReadAs.same.apply ((grp b).view.read (Elt F) XA)
/-- What chunk `b`'s transfer leaves in slot `s` over prior contents `f`: the chunk, written whole. -/
abbrev landed (s : Fin 2) (b : Fin 15) (f : Buf (Elt F) ((rslot s).view.loc (c : Thread nD τ))) : Buf (Elt F) ((rslot s).view.loc (c : Thread nD τ)) :=
  (rslot s).view.writes (Elt F) f [⟨Rect.whole S512x2176, payload c XA b⟩]
/-- A chunk's transfer moves this many units on its semaphore. -/
abbrev NN : ℕ := 34816
/-- Slot `s` IN FLIGHT with chunk `b`, issued over `f`. -/
abbrev flightP (s : Fin 2) (b : Fin 15) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- Trip `k`'s homes: chunk `k + 1` (about to go out) beside the rest. -/
theorem homes_here (k : ℕ) (hk : k + 1 < 15) :
    bigSep (Ring.homeSet 1 k) (homeP c XA) = iprop(homeP c XA (Ring.bk 15 (k + 1)) ∗ bigSep ((Ring.homeSet 1 k).erase (Ring.bk 15 (k + 1))) (homeP c XA)) := by
  conv_lhs => rw [Ring.homeSet_out 1 k hk, bigSep_insert (Ring.bkL_not_mem_erase 1 k)]
  rfl
/-- Trip `k + 1`'s homes: chunk `k` (just back) beside that rest. -/
theorem homes_next (k : ℕ) (hk : k + 1 < 15) :
    bigSep (Ring.homeSet 1 (k + 1)) (homeP c XA) = iprop(homeP c XA (Ring.bk 15 k) ∗ bigSep ((Ring.homeSet 1 k).erase (Ring.bk 15 (k + 1))) (homeP c XA)) := by
  conv_lhs => rw [Ring.homeSet_succ 1 k hk, bigSep_insert (Ring.bk_not_mem_erase 1 k (by omega) (by decide))]
  rfl
/-- After the last trip every chunk is home. -/
theorem homes_last (k : ℕ) (hk : k + 1 = 15) :
    bigSep Finset.univ (homeP c XA) = iprop(homeP c XA (Ring.bk 15 k) ∗ bigSep (Ring.homeSet 1 k) (homeP c XA)) := by
  rw [← Ring.homeSet_last (NB := 15) 1 (k + 1) (by omega), Ring.homeSet_succ_tail 1 k (by omega) (by omega),
    bigSep_insert (Ring.bk_not_mem_homeSet 1 k (by omega) (by decide))]
  rfl

end Pieces

section Trip

variable (c : Dev nD) (XA : Buf (Elt F) (wM.view.loc (c : Thread nD τ)))
  (i : grid0.Coords) (h1 : k0_cond1 i = 1#1)
  (arg1 : Memref sig .tc .vmem S8x128x2176 .fp8e4m3) (harg1 : arg1.IsWhole)
  (arg2 : Memref sig .tc .vmem S17x8x128 .f32) (harg2 : arg2.IsWhole)
  (arg4 : Memref sig .tc .smem S17x60 .f32) (harg4 : arg4.IsWhole)
  (arg5 : Memref sig .tc .vmem S8x128x3840 .fp8e4m3) (harg5 : arg5.IsWhole)
  (arg6 : Memref sig .tc .vmem S30x8x128 .f32) (harg6 : arg6.IsWhole)
  (arg9 : Memref sig .tc .vmem S1024x2176 .bf16) (harg9 : arg9.IsWhole)
  (g4 : Buf (Elt F) (arg4.view.loc (c : Thread nD τ)))

/-- The expanded weight. -/
abbrev wbP (f : Buf (Elt F) (wbM.view.loc (c : Thread nD τ))) : sProp 𝕄 := wbM.view.loc (c : Thread nD τ) ↦[wbM.view.set]{fullShare} f
/-- The scales of the weight. -/
abbrev wsP : sProp 𝕄 := arg4.view.loc (c : Thread nD τ) ↦[arg4.view.set]{fullShare} g4

/-- The resources before trip `k < 15`, the expanded weight at `f`. -/
def resAt (k : ℕ) (f : Buf (Elt F) (wbM.view.loc (c : Thread nD τ))) : sProp 𝕄 :=
  iprop(wbP c f ∗ wsP c arg4 g4 ∗ (∃ W, owes (c : Thread nD τ) 0 W)
    ∗ bigSep (Ring.homeSet 1 k) (homeP c XA)
    ∗ (∃ f, flightP c XA (Ring.sl 2 k) (Ring.bk 15 k) f)
    ∗ (∃ f, slotP c (Ring.sl 2 (k + 1)) f) ∗ cellP c (Ring.sl 2 (k + 1)))
/-- The resources after the last trip. -/
def resEnd (f : Buf (Elt F) (wbM.view.loc (c : Thread nD τ))) : sProp 𝕄 :=
  iprop(wbP c f ∗ wsP c arg4 g4 ∗ (∃ W, owes (c : Thread nD τ) 0 W)
    ∗ bigSep Finset.univ (homeP c XA)
    ∗ (∃ f, slotP c 0 f) ∗ (∃ f, slotP c 1 f) ∗ cellP c 0 ∗ cellP c 1)

/-- One trip of the weight loop, its parts by name. -/
abbrev tripG (k : Fin k0_t1_loop.trips) : Prog (TpuEff nD τ sig (Elt F) Λ₀ .tc) Unit :=
  k0_t1_body (F := F) i arg1 harg1 arg2 harg2 wM (Memref.isWhole_whole _) arg4 harg4 arg5 harg5 arg6 harg6 wbM (Memref.isWhole_whole _)
    landM (Memref.isWhole_whole _) arg9 harg9 cc0_scratch3 h1 k ()

omit [FloatOps F] in
/-- Chunks two apart share a slot. -/
theorem sl2_add2 (k : ℕ) : Ring.sl 2 (k + 1 + 1) = Ring.sl 2 k := by rw [show k + 1 + 1 = k + 2 from rfl, Ring.sl_add]

set_option backward.proofsInPublic true in
/-- ONE TRIP that issues the next chunk, the pieces it stores to be found. -/
def tripRun (k : Fin k0_t1_loop.trips) (hk : k.val + 1 < 15) (f : Buf (Elt F) (wbM.view.loc (c : Thread nD τ))) :
    { L : List (View.Piece (Elt F) S7680x2176 .bf16) //
      resAt c XA arg4 g4 k f ⊢ wp frame (wpE (defs₀ (F := F)) 𝒱₀ (c : Thread nD τ) none) Set.univ
        (tripG i h1 arg1 harg1 arg2 harg2 arg4 harg4 arg5 harg5 arg6 harg6 arg9 harg9 k)
        (fun _ => resAt c XA arg4 g4 (k.val + 1) (wbM.view.writes (Elt F) f L)) } := by
  refine ⟨?_, ?run⟩
  case run =>
    have h2 : k0_cond2 k = 1#1 := (cond2_iff k).2 hk
    unfold resAt
    rw [homes_here c XA k.val hk, homes_next c XA k.val hk, sl2_add2]
    iintro ⟨HO, HS, ⟨%W, HW⟩, ⟨Hg, Hrest⟩, ⟨%f0, HF0⟩, ⟨%f1, Hs1⟩, Hc1⟩
    dsimp only [tripG]
    unfold k0_t1_body
    sl_exec
    sl_step
    isplitl [HO]; · iexact HO
    isplitl [HS]; · iexact HS
    isplitl [HW]; · iexists _; iexact HW
    isplitl [HF0_src Hrest]
    · isplitl [HF0_src]; · iexact HF0_src
      iexact Hrest
    isplitl [Hc1]; · iexists f1; iexact Hc1
    isplitl [HF0_dst]; · iexists _; iexact HF0_dst
    iexact HF0

omit [FloatOps F] in
/-- Slots `k % 2` and `(k + 1) % 2` are slots 0 and 1. -/
theorem two_of_roles (P : Fin 2 → sProp 𝕄) (k : ℕ) : iprop(P (Ring.sl 2 k) ∗ P (Ring.sl 2 (k + 1))) ⊢ iprop(P 0 ∗ P 1) := by
  rcases Nat.mod_two_eq_zero_or_one k with h | h
  · have e0 : Ring.sl 2 k = 0 := Fin.ext (by simp [Ring.sl, Fin.ofNat, h])
    have e1 : Ring.sl 2 (k + 1) = 1 := Fin.ext (by simp [Ring.sl, Fin.ofNat]; omega)
    rw [e0, e1]
  · have e0 : Ring.sl 2 k = 1 := Fin.ext (by simp [Ring.sl, Fin.ofNat, h])
    have e1 : Ring.sl 2 (k + 1) = 0 := Fin.ext (by simp [Ring.sl, Fin.ofNat]; omega)
    rw [e0, e1]; iintro ⟨H1, H0⟩; isplitl [H0] <;> iassumption

set_option backward.proofsInPublic true in
/-- THE LAST TRIP, which issues nothing. -/
def lastRun (k : Fin k0_t1_loop.trips) (hk : k.val + 1 = 15) (f : Buf (Elt F) (wbM.view.loc (c : Thread nD τ))) :
    { L : List (View.Piece (Elt F) S7680x2176 .bf16) //
      resAt c XA arg4 g4 k f ⊢ wp frame (wpE (defs₀ (F := F)) 𝒱₀ (c : Thread nD τ) none) Set.univ
        (tripG i h1 arg1 harg1 arg2 harg2 arg4 harg4 arg5 harg5 arg6 harg6 arg9 harg9 k)
        (fun _ => resEnd c XA arg4 g4 (wbM.view.writes (Elt F) f L)) } := by
  refine ⟨?_, ?run⟩
  case run =>
    have h2 : ¬ k0_cond2 k = 1#1 := fun h => by have := (cond2_iff k).1 h; omega
    unfold resAt resEnd
    rw [homes_last c XA k.val hk]
    iintro ⟨HO, HS, ⟨%W, HW⟩, Hrest, ⟨%f0, HF0⟩, ⟨%f1, Hs1⟩, Hc1⟩
    dsimp only [tripG]
    unfold k0_t1_body
    sl_exec
    sl_step
    isplitl [HO]; · iexact HO
    isplitl [HS]; · iexact HS
    isplitl [HW]; · iexists _; iexact HW
    isplitl [HF0_src Hrest]
    · isplitl [HF0_src]; · iexact HF0_src
      iexact Hrest
    ihave Hs := (two_of_roles (F := F) (fun s => iprop(∃ f, slotP c s f)) k.val) $$ [HF0_dst Hs1]
    · isplitl [HF0_dst]; · iexists _; iexact HF0_dst
      iexists _; iexact Hs1
    icases Hs with ⟨Hs0, Hs1⟩
    ihave Hc := (two_of_roles (F := F) (cellP c) k.val) $$ [HF0 Hc1]
    · isplitl [HF0]; · iexact HF0
      iexact Hc1
    icases Hc with ⟨Hc0', Hc1'⟩
    isplitl [Hs0]; · iexact Hs0
    isplitl [Hs1]; · iexact Hs1
    isplitl [Hc0']; · iexact Hc0'
    iexact Hc1'

end Trip

end Cert.KernelIdeal.Hand

end
-- ==== Proof.KernelIdeal.Weight.lean ====
/-
  What a trip of the weight loop stores: each piece is the expanded weight (`wbVal`) on the piece's own rows and columns.
-/
module

public import proofs.«01_k».proof.Proof.KernelIdeal.Trip
public import Idealize.ShloMosaic.Lib.Pipeline.Value
public import Idealize.ShloMosaic.Lib.ValueLayout

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]
variable (c : Dev nD) (XA : Buf (Elt F) (wM.view.loc (c : Thread nD τ)))
  (arg4 : Memref sig .tc .smem S17x60 .f32) (g4 : Buf (Elt F) (arg4.view.loc (c : Thread nD τ)))

/-- Scale `(j, r)` of the weight: for its 128 rows from `128 r` and its 128 columns from `128 j`. -/
abbrev scaleIx (y : S7680x2176.Idx) : S17x60.Idx :=
  ix2 ⟨(y 1).val / 128, by have : (y 1).val < 2176 := (y 1).isLt; show _ < 17; omega⟩
    ⟨(y 0).val / 128, by have : (y 0).val < 7680 := (y 0).isLt; show _ < 60; omega⟩

/-- The expanded weight: the quantised element times its block's scale, the scale rounded to bfloat16 first. -/
def wbVal (y : S7680x2176.Idx) : Elt F .bf16 :=
  FloatOps.mulf (FloatOps.extf .bf16 bitsLt_fp8e4m3_bf16 (wM.view.read (Elt F) XA y))
    (Scalar.truncf .bf16 bitsLt_bf16_f32 (arg4.view.read (Elt F) g4 (scaleIx y)))

/-- The value one store writes, from its scale word and its block. -/
def wpay (s : Elt F .f32) (blk : Vec F S1x128x128 .fp8e4m3) : FVec F S128x128 .bf16 :=
  shapeCast S128x128 (mulf (extf .bf16 (shapeCast S128x128 blk shapeCasts_S1x128x128_S128x128) bitsLt_fp8e4m3_bf16)
    (broadcast S128x128 (Scalar.truncf .bf16 bitsLt_bf16_f32 s))) shapeCasts_S128x128_S128x128

/-- A block of the weight times its scale cast down, at an element. -/
theorem wpay_apply (s : Elt F .f32) (blk : Vec F S1x128x128 .fp8e4m3) (x : S128x128.Idx) :
    wpay s blk x = FloatOps.mulf (FloatOps.extf .bf16 bitsLt_fp8e4m3_bf16 (blk (Fin.cons ⟨0, Nat.one_pos⟩ x))) (Scalar.truncf .bf16 bitsLt_bf16_f32 s) := by
  unfold wpay
  rw [shapeCast_self, ← shapeCast_dropUnit_apply ![128, 128] blk shapeCasts_S1x128x128_S128x128 x]
  rfl

/-- A slot and a chunk have as many elements. -/
theorem slot_casts : S1x512x2176.ShapeCasts S512x2176 := by decide

/-- The landing buffer read at a slot's element is the slot's element. -/
theorem slot_read (s : Fin 2) (G : Buf (Elt F) (landM.view.loc (c : Thread nD τ))) (z : S512x2176.Idx) (y : S2x512x2176.Idx)
    (h0 : (y 0).val = s.val) (h1 : (y 1).val = (z 0).val) (h2 : (y 2).val = (z 1).val) :
    landM.view.read (Elt F) G y = (rslot s).view.read (Elt F) G z := by
  have e : (rslot s).view.read (Elt F) G z
      = shapeCast S512x2176 (landM.view.readAt (Elt F) (Rect.unit (s := S2x512x2176) (slotOff s) S1x512x2176.size (slotOff_inb s)).toLoadRect G) slot_casts z :=
    congrFun (Memref.read_squeeze_slice landM (Rect.unit (s := S2x512x2176) (slotOff s) S1x512x2176.size (slotOff_inb s)) (fun _ => rfl) squeezes_S1x512x2176_S512x2176 slot_casts G) z
  have e' : shapeCast S512x2176 (landM.view.readAt (Elt F) (Rect.unit (s := S2x512x2176) (slotOff s) S1x512x2176.size (slotOff_inb s)).toLoadRect G) slot_casts z
      = landM.view.readAt (Elt F) (Rect.unit (s := S2x512x2176) (slotOff s) S1x512x2176.size (slotOff_inb s)).toLoadRect G (Fin.cons ⟨0, Nat.one_pos⟩ z) :=
    shapeCast_dropUnit_apply ![512, 2176] _ _ z
  refine Eq.trans ?_ (e.trans e').symm
  show landM.view.read (Elt F) G y = landM.view.read (Elt F) G ((Rect.unit (s := S2x512x2176) (slotOff s) S1x512x2176.size (slotOff_inb s)).toLoadRect.idx (Fin.cons ⟨0, Nat.one_pos⟩ z))
  refine congrArg (landM.view.read (Elt F) G) ?_
  funext a
  apply Fin.ext
  match a with
  | ⟨0, _⟩ => show (y 0).val = s.val + 1 * 0; omega
  | ⟨1, _⟩ => show (y 1).val = 0 + 1 * (z 0).val; omega
  | ⟨2, _⟩ => show (y 2).val = 0 + 1 * (z 1).val; omega

/-- A block loaded from a slot that holds chunk `b` is the weight on that chunk's rows. -/
theorem land_box (s : Fin 2) (b : Fin 15) {off : Fin 3 → Nat} (r0 c0 : Nat) (e : off = ![s.val, r0, c0])
    (inb : ∀ a, off a + S1x128x128.size a ≤ S2x512x2176.size a) (f : Buf (Elt F) ((rslot s).view.loc (c : Thread nD τ)))
    (x : S128x128.Idx) (y : S7680x2176.Idx)
    (hy0 : (y 0).val = 512 * b.val + r0 + (x 0).val) (hy1 : (y 1).val = c0 + (x 1).val) :
    landM.view.readAt (Elt F) (Rect.unit (s := S2x512x2176) off S1x128x128.size inb).toLoadRect
      ((rslot s).view.writes (Elt F) f [⟨Rect.whole S512x2176, payload c XA b⟩]) (Fin.cons ⟨0, Nat.one_pos⟩ x)
      = wM.view.read (Elt F) XA y := by
  subst e
  have i1 : r0 + 128 ≤ 512 := inb 1
  have i2 : c0 + 128 ≤ 2176 := inb 2
  have x0 : (x 0).val < 128 := (x 0).isLt
  have x1 : (x 1).val < 128 := (x 1).isLt
  have hz : ∃ z : S512x2176.Idx, (z 0).val = r0 + (x 0).val ∧ (z 1).val = c0 + (x 1).val :=
    ⟨ix2 ⟨r0 + (x 0).val, by omega⟩ ⟨c0 + (x 1).val, by omega⟩, rfl, rfl⟩
  obtain ⟨z, hz0, hz1⟩ := hz
  have e1 : (rslot s).view.read (Elt F) ((rslot s).view.writes (Elt F) f [⟨Rect.whole S512x2176, payload c XA b⟩]) z = payload c XA b z :=
    View.read_writes_cons_hit_of_coords (rslot s).view f (Rect.whole S512x2176) (payload c XA b) [] z z
      (fun a => by show (z a).val = 0 + 1 * (z a).val; omega)
  have e2 : payload c XA b z = wM.view.read (Elt F) XA y := by
    show wM.view.read (Elt F) XA ((Rect.unit (s := S7680x2176) (grpOff b) S512x2176.size (grpOff_inb b)).emb z) = _
    refine congrArg (wM.view.read (Elt F) XA) ?_
    funext a
    apply Fin.ext
    match a with
    | ⟨0, _⟩ => show 512 * b.val + 1 * (z 0).val = (y 0).val; omega
    | ⟨1, _⟩ => show 0 + 1 * (z 1).val = (y 1).val; omega
  refine Eq.trans ?_ (e1.trans e2)
  refine slot_read c s ((rslot s).view.writes (Elt F) f [⟨Rect.whole S512x2176, payload c XA b⟩]) z _ ?_ ?_ ?_
  · show s.val + 1 * 0 = s.val; omega
  · show r0 + 1 * (x 0).val = (z 0).val; omega
  · show c0 + 1 * (x 1).val = (z 1).val; omega

/-- ONE PIECE: the store of block `(r, j)` of chunk `k` writes the expanded weight there. -/
theorem wpiece (k : Fin k0_t1_loop.trips) {r j : Nat} {off8 : Fin 3 → Nat} {off7 off9 : Fin 2 → Nat}
    (inb8 : ∀ a, off8 a + S1x128x128.size a ≤ S2x512x2176.size a) (inb7 : ∀ a, off7 a + S1x1.size a ≤ S17x60.size a)
    (inb9 : ∀ a, off9 a + S128x128.size a ≤ S7680x2176.size a)
    (q7 : off7 = ![j, 4 * k.val + r]) (q8 : off8 = ![(Ring.sl 2 k.val).val, 128 * r, 128 * j])
    (q9 : off9 = ![512 * k.val + 128 * r, 128 * j])
    (f : Buf (Elt F) ((rslot (Ring.sl 2 k.val)).view.loc (c : Thread nD τ))) (hn : 0 < S1x1.numel) (x : S128x128.Idx) :
    wpay (arg4.view.readAt (Elt F) (Rect.unit (s := S17x60) off7 S1x1.size inb7).toLoadRect g4 (Shape.Idx.first hn))
      (landM.view.readAt (Elt F) (Rect.unit (s := S2x512x2176) off8 S1x128x128.size inb8).toLoadRect
        ((rslot (Ring.sl 2 k.val)).view.writes (Elt F) f [⟨Rect.whole S512x2176, payload c XA (Ring.bk 15 k.val)⟩])) x
      = wbVal c XA arg4 g4 ((Rect.unit (s := S7680x2176) off9 S128x128.size inb9).emb x) := by
  have hk := trip_lt k
  have x0 : (x 0).val < 128 := (x 0).isLt
  have x1 : (x 1).val < 128 := (x 1).isLt
  subst q9
  have y0 : ((Rect.unit (s := S7680x2176) ![512 * k.val + 128 * r, 128 * j] S128x128.size inb9).emb x 0).val = 512 * k.val + 128 * r + (x 0).val := by
    show 512 * k.val + 128 * r + 1 * (x 0).val = _; omega
  have y1 : ((Rect.unit (s := S7680x2176) ![512 * k.val + 128 * r, 128 * j] S128x128.size inb9).emb x 1).val = 128 * j + (x 1).val := by
    show 128 * j + 1 * (x 1).val = _; omega
  rw [wpay_apply, land_box c XA (Ring.sl 2 k.val) (Ring.bk 15 k.val) (128 * r) (128 * j) q8 inb8 f x _ (by rw [y0, Ring.bk_val hk]) y1]
  unfold wbVal
  congr 2
  subst q7
  rw [View.readAt_apply]
  congr 1
  funext a
  apply Fin.ext
  have i0 : 4 * k.val + r + 1 ≤ 60 := inb7 1
  match a with
  | ⟨0, _⟩ =>
    show j + 1 * 0 = ((Rect.unit (s := S7680x2176) ![512 * k.val + 128 * r, 128 * j] S128x128.size inb9).emb x 1).val / 128
    rw [y1]; omega
  | ⟨1, _⟩ =>
    show (4 * k.val + r) + 1 * 0 = ((Rect.unit (s := S7680x2176) ![512 * k.val + 128 * r, 128 * j] S128x128.size inb9).emb x 0).val / 128
    rw [y0]; omega

end Cert.KernelIdeal.Hand

end
-- ==== Proof.KernelIdeal.Agree.lean ====
/-
  The stores of a trip of the weight loop, all together: every piece is the expanded weight on its block, and the pieces of
  chunk `k` fill exactly its rows.
-/
module

public import proofs.«01_k».proof.Proof.KernelIdeal.Weight

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]
variable (c : Dev nD) (XA : Buf (Elt F) (wM.view.loc (c : Thread nD τ)))
  (arg4 : Memref sig .tc .smem S17x60 .f32) (g4 : Buf (Elt F) (arg4.view.loc (c : Thread nD τ)))

/-- The blocks of a chunk, last stored first: `(r, j)` is rows from `128 r`, columns from `128 j`. -/
def pairs : List (Nat × Nat) := [(3, 16), (3, 15), (3, 14), (3, 13), (3, 12), (3, 11), (3, 10), (3, 9), (3, 8), (3, 7), (3, 6), (3, 5), (3, 4), (3, 3), (3, 2), (3, 1), (3, 0), (2, 16), (2, 15), (2, 14), (2, 13), (2, 12), (2, 11), (2, 10), (2, 9), (2, 8), (2, 7), (2, 6), (2, 5), (2, 4), (2, 3), (2, 2), (2, 1), (2, 0), (1, 16), (1, 15), (1, 14), (1, 13), (1, 12), (1, 11), (1, 10), (1, 9), (1, 8), (1, 7), (1, 6), (1, 5), (1, 4), (1, 3), (1, 2), (1, 1), (1, 0), (0, 16), (0, 15), (0, 14), (0, 13), (0, 12), (0, 11), (0, 10), (0, 9), (0, 8), (0, 7), (0, 6), (0, 5), (0, 4), (0, 3), (0, 2), (0, 1), (0, 0)]

/-- Every block of a chunk is in the list. -/
theorem mem_pairs : ∀ r : Fin 4, ∀ j : Fin 17, (r.val, j.val) ∈ pairs := by decide

/-- Piece `p` is the expanded weight on block `q` of chunk `k`. -/
def Good (k : Nat) (p : View.Piece (Elt F) S7680x2176 .bf16) (q : Nat × Nat) : Prop :=
  (∀ x, p.2 x = wbVal c XA arg4 g4 (p.1.emb x)) ∧
  ∀ y : S7680x2176.Idx, y ∈ p.1.set ↔ (512 * k + 128 * q.1 ≤ (y 0).val ∧ (y 0).val < 512 * k + 128 * q.1 + 128)
    ∧ 128 * q.2 ≤ (y 1).val ∧ (y 1).val < 128 * q.2 + 128

/-- A store of one block of a chunk, at offsets that name it, is the expanded weight there. -/
theorem good_mk (k : Fin k0_t1_loop.trips) {r j : Nat} {off8 : Fin 3 → Nat} {off7 off9 : Fin 2 → Nat}
    {inb8 : ∀ a, off8 a + S1x128x128.size a ≤ S2x512x2176.size a} {inb7 : ∀ a, off7 a + S1x1.size a ≤ S17x60.size a}
    {inb9 : ∀ a, off9 a + S128x128.size a ≤ S7680x2176.size a}
    {f : Buf (Elt F) ((rslot (Ring.sl 2 k.val)).view.loc (c : Thread nD τ))} {hn : 0 < S1x1.numel}
    {w : FVec F S128x128 .bf16} {s : Elt F .f32} {blk : Vec F S1x128x128 .fp8e4m3}
    (hw : w = wpay s blk)
    (hs : s = arg4.view.readAt (Elt F) (Rect.unit (s := S17x60) off7 S1x1.size inb7).toLoadRect g4 (Shape.Idx.first hn))
    (hb : blk = landM.view.readAt (Elt F) (Rect.unit (s := S2x512x2176) off8 S1x128x128.size inb8).toLoadRect
        ((rslot (Ring.sl 2 k.val)).view.writes (Elt F) f [⟨Rect.whole S512x2176, payload c XA (Ring.bk 15 k.val)⟩]))
    (q7 : off7 = ![j, 4 * k.val + r]) (q8 : off8 = ![(Ring.sl 2 k.val).val, 128 * r, 128 * j])
    (q9 : off9 = ![512 * k.val + 128 * r, 128 * j]) :
    Good c XA arg4 g4 k.val ⟨Rect.unit (s := S7680x2176) off9 S128x128.size inb9, w⟩ (r, j) := by
  subst hw hs hb
  refine ⟨fun x => wpiece c XA arg4 g4 k inb8 inb7 inb9 q7 q8 q9 f hn x, fun y => ?_⟩
  subst q9
  have hm : y ∈ (Rect.unit (s := S7680x2176) ![512 * k.val + 128 * r, 128 * j] S128x128.size inb9).set
      ↔ ∀ a : Fin 2, (![512 * k.val + 128 * r, 128 * j] : Fin 2 → Nat) a ≤ (y a).val ∧ (y a).val < (![512 * k.val + 128 * r, 128 * j] : Fin 2 → Nat) a + S128x128.size a :=
    Rect.mem_set_unit
  exact hm.trans ⟨fun h => ⟨h 0, h 1⟩, fun h => Fin.forall_fin_two.mpr h⟩

/-- Pieces that are good for all the blocks of chunk `k` extend the expanded weight by the chunk's rows. -/
theorem rows_of_good (k : Nat) (L : List (View.Piece (Elt F) S7680x2176 .bf16)) (hL : List.Forall₂ (Good c XA arg4 g4 k) L pairs)
    (f : Buf (Elt F) (wbM.view.loc (c : Thread nD τ)))
    (hf : ∀ y : S7680x2176.Idx, (y 0).val < 512 * k → wbM.view.read (Elt F) f y = wbVal c XA arg4 g4 y)
    (y : S7680x2176.Idx) (hy : (y 0).val < 512 * (k + 1)) :
    wbM.view.read (Elt F) (wbM.view.writes (Elt F) f L) y = wbVal c XA arg4 g4 y := by
  have hl : ∀ (L' : List (View.Piece (Elt F) S7680x2176 .bf16)) (P : List (Nat × Nat)), List.Forall₂ (Good c XA arg4 g4 k) L' P →
      (∀ p ∈ L', ∃ q ∈ P, Good c XA arg4 g4 k p q) ∧ ∀ q ∈ P, ∃ p ∈ L', Good c XA arg4 g4 k p q := by
    intro L' P h
    induction h with
    | nil => exact ⟨fun _ h => by simp at h, fun _ h => by simp at h⟩
    | cons h0 _ ih =>
      refine ⟨fun p hp => ?_, fun q hq => ?_⟩
      · rcases List.mem_cons.mp hp with rfl | hp
        · exact ⟨_, List.mem_cons_self, h0⟩
        · obtain ⟨q, hq, hg⟩ := ih.1 p hp; exact ⟨q, List.mem_cons_of_mem _ hq, hg⟩
      · rcases List.mem_cons.mp hq with rfl | hq
        · exact ⟨_, List.mem_cons_self, h0⟩
        · obtain ⟨p, hp, hg⟩ := ih.2 q hq; exact ⟨p, List.mem_cons_of_mem _ hp, hg⟩
  obtain ⟨h1, h2⟩ := hl L pairs hL
  by_cases hlt : (y 0).val < 512 * k
  · refine (View.read_writes_apply_of_forall_not_mem wbM.view f y L fun p hp hm => ?_).trans (hf y hlt)
    obtain ⟨q, _, hg⟩ := h1 p hp
    have := ((hg.2 y).mp hm).1
    omega
  · have y1 : (y 1).val < 2176 := (y 1).isLt
    refine View.read_writes_apply_of_pieces wbM.view f _ L (fun p hp x => ?_) y ?_
    · obtain ⟨q, _, hg⟩ := h1 p hp; exact hg.1 x
    · obtain ⟨p, hp, hg⟩ := h2 _ (mem_pairs ⟨((y 0).val - 512 * k) / 128, by omega⟩ ⟨(y 1).val / 128, by omega⟩)
      refine ⟨p, hp, (hg.2 y).mpr ?_⟩
      dsimp only
      omega

variable (i : grid0.Coords) (h1 : k0_cond1 i = 1#1)
  (arg1 : Memref sig .tc .vmem S8x128x2176 .fp8e4m3) (harg1 : arg1.IsWhole)
  (arg2 : Memref sig .tc .vmem S17x8x128 .f32) (harg2 : arg2.IsWhole) (harg4 : arg4.IsWhole)
  (arg5 : Memref sig .tc .vmem S8x128x3840 .fp8e4m3) (harg5 : arg5.IsWhole)
  (arg6 : Memref sig .tc .vmem S30x8x128 .f32) (harg6 : arg6.IsWhole)
  (arg9 : Memref sig .tc .vmem S1024x2176 .bf16) (harg9 : arg9.IsWhole)

/-- Every piece a trip that issues the next chunk stores is the expanded weight. -/
theorem tripRun_good (k : Fin k0_t1_loop.trips) (hk : k.val + 1 < 15) (f : Buf (Elt F) (wbM.view.loc (c : Thread nD τ))) :
    List.Forall₂ (Good c XA arg4 g4 k.val)
      (tripRun c XA i h1 arg1 harg1 arg2 harg2 arg4 harg4 arg5 harg5 arg6 harg6 arg9 harg9 g4 k hk f).1 pairs := by
  unfold tripRun pairs
  dsimp only
  sl_unfold_run_names
  iterate 68
    refine List.Forall₂.cons (good_mk c XA arg4 g4 k rfl rfl rfl ?_ ?_ ?_) ?_
    · exact (ClosedOff.eq (off := _)).trans rfl
    · exact (ClosedOff.eq (off := _)).trans rfl
    · exact (ClosedOff.eq (off := _)).trans rfl
  exact List.Forall₂.nil

/-- So is every piece the last trip stores. -/
theorem lastRun_good (k : Fin k0_t1_loop.trips) (hk : k.val + 1 = 15) (f : Buf (Elt F) (wbM.view.loc (c : Thread nD τ))) :
    List.Forall₂ (Good c XA arg4 g4 k.val)
      (lastRun c XA i h1 arg1 harg1 arg2 harg2 arg4 harg4 arg5 harg5 arg6 harg6 arg9 harg9 g4 k hk f).1 pairs := by
  unfold lastRun pairs
  dsimp only
  sl_unfold_run_names
  iterate 68
    refine List.Forall₂.cons (good_mk c XA arg4 g4 k rfl rfl rfl ?_ ?_ ?_) ?_
    · exact (ClosedOff.eq (off := _)).trans rfl
    · exact (ClosedOff.eq (off := _)).trans rfl
    · exact (ClosedOff.eq (off := _)).trans rfl
  exact List.Forall₂.nil

end Cert.KernelIdeal.Hand

end
-- ==== Proof.KernelIdeal.Trips.lean ====
/-
  One trip of the activation loop and one trip of the matrix product loop, run: the pieces they store.
-/
module

public import proofs.«01_k».proof.Proof.KernelIdeal.Agree

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
local notation "𝕄" => MT nD τ sig Unit (Elt F) ℕ (UU nD τ) ℕ

/-- The expanded activations, whole. -/
abbrev xbM : Memref sig .tc .vmem S1024x2176 .bf16 := Memref.whole cc0_scratch2

variable (c : Dev nD) (i : grid0.Coords)
  (arg1 : Memref sig .tc .vmem S8x128x2176 .fp8e4m3) (harg1 : arg1.IsWhole)
  (arg2 : Memref sig .tc .vmem S17x8x128 .f32) (harg2 : arg2.IsWhole)
  (arg4 : Memref sig .tc .smem S17x60 .f32) (harg4 : arg4.IsWhole)
  (arg5 : Memref sig .tc .vmem S8x128x3840 .fp8e4m3) (harg5 : arg5.IsWhole)
  (arg6 : Memref sig .tc .vmem S30x8x128 .f32) (harg6 : arg6.IsWhole)

section T2
variable (g1 : Buf (Elt F) (arg1.view.loc (c : Thread nD τ))) (g2 : Buf (Elt F) (arg2.view.loc (c : Thread nD τ)))

/-- What a trip of the activation loop works with: the block and its scales read, the expanded activations at `f`. -/
abbrev res2 (f : Buf (Elt F) (xbM.view.loc (c : Thread nD τ))) : sProp 𝕄 :=
  iprop((arg1.view.loc (c : Thread nD τ) ↦[arg1.view.set]{fullShare} g1) ∗ (arg2.view.loc (c : Thread nD τ) ↦[arg2.view.set]{fullShare} g2)
    ∗ (xbM.view.loc (c : Thread nD τ) ↦[xbM.view.set]{fullShare} f))

/-- One trip of the activation loop. -/
abbrev trip2G (k : Fin k0_t2_loop.trips) : Prog (TpuEff nD τ sig (Elt F) Λ₀ .tc) Unit :=
  k0_t2_body (F := F) i arg1 harg1 arg2 harg2 wM (Memref.isWhole_whole _) arg4 harg4 arg5 harg5 arg6 harg6 wbM (Memref.isWhole_whole _) landM (Memref.isWhole_whole _) xbM (Memref.isWhole_whole _) cc0_scratch3 k ()

set_option backward.proofsInPublic true in
/-- One trip of the activation loop, the pieces it stores to be found. -/
def trip2Run (k : Fin k0_t2_loop.trips) :
    { L : List (View.Piece (Elt F) S1024x2176 .bf16) // ∀ f, res2 c arg1 arg2 g1 g2 f ⊢
        wp frame (wpE (defs₀ (F := F)) 𝒱₀ (c : Thread nD τ) none) Set.univ
          (trip2G i arg1 harg1 arg2 harg2 arg4 harg4 arg5 harg5 arg6 harg6 k) (fun _ => res2 c arg1 arg2 g1 g2 (xbM.view.writes (Elt F) f L)) } := by
  have hk : k.val < 17 := Nat.lt_of_lt_of_le k.isLt k0_t2_abs.2.1
  refine ⟨?_, fun f => ?run⟩
  case run =>
    dsimp only [trip2G]
    unfold k0_t2_body
    iintro ⟨HR_arg1, HR_arg2, HW_arg9⟩
    sl_exec
    sl_step
    sl_close
end T2

section T3
variable (fw : Buf (Elt F) (wbM.view.loc (c : Thread nD τ))) (fx : Buf (Elt F) (xbM.view.loc (c : Thread nD τ)))

/-- What a trip of the product loop works with: the expanded weight and activations read, the two outputs at `f5`, `f6`. -/
abbrev res3 (f5 : Buf (Elt F) (arg5.view.loc (c : Thread nD τ))) (f6 : Buf (Elt F) (arg6.view.loc (c : Thread nD τ))) : sProp 𝕄 :=
  iprop((wbM.view.loc (c : Thread nD τ) ↦[wbM.view.set]{fullShare} fw) ∗ (xbM.view.loc (c : Thread nD τ) ↦[xbM.view.set]{fullShare} fx)
    ∗ (arg5.view.loc (c : Thread nD τ) ↦[arg5.view.set]{fullShare} f5) ∗ (arg6.view.loc (c : Thread nD τ) ↦[arg6.view.set]{fullShare} f6))

/-- One trip of the product loop. -/
abbrev trip3G (k : Fin k0_t3_loop.trips) : Prog (TpuEff nD τ sig (Elt F) Λ₀ .tc) Unit :=
  k0_t3_body (F := F) i arg1 harg1 arg2 harg2 wM (Memref.isWhole_whole _) arg4 harg4 arg5 harg5 arg6 harg6 wbM (Memref.isWhole_whole _) landM (Memref.isWhole_whole _) xbM (Memref.isWhole_whole _) cc0_scratch3 k ()

set_option backward.proofsInPublic true in
/-- One trip of the product loop, the pieces it stores to be found. -/
def trip3Run (k : Fin k0_t3_loop.trips) :
    Σ' (L5 : List (View.Piece (Elt F) S8x128x3840 .fp8e4m3)), { L6 : List (View.Piece (Elt F) S30x8x128 .f32) // ∀ f5 f6,
      res3 c arg5 arg6 fw fx f5 f6 ⊢
        wp frame (wpE (defs₀ (F := F)) 𝒱₀ (c : Thread nD τ) none) Set.univ
          (trip3G i arg1 harg1 arg2 harg2 arg4 harg4 arg5 harg5 arg6 harg6 k)
          (fun _ => res3 c arg5 arg6 fw fx (arg5.view.writes (Elt F) f5 L5) (arg6.view.writes (Elt F) f6 L6)) } := by
  have hk : k.val < 15 := Nat.lt_of_lt_of_le k.isLt k0_t3_abs.2.1
  refine ⟨?_, ?_, fun f5 f6 => ?run⟩
  case run =>
    dsimp only [trip3G]
    unfold k0_t3_body
    iintro ⟨HR_arg7, HR_arg9, HW_arg5, HW_arg6⟩
    sl_exec
    sl_step
    sl_close
end T3

end Cert.KernelIdeal.Hand

end
-- ==== Proof.KernelIdeal.Blocks.lean ====
/-
  What the activation loop and the product loop store, block by block, as functions of the arrays they read.
-/
module

public import proofs.«01_k».proof.Proof.KernelIdeal.Trips

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
local notation "𝕄" => MT nD τ sig Unit (Elt F) ℕ (UU nD τ) ℕ

/-! ## Lists of stores -/

/-- Piece `p` is the function `G`, on the elements block `q` has. -/
def Tile {s : Shape} {e : EltTy} {α : Type} (G : s.Idx → Elt F e) (In : α → s.Idx → Prop) (p : View.Piece (Elt F) s e) (q : α) : Prop :=
  (∀ x, p.2 x = G (p.1.emb x)) ∧ ∀ y, In q y → y ∈ p.1.set

/-- Stores that are all `G` leave `G` on their blocks, and leave it where it was. -/
theorem extend {sig' : RefSig} {κ : Kind} {sp : Space} {s : Shape} {e : EltTy} {α : Type} (v : View sig' κ sp s e) (G : s.Idx → Elt F e) (In : α → s.Idx → Prop)
    {L : List (View.Piece (Elt F) s e)} {P : List α} (hL : List.Forall₂ (Tile G In) L P)
    (f : v.ty.Contents (Elt F)) (y : s.Idx) (hy : v.read (Elt F) f y = G y ∨ ∃ q ∈ P, In q y) :
    v.read (Elt F) (v.writes (Elt F) f L) y = G y := by
  have hl : ∀ (L' : List (View.Piece (Elt F) s e)) (P' : List α), List.Forall₂ (Tile G In) L' P' →
      (∀ p ∈ L', ∀ x, p.2 x = G (p.1.emb x)) ∧ ∀ q ∈ P', ∃ p ∈ L', ∀ y, In q y → y ∈ p.1.set := by
    intro L' P' h
    induction h with
    | nil => exact ⟨fun _ h => by simp at h, fun _ h => by simp at h⟩
    | cons h0 _ ih =>
      refine ⟨fun p hp => ?_, fun q hq => ?_⟩
      · rcases List.mem_cons.mp hp with rfl | hp
        · exact h0.1
        · exact ih.1 p hp
      · rcases List.mem_cons.mp hq with rfl | hq
        · exact ⟨_, List.mem_cons_self, h0.2⟩
        · obtain ⟨p, hp, hg⟩ := ih.2 q hq; exact ⟨p, List.mem_cons_of_mem _ hp, hg⟩
  obtain ⟨h1, h2⟩ := hl L P hL
  by_cases hc : ∃ p ∈ L, y ∈ p.1.set
  · exact View.read_writes_apply_of_pieces v f G L h1 y hc
  · have hn : ∀ p ∈ L, y ∉ p.1.set := fun p hp hm => hc ⟨p, hp, hm⟩
    refine (View.read_writes_apply_of_forall_not_mem v f y L hn).trans (hy.resolve_right ?_)
    rintro ⟨q, hq, hi⟩
    obtain ⟨p, hp, hg⟩ := h2 q hq
    exact hc ⟨p, hp, hg y hi⟩

/-! ## The activations -/

/-- A block of activations times its rows' scales. -/
def xpay (v11 : Vec F S1x1x128 .f32) (v22 : Vec F S1x128x128 .fp8e4m3) : FVec F S128x128 .bf16 := k0_pay113 v11 v22

/-- A row of scales: batch `b`'s, of column block `k`. -/
abbrev srow (S : S17x8x128.Idx → Elt F .f32) (k : Fin 17) (b : Fin 8) : Vec F S1x1x128 .f32 := fun z => S (ix3 k b (z 2))
/-- Batch `b`'s activations of column block `k`. -/
abbrev xblk (X : S8x128x2176.Idx → Elt F .fp8e4m3) (k : Fin 17) (b : Fin 8) : Vec F S1x128x128 .fp8e4m3 :=
  fun z => X (ix3 b (z 1) ⟨128 * k.val + (z 2).val, by have h : (z 2).val < 128 := (z 2).isLt; show _ < 2176; omega⟩)

/-- The expanded activations of a grid point. -/
def xbVal (X : S8x128x2176.Idx → Elt F .fp8e4m3) (S : S17x8x128.Idx → Elt F .f32) (y : S1024x2176.Idx) : Elt F .bf16 :=
  xpay (srow S ⟨(y 1).val / 128, by have h : (y 1).val < 2176 := (y 1).isLt; omega⟩ ⟨(y 0).val / 128, by have h : (y 0).val < 1024 := (y 0).isLt; omega⟩)
    (xblk X ⟨(y 1).val / 128, by have h : (y 1).val < 2176 := (y 1).isLt; omega⟩ ⟨(y 0).val / 128, by have h : (y 0).val < 1024 := (y 0).isLt; omega⟩)
    (ix2 ⟨(y 0).val % 128, Nat.mod_lt _ (by decide)⟩ ⟨(y 1).val % 128, Nat.mod_lt _ (by decide)⟩)

/-- An expanded activation, read in the block that holds it. -/
theorem xbVal_at (X : S8x128x2176.Idx → Elt F .fp8e4m3) (S : S17x8x128.Idx → Elt F .f32) (y : S1024x2176.Idx) (k : Fin 17) (b : Fin 8)
    (x : S128x128.Idx) (h0 : (y 0).val = 128 * b.val + (x 0).val) (h1 : (y 1).val = 128 * k.val + (x 1).val) :
    xbVal X S y = xpay (srow S k b) (xblk X k b) x := by
  have x0 : (x 0).val < 128 := (x 0).isLt
  have x1 : (x 1).val < 128 := (x 1).isLt
  unfold xbVal
  have ek : (⟨(y 1).val / 128, by have h : (y 1).val < 2176 := (y 1).isLt; omega⟩ : Fin 17) = k := Fin.ext (by show (y 1).val / 128 = k.val; omega)
  have eb : (⟨(y 0).val / 128, by have h : (y 0).val < 1024 := (y 0).isLt; omega⟩ : Fin 8) = b := Fin.ext (by show (y 0).val / 128 = b.val; omega)
  have ex : (ix2 ⟨(y 0).val % 128, Nat.mod_lt _ (by decide)⟩ ⟨(y 1).val % 128, Nat.mod_lt _ (by decide)⟩ : S128x128.Idx) = x := by
    funext a
    apply Fin.ext
    match a with
    | ⟨0, _⟩ => show (y 0).val % 128 = (x 0).val; omega
    | ⟨1, _⟩ => show (y 1).val % 128 = (x 1).val; omega
  rw [ek, eb, ex]

/-- Block `b` of trip `k` of the activation loop. -/
abbrev In2 (k : Nat) (b : Nat) (y : S1024x2176.Idx) : Prop :=
  (128 * b ≤ (y 0).val ∧ (y 0).val < 128 * b + 128) ∧ 128 * k ≤ (y 1).val ∧ (y 1).val < 128 * k + 128

/-- A store of one block of activations leaves the expanded activations there. -/
theorem tile2 (c : Dev nD) (arg1 : Memref sig .tc .vmem S8x128x2176 .fp8e4m3) (arg2 : Memref sig .tc .vmem S17x8x128 .f32)
    (g1 : Buf (Elt F) (arg1.view.loc (c : Thread nD τ))) (g2 : Buf (Elt F) (arg2.view.loc (c : Thread nD τ)))
    (k : Fin k0_t2_loop.trips) {b : Nat} {offs offx : Fin 3 → Nat} {off : Fin 2 → Nat}
    {inbs : ∀ a, offs a + S1x1x128.size a ≤ S17x8x128.size a} {inbx : ∀ a, offx a + S1x128x128.size a ≤ S8x128x2176.size a}
    {inb : ∀ a, off a + S128x128.size a ≤ S1024x2176.size a}
    {w : FVec F S128x128 .bf16} {s : Vec F S1x1x128 .f32} {blk : Vec F S1x128x128 .fp8e4m3}
    (hw : w = xpay s blk)
    (hs : s = arg2.view.readAt (Elt F) (Rect.unit (s := S17x8x128) offs S1x1x128.size inbs).toLoadRect g2)
    (hb : blk = arg1.view.readAt (Elt F) (Rect.unit (s := S8x128x2176) offx S1x128x128.size inbx).toLoadRect g1)
    (qs : offs = ![k.val, b, 0]) (qx : offx = ![b, 0, 128 * k.val]) (q : off = ![128 * b, 128 * k.val]) :
    Tile (xbVal (arg1.view.read (Elt F) g1) (arg2.view.read (Elt F) g2)) (In2 k.val)
      ⟨Rect.unit (s := S1024x2176) off S128x128.size inb, w⟩ b := by
  have hk : k.val < 17 := Nat.lt_of_lt_of_le k.isLt k0_t2_abs.2.1
  subst hw hs hb qs qx q
  have hb : b < 8 := by have := inbs 1; change b + 1 ≤ 8 at this; omega
  refine ⟨fun x => ?_, fun y h => ?_⟩
  · have x0 : (x 0).val < 128 := (x 0).isLt
    have x1 : (x 1).val < 128 := (x 1).isLt
    rw [xbVal_at _ _ _ ⟨k.val, hk⟩ ⟨b, hb⟩ x (by show 128 * b + 1 * (x 0).val = 128 * b + (x 0).val; omega) (by show 128 * k.val + 1 * (x 1).val = 128 * k.val + (x 1).val; omega)]
    refine congrFun (congrArg₂ xpay ?_ ?_) x
    · funext z
      have z0 : (z 0).val < 1 := (z 0).isLt
      have z1 : (z 1).val < 1 := (z 1).isLt
      refine congrArg (arg2.view.read (Elt F) g2) ?_
      funext a
      apply Fin.ext
      match a with
      | ⟨0, _⟩ => show k.val + 1 * (z 0).val = k.val; omega
      | ⟨1, _⟩ => show b + 1 * (z 1).val = b; omega
      | ⟨2, _⟩ => show 0 + 1 * (z 2).val = (z 2).val; omega
    · funext z
      have z0 : (z 0).val < 1 := (z 0).isLt
      refine congrArg (arg1.view.read (Elt F) g1) ?_
      funext a
      apply Fin.ext
      match a with
      | ⟨0, _⟩ => show b + 1 * (z 0).val = b; omega
      | ⟨1, _⟩ => show 0 + 1 * (z 1).val = (z 1).val; omega
      | ⟨2, _⟩ => show 128 * k.val + 1 * (z 2).val = 128 * k.val + (z 2).val; omega
  · have hm : y ∈ (Rect.unit (s := S1024x2176) ![128 * b, 128 * k.val] S128x128.size inb).set
        ↔ ∀ a : Fin 2, (![128 * b, 128 * k.val] : Fin 2 → Nat) a ≤ (y a).val ∧ (y a).val < (![128 * b, 128 * k.val] : Fin 2 → Nat) a + S128x128.size a :=
      Rect.mem_set_unit
    exact hm.mpr (Fin.forall_fin_two.mpr h)

/-! ## The gated product and the requantiser -/

/-- The gated product of a tile: `silu(gate) * up`. -/
def hOf (x : Vec F S512x2176 .bf16) (g u : Vec F S256x2176 .bf16) : FVec F S512x256 .f32 := k0_pay126 x g u

/-- Each row's largest magnitude. -/
def amaxOf (hb : FVec F S128x128 .f32) : FVec F S128x1 .f32 :=
  shapeCast S128x1 (multiReduction .maximumf [1] S128 (absf hb) 0xFF800000#32 reduces_S128x128_S128 (.inl rfl) rfl) shapeCasts_S128_S128x1

/-- One step of the search for the exponent field: bit `m` is set if the value so formed is still at most `x`. -/
def stepF (m : BitVec 32) (x : FVec F S128x1 .f32) (f : IVec S128x1 32) : IVec S128x1 32 :=
  select (cmpf .oge x (bitcastToFloat .f32 (ori f (broadcast S128x1 m)))) (ori f (broadcast S128x1 m)) f

/-- The exponent field of each row's `amax / 448`. -/
def fieldOf (hb : FVec F S128x128 .f32) : IVec S128x1 32 :=
  let x := mulf (amaxOf hb) (broadcast S128x1 (Scalar.ofBits .f32 0x3B124925#32))
  select (cmpf .ole (amaxOf hb) (broadcast S128x1 (Scalar.ofBits .f32 0x7F7FFFFF#32)))
    (stepF 8388608#32 x (stepF 16777216#32 x (stepF 33554432#32 x (stepF 67108864#32 x (stepF 134217728#32 x (stepF 268435456#32 x
      (stepF 536870912#32 x (stepF 1073741824#32 x (broadcast S128x1 0#32)))))))))
    (broadcast S128x1 2139095040#32)

/-- Which rows have the zero field or the field of all ones. -/
def specialOf (hb : FVec F S128x128 .f32) : IVec S128x1 1 :=
  ori (cmpi .eq (fieldOf hb) (broadcast S128x1 0#32)) (cmpi .eq (fieldOf hb) (broadcast S128x1 2139095040#32))

/-- Each row's scale, a power of two. -/
def scaleOf (hb : FVec F S128x128 .f32) : FVec F S128x1 .f32 :=
  bitcastToFloat .f32 (select (specialOf hb) (broadcast S128x1 1065353216#32) (addi (fieldOf hb) (broadcast S128x1 8388608#32)))

/-- Its reciprocal. -/
def invOf (hb : FVec F S128x128 .f32) : FVec F S128x1 .f32 :=
  bitcastToFloat .f32 (select (specialOf hb) (broadcast S128x1 1065353216#32) (subi (broadcast S128x1 2122317824#32) (fieldOf hb)))

/-- The block's codes. -/
def codesOf (hb : FVec F S128x128 .f32) : FVec F S1x128x128 .fp8e4m3 := k0_pay136 hb (invOf hb)
/-- The block's scales, as a row. -/
def rowOf (hb : FVec F S128x128 .f32) : FVec F S1x1x128 .f32 := k0_pay137 (scaleOf hb)

/-- The 512 rows of expanded activations that hold batch `b`. -/
abbrev xtile (xb : S1024x2176.Idx → Elt F .bf16) (b : Fin 8) : Vec F S512x2176 .bf16 :=
  fun z => xb (ix2 ⟨512 * (b.val / 4) + (z 0).val, by have h : (z 0).val < 512 := (z 0).isLt; show _ < 1024; omega⟩ (z 1))
/-- Rows 256 n to 256 n + 255 of the expanded weight. -/
abbrev wtile (wb : S7680x2176.Idx → Elt F .bf16) (n : Fin 30) : Vec F S256x2176 .bf16 :=
  fun z => wb (ix2 ⟨256 * n.val + (z 0).val, by have h : (z 0).val < 256 := (z 0).isLt; show _ < 7680; omega⟩ (z 1))

/-- Block `(b, c)` of trip `k`'s gated product. -/
def hblk (xb : S1024x2176.Idx → Elt F .bf16) (wb : S7680x2176.Idx → Elt F .bf16) (k : Fin 15) (b : Fin 8) (c : Fin 2) : FVec F S128x128 .f32 :=
  fun z => hOf (xtile xb b) (wtile wb ⟨k.val, by omega⟩) (wtile wb ⟨k.val + 15, by omega⟩)
    (ix2 ⟨128 * (b.val % 4) + (z 0).val, by have h : (z 0).val < 128 := (z 0).isLt; show _ < 512; omega⟩
      ⟨128 * c.val + (z 1).val, by have h : (z 1).val < 128 := (z 1).isLt; show _ < 256; omega⟩)

/-- The codes of a grid point. -/
def o5Val (xb : S1024x2176.Idx → Elt F .bf16) (wb : S7680x2176.Idx → Elt F .bf16) (y : S8x128x3840.Idx) : Elt F .fp8e4m3 :=
  codesOf (hblk xb wb ⟨(y 2).val / 256, by have h : (y 2).val < 3840 := (y 2).isLt; omega⟩ (y 0) ⟨(y 2).val % 256 / 128, by omega⟩)
    (ix3 ⟨0, by decide⟩ (y 1) ⟨(y 2).val % 128, Nat.mod_lt _ (by decide)⟩)
/-- The scales of a grid point. -/
def o6Val (xb : S1024x2176.Idx → Elt F .bf16) (wb : S7680x2176.Idx → Elt F .bf16) (y : S30x8x128.Idx) : Elt F .f32 :=
  rowOf (hblk xb wb ⟨(y 0).val / 2, by have h : (y 0).val < 30 := (y 0).isLt; omega⟩ (y 1) ⟨(y 0).val % 2, by omega⟩) (ix3 ⟨0, by decide⟩ ⟨0, by decide⟩ (y 2))

/-- Block `q` of trip `k`'s codes. -/
abbrev In5 (k : Nat) (q : Nat × Nat) (y : S8x128x3840.Idx) : Prop :=
  (y 0).val = q.1 ∧ 256 * k + 128 * q.2 ≤ (y 2).val ∧ (y 2).val < 256 * k + 128 * q.2 + 128
/-- Block `q` of trip `k`'s scales. -/
abbrev In6 (k : Nat) (q : Nat × Nat) (y : S30x8x128.Idx) : Prop := (y 0).val = 2 * k + q.2 ∧ (y 1).val = q.1

/-- A block cut out of a tile's gated product is `hblk`. -/
theorem hblk_eq (c : Dev nD) (fw : Buf (Elt F) (wbM.view.loc (c : Thread nD τ))) (fx : Buf (Elt F) (xbM.view.loc (c : Thread nD τ)))
    (k : Fin 15) (b : Fin 8) (p : Fin 2) {offX offG offU offS : Fin 2 → Nat}
    {inbX : ∀ a, offX a + S512x2176.size a ≤ S1024x2176.size a} {inbG : ∀ a, offG a + S256x2176.size a ≤ S7680x2176.size a}
    {inbU : ∀ a, offU a + S256x2176.size a ≤ S7680x2176.size a} {hsl : S512x256.Slices offS S128x128}
    {hb : FVec F S128x128 .f32} {h : FVec F S512x256 .f32} {x : Vec F S512x2176 .bf16} {g u : Vec F S256x2176 .bf16}
    (he : hb = extractStridedSlice S128x128 offS h hsl) (hh : h = hOf x g u)
    (hx : x = xbM.view.readAt (Elt F) (Rect.unit (s := S1024x2176) offX S512x2176.size inbX).toLoadRect fx)
    (hg : g = wbM.view.readAt (Elt F) (Rect.unit (s := S7680x2176) offG S256x2176.size inbG).toLoadRect fw)
    (hu : u = wbM.view.readAt (Elt F) (Rect.unit (s := S7680x2176) offU S256x2176.size inbU).toLoadRect fw)
    (qX : offX = ![512 * (b.val / 4), 0]) (qG : offG = ![256 * k.val, 0]) (qU : offU = ![256 * k.val + 3840, 0])
    (qS : offS = ![128 * (b.val % 4), 128 * p.val]) :
    hb = hblk (xbM.view.read (Elt F) fx) (wbM.view.read (Elt F) fw) k b p := by
  subst qX qG qU qS
  have ex : x = xtile (xbM.view.read (Elt F) fx) b := by
    subst hx
    funext z
    refine congrArg (xbM.view.read (Elt F) fx) ?_
    funext a
    apply Fin.ext
    match a with
    | ⟨0, _⟩ => show 512 * (b.val / 4) + 1 * (z 0).val = 512 * (b.val / 4) + (z 0).val; omega
    | ⟨1, _⟩ => show 0 + 1 * (z 1).val = (z 1).val; omega
  have eg : g = wtile (wbM.view.read (Elt F) fw) ⟨k.val, by omega⟩ := by
    subst hg
    funext z
    refine congrArg (wbM.view.read (Elt F) fw) ?_
    funext a
    apply Fin.ext
    match a with
    | ⟨0, _⟩ => show 256 * k.val + 1 * (z 0).val = 256 * k.val + (z 0).val; omega
    | ⟨1, _⟩ => show 0 + 1 * (z 1).val = (z 1).val; omega
  have eu : u = wtile (wbM.view.read (Elt F) fw) ⟨k.val + 15, by omega⟩ := by
    subst hu
    funext z
    refine congrArg (wbM.view.read (Elt F) fw) ?_
    funext a
    apply Fin.ext
    match a with
    | ⟨0, _⟩ => show 256 * k.val + 3840 + 1 * (z 0).val = 256 * (k.val + 15) + (z 0).val; omega
    | ⟨1, _⟩ => show 0 + 1 * (z 1).val = (z 1).val; omega
  clear hx hg hu
  subst he hh ex eg eu
  funext z
  unfold hblk
  exact extractStridedSlice_apply _ _ _ _ _ (fun a => match a with
    | ⟨0, _⟩ => rfl
    | ⟨1, _⟩ => rfl)

/-- A code, read in the block that holds it. -/
theorem o5Val_at (xb : S1024x2176.Idx → Elt F .bf16) (wb : S7680x2176.Idx → Elt F .bf16) (y : S8x128x3840.Idx) (k : Fin 15) (b : Fin 8) (p : Fin 2)
    (x : S1x128x128.Idx) (h0 : (y 0).val = b.val) (h1 : (y 1).val = (x 1).val) (h2 : (y 2).val = 256 * k.val + 128 * p.val + (x 2).val) :
    o5Val xb wb y = codesOf (hblk xb wb k b p) x := by
  have x0 : (x 0).val < 1 := (x 0).isLt
  have x2 : (x 2).val < 128 := (x 2).isLt
  have hp := p.isLt
  unfold o5Val
  have ek : (⟨(y 2).val / 256, by have h : (y 2).val < 3840 := (y 2).isLt; omega⟩ : Fin 15) = k := Fin.ext (by show (y 2).val / 256 = k.val; omega)
  have eb : y 0 = b := Fin.ext h0
  have ep : (⟨(y 2).val % 256 / 128, by omega⟩ : Fin 2) = p := Fin.ext (by show (y 2).val % 256 / 128 = p.val; omega)
  have ex : (ix3 ⟨0, by decide⟩ (y 1) ⟨(y 2).val % 128, Nat.mod_lt _ (by decide)⟩ : S1x128x128.Idx) = x := by
    funext a
    apply Fin.ext
    match a with
    | ⟨0, _⟩ => show 0 = (x 0).val; omega
    | ⟨1, _⟩ => exact h1
    | ⟨2, _⟩ => show (y 2).val % 128 = (x 2).val; omega
  rw [ek, eb, ep, ex]

/-- A scale, read in the block that holds it. -/
theorem o6Val_at (xb : S1024x2176.Idx → Elt F .bf16) (wb : S7680x2176.Idx → Elt F .bf16) (y : S30x8x128.Idx) (k : Fin 15) (b : Fin 8) (p : Fin 2)
    (x : S1x1x128.Idx) (h0 : (y 0).val = 2 * k.val + p.val) (h1 : (y 1).val = b.val) (h2 : (y 2).val = (x 2).val) :
    o6Val xb wb y = rowOf (hblk xb wb k b p) x := by
  have x0 : (x 0).val < 1 := (x 0).isLt
  have x1 : (x 1).val < 1 := (x 1).isLt
  have hp := p.isLt
  unfold o6Val
  have ek : (⟨(y 0).val / 2, by have h : (y 0).val < 30 := (y 0).isLt; omega⟩ : Fin 15) = k := Fin.ext (by show (y 0).val / 2 = k.val; omega)
  have eb : y 1 = b := Fin.ext h1
  have ep : (⟨(y 0).val % 2, by omega⟩ : Fin 2) = p := Fin.ext (by show (y 0).val % 2 = p.val; omega)
  have ex : (ix3 ⟨0, by decide⟩ ⟨0, by decide⟩ (y 2) : S1x1x128.Idx) = x := by
    funext a
    apply Fin.ext
    match a with
    | ⟨0, _⟩ => show 0 = (x 0).val; omega
    | ⟨1, _⟩ => show 0 = (x 1).val; omega
    | ⟨2, _⟩ => exact h2
  rw [ek, eb, ep, ex]

/-- The codes a trip of the product loop stores for block `(b, p)`. -/
theorem tile5 (k : Fin k0_t3_loop.trips) (xb : S1024x2176.Idx → Elt F .bf16) (wb : S7680x2176.Idx → Elt F .bf16) {b p : Nat} (hb : b < 8) (hp : p < 2) (hk : k.val < 15)
    {off : Fin 3 → Nat} {inb : ∀ a, off a + S1x128x128.size a ≤ S8x128x3840.size a} {w : FVec F S1x128x128 .fp8e4m3} {h : FVec F S128x128 .f32}
    (hw : w = codesOf h) (hh : h = hblk xb wb ⟨k.val, hk⟩ ⟨b, hb⟩ ⟨p, hp⟩) (q : off = ![b, 0, 256 * k.val + 128 * p]) :
    Tile (o5Val xb wb) (In5 k.val) ⟨Rect.unit (s := S8x128x3840) off S1x128x128.size inb, w⟩ (b, p) := by
  subst hw hh q
  refine ⟨fun x => ?_, fun y h => ?_⟩
  · have x0 : (x 0).val < 1 := (x 0).isLt
    refine (o5Val_at xb wb _ ⟨k.val, hk⟩ ⟨b, hb⟩ ⟨p, hp⟩ x ?_ ?_ ?_).symm
    · show b + 1 * (x 0).val = b; omega
    · show 0 + 1 * (x 1).val = (x 1).val; omega
    · show 256 * k.val + 128 * p + 1 * (x 2).val = 256 * k.val + 128 * p + (x 2).val; omega
  · have hm : y ∈ (Rect.unit (s := S8x128x3840) ![b, 0, 256 * k.val + 128 * p] S1x128x128.size inb).set
        ↔ ∀ a : Fin 3, (![b, 0, 256 * k.val + 128 * p] : Fin 3 → Nat) a ≤ (y a).val ∧ (y a).val < (![b, 0, 256 * k.val + 128 * p] : Fin 3 → Nat) a + S1x128x128.size a :=
      Rect.mem_set_unit
    have y1 : (y 1).val < 128 := (y 1).isLt
    refine hm.mpr fun a => ?_
    obtain ⟨h0, h1, h2⟩ := h
    match a with
    | ⟨0, _⟩ => show b ≤ (y 0).val ∧ (y 0).val < b + 1; dsimp only at h0; omega
    | ⟨1, _⟩ => show 0 ≤ (y 1).val ∧ (y 1).val < 0 + 128; omega
    | ⟨2, _⟩ => exact ⟨h1, h2⟩

/-- The scales a trip of the product loop stores for block `(b, p)`. -/
theorem tile6 (k : Fin k0_t3_loop.trips) (xb : S1024x2176.Idx → Elt F .bf16) (wb : S7680x2176.Idx → Elt F .bf16) {b p : Nat} (hb : b < 8) (hp : p < 2) (hk : k.val < 15)
    {off : Fin 3 → Nat} {inb : ∀ a, off a + S1x1x128.size a ≤ S30x8x128.size a} {w : FVec F S1x1x128 .f32} {h : FVec F S128x128 .f32}
    (hw : w = rowOf h) (hh : h = hblk xb wb ⟨k.val, hk⟩ ⟨b, hb⟩ ⟨p, hp⟩) (q : off = ![2 * k.val + p, b, 0]) :
    Tile (o6Val xb wb) (In6 k.val) ⟨Rect.unit (s := S30x8x128) off S1x1x128.size inb, w⟩ (b, p) := by
  subst hw hh q
  refine ⟨fun x => ?_, fun y h => ?_⟩
  · have x0 : (x 0).val < 1 := (x 0).isLt
    have x1 : (x 1).val < 1 := (x 1).isLt
    refine (o6Val_at xb wb _ ⟨k.val, hk⟩ ⟨b, hb⟩ ⟨p, hp⟩ x ?_ ?_ ?_).symm
    · show 2 * k.val + p + 1 * (x 0).val = 2 * k.val + p; omega
    · show b + 1 * (x 1).val = b; omega
    · show 0 + 1 * (x 2).val = (x 2).val; omega
  · have hm : y ∈ (Rect.unit (s := S30x8x128) ![2 * k.val + p, b, 0] S1x1x128.size inb).set
        ↔ ∀ a : Fin 3, (![2 * k.val + p, b, 0] : Fin 3 → Nat) a ≤ (y a).val ∧ (y a).val < (![2 * k.val + p, b, 0] : Fin 3 → Nat) a + S1x1x128.size a :=
      Rect.mem_set_unit
    have y2 : (y 2).val < 128 := (y 2).isLt
    refine hm.mpr fun a => ?_
    obtain ⟨h0, h1⟩ := h
    dsimp only at h0 h1
    match a with
    | ⟨0, _⟩ => show 2 * k.val + p ≤ (y 0).val ∧ (y 0).val < 2 * k.val + p + 1; omega
    | ⟨1, _⟩ => show b ≤ (y 1).val ∧ (y 1).val < b + 1; omega
    | ⟨2, _⟩ => show 0 ≤ (y 2).val ∧ (y 2).val < 0 + 128; omega

end Cert.KernelIdeal.Hand

end
-- ==== Proof.KernelIdeal.Stores.lean ====
/-
  Every store of the activation loop and of the product loop is the block `Blocks` says.
-/
module

public import proofs.«01_k».proof.Proof.KernelIdeal.Blocks

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
local notation "𝕄" => MT nD τ sig Unit (Elt F) ℕ (UU nD τ) ℕ

variable (c : Dev nD) (i : grid0.Coords)
  (arg1 : Memref sig .tc .vmem S8x128x2176 .fp8e4m3) (harg1 : arg1.IsWhole)
  (arg2 : Memref sig .tc .vmem S17x8x128 .f32) (harg2 : arg2.IsWhole)
  (arg4 : Memref sig .tc .smem S17x60 .f32) (harg4 : arg4.IsWhole)
  (arg5 : Memref sig .tc .vmem S8x128x3840 .fp8e4m3) (harg5 : arg5.IsWhole)
  (arg6 : Memref sig .tc .vmem S30x8x128 .f32) (harg6 : arg6.IsWhole)

/-- Every piece a trip of the activation loop stores is the expanded activations. -/
theorem trip2Run_good (g1 : Buf (Elt F) (arg1.view.loc (c : Thread nD τ))) (g2 : Buf (Elt F) (arg2.view.loc (c : Thread nD τ))) (k : Fin k0_t2_loop.trips) :
    List.Forall₂ (Tile (xbVal (arg1.view.read (Elt F) g1) (arg2.view.read (Elt F) g2)) (In2 k.val))
      (trip2Run c i arg1 harg1 arg2 harg2 arg4 harg4 arg5 harg5 arg6 harg6 g1 g2 k).1 [7, 6, 5, 4, 3, 2, 1, 0] := by
  unfold trip2Run
  dsimp only
  sl_unfold_run_names
  iterate 8
    refine List.Forall₂.cons (tile2 c arg1 arg2 g1 g2 k rfl rfl rfl ?_ ?_ ?_) ?_
    · exact (ClosedOff.eq (off := _)).trans rfl
    · exact (ClosedOff.eq (off := _)).trans rfl
    · exact (ClosedOff.eq (off := _)).trans rfl
  exact List.Forall₂.nil

/-- A block lies in its tile. -/
theorem slices_at (b : Nat) {p : Nat} (hp : p < 2) : S512x256.Slices ![128 * (b % 4), 128 * p] S128x128 := by
  refine ⟨rfl, fun a => ?_⟩
  match a with
  | ⟨0, _⟩ => show 128 * (b % 4) + 128 ≤ 512; omega
  | ⟨1, _⟩ => show 128 * p + 128 ≤ 256; omega

/-- `tile5` from the loads of the trip. -/
theorem tile5_at (fw : Buf (Elt F) (wbM.view.loc (c : Thread nD τ))) (fx : Buf (Elt F) (xbM.view.loc (c : Thread nD τ)))
    (k : Fin k0_t3_loop.trips) {b p : Nat} (hb : b < 8) (hp : p < 2)
    {off : Fin 3 → Nat} {inb : ∀ a, off a + S1x128x128.size a ≤ S8x128x3840.size a} {w : FVec F S1x128x128 .fp8e4m3}
    {offX offG offU : Fin 2 → Nat}
    {inbX : ∀ a, offX a + S512x2176.size a ≤ S1024x2176.size a} {inbG : ∀ a, offG a + S256x2176.size a ≤ S7680x2176.size a}
    {inbU : ∀ a, offU a + S256x2176.size a ≤ S7680x2176.size a}
    (hw : w = codesOf (extractStridedSlice S128x128 ![128 * (b % 4), 128 * p]
      (hOf (xbM.view.readAt (Elt F) (Rect.unit (s := S1024x2176) offX S512x2176.size inbX).toLoadRect fx)
        (wbM.view.readAt (Elt F) (Rect.unit (s := S7680x2176) offG S256x2176.size inbG).toLoadRect fw)
        (wbM.view.readAt (Elt F) (Rect.unit (s := S7680x2176) offU S256x2176.size inbU).toLoadRect fw)) (slices_at b hp)))
    (qX : offX = ![512 * (b / 4), 0]) (qG : offG = ![256 * k.val, 0]) (qU : offU = ![256 * k.val + 3840, 0])
    (q : off = ![b, 0, 256 * k.val + 128 * p]) :
    Tile (o5Val (xbM.view.read (Elt F) fx) (wbM.view.read (Elt F) fw)) (In5 k.val) ⟨Rect.unit (s := S8x128x3840) off S1x128x128.size inb, w⟩ (b, p) :=
  tile5 k _ _ hb hp (Nat.lt_of_lt_of_le k.isLt k0_t3_abs.2.1) hw
    (hblk_eq c fw fx ⟨k.val, Nat.lt_of_lt_of_le k.isLt k0_t3_abs.2.1⟩ ⟨b, hb⟩ ⟨p, hp⟩ rfl rfl rfl rfl rfl qX qG qU rfl) q

/-- `tile6` from the loads of the trip. -/
theorem tile6_at (fw : Buf (Elt F) (wbM.view.loc (c : Thread nD τ))) (fx : Buf (Elt F) (xbM.view.loc (c : Thread nD τ)))
    (k : Fin k0_t3_loop.trips) {b p : Nat} (hb : b < 8) (hp : p < 2)
    {off : Fin 3 → Nat} {inb : ∀ a, off a + S1x1x128.size a ≤ S30x8x128.size a} {w : FVec F S1x1x128 .f32}
    {offX offG offU : Fin 2 → Nat}
    {inbX : ∀ a, offX a + S512x2176.size a ≤ S1024x2176.size a} {inbG : ∀ a, offG a + S256x2176.size a ≤ S7680x2176.size a}
    {inbU : ∀ a, offU a + S256x2176.size a ≤ S7680x2176.size a}
    (hw : w = rowOf (extractStridedSlice S128x128 ![128 * (b % 4), 128 * p]
      (hOf (xbM.view.readAt (Elt F) (Rect.unit (s := S1024x2176) offX S512x2176.size inbX).toLoadRect fx)
        (wbM.view.readAt (Elt F) (Rect.unit (s := S7680x2176) offG S256x2176.size inbG).toLoadRect fw)
        (wbM.view.readAt (Elt F) (Rect.unit (s := S7680x2176) offU S256x2176.size inbU).toLoadRect fw)) (slices_at b hp)))
    (qX : offX = ![512 * (b / 4), 0]) (qG : offG = ![256 * k.val, 0]) (qU : offU = ![256 * k.val + 3840, 0])
    (q : off = ![2 * k.val + p, b, 0]) :
    Tile (o6Val (xbM.view.read (Elt F) fx) (wbM.view.read (Elt F) fw)) (In6 k.val) ⟨Rect.unit (s := S30x8x128) off S1x1x128.size inb, w⟩ (b, p) :=
  tile6 k _ _ hb hp (Nat.lt_of_lt_of_le k.isLt k0_t3_abs.2.1) hw
    (hblk_eq c fw fx ⟨k.val, Nat.lt_of_lt_of_le k.isLt k0_t3_abs.2.1⟩ ⟨b, hb⟩ ⟨p, hp⟩ rfl rfl rfl rfl rfl qX qG qU rfl) q

/-- The blocks of a trip of the product loop, last stored first. -/
def pairs3 : List (Nat × Nat) := [(7, 1), (7, 0), (6, 1), (6, 0), (5, 1), (5, 0), (4, 1), (4, 0), (3, 1), (3, 0), (2, 1), (2, 0), (1, 1), (1, 0), (0, 1), (0, 0)]

set_option maxRecDepth 100000 in
/-- Every piece of codes a trip of the product loop stores is its block's codes. -/
theorem trip3Run_good5 (fw : Buf (Elt F) (wbM.view.loc (c : Thread nD τ))) (fx : Buf (Elt F) (xbM.view.loc (c : Thread nD τ))) (k : Fin k0_t3_loop.trips) :
    List.Forall₂ (Tile (o5Val (xbM.view.read (Elt F) fx) (wbM.view.read (Elt F) fw)) (In5 k.val))
      (trip3Run c i arg1 harg1 arg2 harg2 arg4 harg4 arg5 harg5 arg6 harg6 fw fx k).1 pairs3 := by
  unfold trip3Run pairs3
  dsimp only
  sl_unfold_run_names
  iterate 16
    refine List.Forall₂.cons (tile5_at c fw fx k (by decide) (by decide) rfl ?_ ?_ ?_ ?_) ?_
    · first | rfl | exact (ClosedOff.eq (off := _)).trans rfl
    · exact (ClosedOff.eq (off := _)).trans rfl
    · exact (ClosedOff.eq (off := _)).trans rfl
    · exact (ClosedOff.eq (off := _)).trans rfl
  exact List.Forall₂.nil

set_option maxRecDepth 100000 in
/-- Every piece of scales a trip of the product loop stores is its block's scales. -/
theorem trip3Run_good6 (fw : Buf (Elt F) (wbM.view.loc (c : Thread nD τ))) (fx : Buf (Elt F) (xbM.view.loc (c : Thread nD τ))) (k : Fin k0_t3_loop.trips) :
    List.Forall₂ (Tile (o6Val (xbM.view.read (Elt F) fx) (wbM.view.read (Elt F) fw)) (In6 k.val))
      (trip3Run c i arg1 harg1 arg2 harg2 arg4 harg4 arg5 harg5 arg6 harg6 fw fx k).2.1 pairs3 := by
  unfold trip3Run pairs3
  dsimp only
  sl_unfold_run_names
  iterate 16
    refine List.Forall₂.cons (tile6_at c fw fx k (by decide) (by decide) rfl ?_ ?_ ?_ ?_) ?_
    · first | rfl | exact (ClosedOff.eq (off := _)).trans rfl
    · exact (ClosedOff.eq (off := _)).trans rfl
    · exact (ClosedOff.eq (off := _)).trans rfl
    · exact (ClosedOff.eq (off := _)).trans rfl
  exact List.Forall₂.nil

end Cert.KernelIdeal.Hand

end
-- ==== Proof.KernelIdeal.Loops.lean ====
/-
  The three counted loops of the kernel body, each by an invariant that says which part of its buffer is done.
-/
module

public import proofs.«01_k».proof.Proof.KernelIdeal.Agree
public import proofs.«01_k».proof.Proof.KernelIdeal.Stores

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
local notation "𝕄" => MT nD τ sig Unit (Elt F) ℕ (UU nD τ) ℕ

variable (c : Dev nD) (i : grid0.Coords)
  (arg1 : Memref sig .tc .vmem S8x128x2176 .fp8e4m3) (harg1 : arg1.IsWhole)
  (arg2 : Memref sig .tc .vmem S17x8x128 .f32) (harg2 : arg2.IsWhole)
  (arg4 : Memref sig .tc .smem S17x60 .f32) (harg4 : arg4.IsWhole)
  (arg5 : Memref sig .tc .vmem S8x128x3840 .fp8e4m3) (harg5 : arg5.IsWhole)
  (arg6 : Memref sig .tc .vmem S30x8x128 .f32) (harg6 : arg6.IsWhole)

omit [FloatOps F] in
/-- Equal assertions entail each other. -/
theorem ent_of_eq {P Q : sProp 𝕄} (e : P = Q) : P ⊢ Q := e ▸ .rfl

/-- The weight loop makes 15 trips, -/
theorem trips1 : k0_t1_loop.trips = 15 := by decide +kernel
/-- the activation loop 17, -/
theorem trips2 : k0_t2_loop.trips = 17 := by decide +kernel
/-- the product loop 15. -/
theorem trips3 : k0_t3_loop.trips = 15 := by decide +kernel

section L1
variable (XA : Buf (Elt F) (wM.view.loc (c : Thread nD τ))) (g4 : Buf (Elt F) (arg4.view.loc (c : Thread nD τ))) (h1 : k0_cond1 i = 1#1)

/-- Before trip `k` of the weight loop, the rows of the first `k` chunks are expanded; after the last, all are. -/
def st1 (k : Nat) : sProp 𝕄 :=
  if k < 15 then iprop(∃ f, ⌜∀ y : S7680x2176.Idx, (y 0).val < 512 * k → wbM.view.read (Elt F) f y = wbVal c XA arg4 g4 y⌝ ∗ resAt c XA arg4 g4 k f)
  else iprop(∃ f, ⌜∀ y : S7680x2176.Idx, wbM.view.read (Elt F) f y = wbVal c XA arg4 g4 y⌝ ∗ resEnd c XA arg4 g4 f)

/-- One trip of the weight loop carries its invariant on. -/
theorem trip1 (k : Fin k0_t1_loop.trips) :
    st1 c arg4 XA g4 k ⊢ wp frame (wpE (defs₀ (F := F)) 𝒱₀ (c : Thread nD τ) none) Set.univ (tripG i h1 arg1 harg1 arg2 harg2 arg4 harg4 arg5 harg5 arg6 harg6 xbM (Memref.isWhole_whole _) k)
      (fun _ => st1 c arg4 XA g4 (k.val + 1)) := by
  have hk : k.val < 15 := trip_lt k
  unfold st1
  rw [if_pos hk]
  by_cases hl : k.val + 1 < 15
  · rw [if_pos hl]
    iintro ⟨%f, %hf, H⟩
    iapply (wp_wand_r frame (wpE (defs₀ (F := F)) 𝒱₀ (c : Thread nD τ) none) Set.univ)
    isplitl [H]
    · iapply (tripRun c XA i h1 arg1 harg1 arg2 harg2 arg4 harg4 arg5 harg5 arg6 harg6 xbM (Memref.isWhole_whole _) g4 k hl f).2; iexact H
    · iintro %_ H
      iexists _
      isplitr
      · ipureintro
        exact fun y hy => rows_of_good c XA arg4 g4 k.val _
          (tripRun_good c XA arg4 g4 i h1 arg1 harg1 arg2 harg2 harg4 arg5 harg5 arg6 harg6 xbM (Memref.isWhole_whole _) k hl f) f hf y hy
      · iexact H
  · rw [if_neg hl]
    iintro ⟨%f, %hf, H⟩
    iapply (wp_wand_r frame (wpE (defs₀ (F := F)) 𝒱₀ (c : Thread nD τ) none) Set.univ)
    isplitl [H]
    · iapply (lastRun c XA i h1 arg1 harg1 arg2 harg2 arg4 harg4 arg5 harg5 arg6 harg6 xbM (Memref.isWhole_whole _) g4 k (by omega) f).2; iexact H
    · iintro %_ H
      iexists _
      isplitr
      · ipureintro
        exact fun y => rows_of_good c XA arg4 g4 k.val _
          (lastRun_good c XA arg4 g4 i h1 arg1 harg1 arg2 harg2 harg4 arg5 harg5 arg6 harg6 xbM (Memref.isWhole_whole _) k (by omega) f) f hf y
          (by have h : (y 0).val < 7680 := (y 0).isLt; omega)
      · iexact H

/-- The weight loop. -/
theorem loop1 : st1 c arg4 XA g4 0 ⊢ wp frame (wpE (defs₀ (F := F)) 𝒱₀ (c : Thread nD τ) none) Set.univ (Scf.Loop.for k0_t1_loop (k0_t1_ok i h1) ⟨⟩
      (fun k (_ : Unit) => tripG i h1 arg1 harg1 arg2 harg2 arg4 harg4 arg5 harg5 arg6 harg6 xbM (Memref.isWhole_whole _) k))
      (fun _ => iprop(∃ f, ⌜∀ y : S7680x2176.Idx, wbM.view.read (Elt F) f y = wbVal c XA arg4 g4 y⌝ ∗ resEnd c XA arg4 g4 f)) := by
  iintro H
  iapply (Scf.wp_for frame (wpE (defs₀ (F := F)) 𝒱₀ (c : Thread nD τ) none) Set.univ k0_t1_loop.lb k0_t1_loop.ub k0_t1_loop.st _ _ _
    (fun k _ => st1 c arg4 XA g4 k) (fun k _ => trip1 c i arg1 harg1 arg2 harg2 arg4 harg4 arg5 harg5 arg6 harg6 XA g4 h1 k))
  isplitl [H]
  · iexact H
  · iintro %_ H
    ihave H' := (ent_of_eq (show st1 c arg4 XA g4 k0_t1_loop.trips = iprop(∃ f, ⌜∀ y : S7680x2176.Idx, wbM.view.read (Elt F) f y = wbVal c XA arg4 g4 y⌝ ∗ resEnd c XA arg4 g4 f)
      from by rw [trips1]; exact if_neg (by decide))) $$ H
    iexact H'
end L1

section L2
variable (g1 : Buf (Elt F) (arg1.view.loc (c : Thread nD τ))) (g2 : Buf (Elt F) (arg2.view.loc (c : Thread nD τ)))

/-- Before trip `k` of the activation loop, the first `128 k` columns are expanded. -/
def st2 (k : Nat) : sProp 𝕄 :=
  iprop(∃ f, ⌜∀ y : S1024x2176.Idx, (y 1).val < 128 * k → xbM.view.read (Elt F) f y = xbVal (arg1.view.read (Elt F) g1) (arg2.view.read (Elt F) g2) y⌝
    ∗ res2 c arg1 arg2 g1 g2 f)

/-- Every batch is in the list. -/
theorem mem_eight : ∀ b : Fin 8, b.val ∈ [7, 6, 5, 4, 3, 2, 1, 0] := by decide

/-- One trip of the activation loop carries its invariant on. -/
theorem trip2 (k : Fin k0_t2_loop.trips) :
    st2 c arg1 arg2 g1 g2 k ⊢ wp frame (wpE (defs₀ (F := F)) 𝒱₀ (c : Thread nD τ) none) Set.univ (trip2G i arg1 harg1 arg2 harg2 arg4 harg4 arg5 harg5 arg6 harg6 k) (fun _ => st2 c arg1 arg2 g1 g2 (k.val + 1)) := by
  unfold st2
  iintro ⟨%f, %hf, H⟩
  iapply (wp_wand_r frame (wpE (defs₀ (F := F)) 𝒱₀ (c : Thread nD τ) none) Set.univ)
  isplitl [H]
  · iapply ((trip2Run c i arg1 harg1 arg2 harg2 arg4 harg4 arg5 harg5 arg6 harg6 g1 g2 k).2 f); iexact H
  · iintro %_ H
    iexists _
    isplitr
    · ipureintro
      refine fun y hy => extend xbM.view _ _ (trip2Run_good c i arg1 harg1 arg2 harg2 arg4 harg4 arg5 harg5 arg6 harg6 g1 g2 k) f y ?_
      by_cases h : (y 1).val < 128 * k.val
      · exact Or.inl (hf y h)
      · have h0 : (y 0).val < 1024 := (y 0).isLt
        refine Or.inr ⟨(y 0).val / 128, mem_eight ⟨(y 0).val / 128, by omega⟩, ?_⟩
        refine ⟨⟨?_, ?_⟩, ⟨?_, ?_⟩⟩
        · show 128 * ((y 0).val / 128) ≤ (y 0).val; omega
        · show (y 0).val < 128 * ((y 0).val / 128) + 128; omega
        · show 128 * k.val ≤ (y 1).val; omega
        · show (y 1).val < 128 * k.val + 128; omega
    · iexact H

/-- The activation loop. -/
theorem loop2 : st2 c arg1 arg2 g1 g2 0 ⊢ wp frame (wpE (defs₀ (F := F)) 𝒱₀ (c : Thread nD τ) none) Set.univ (Scf.Loop.for k0_t2_loop k0_t2_ok ⟨⟩
      (fun k (_ : Unit) => trip2G i arg1 harg1 arg2 harg2 arg4 harg4 arg5 harg5 arg6 harg6 k))
      (fun _ => iprop(∃ f, ⌜∀ y : S1024x2176.Idx, xbM.view.read (Elt F) f y = xbVal (arg1.view.read (Elt F) g1) (arg2.view.read (Elt F) g2) y⌝
        ∗ res2 c arg1 arg2 g1 g2 f)) := by
  iintro H
  iapply (Scf.wp_for frame (wpE (defs₀ (F := F)) 𝒱₀ (c : Thread nD τ) none) Set.univ k0_t2_loop.lb k0_t2_loop.ub k0_t2_loop.st _ _ _
    (fun k _ => st2 c arg1 arg2 g1 g2 k) (fun k _ => trip2 c i arg1 harg1 arg2 harg2 arg4 harg4 arg5 harg5 arg6 harg6 g1 g2 k))
  isplitl [H]
  · iexact H
  · iintro %_ H
    unfold st2
    icases H with ⟨%f, %hf, H⟩
    iexists f
    isplitr
    · ipureintro
      exact fun y => hf y (by have e : k0_t2_loop.trips = 17 := trips2; have h : (y 1).val < 2176 := (y 1).isLt; show (y 1).val < 128 * k0_t2_loop.trips; omega)
    · iexact H
end L2

section L3
variable (fw : Buf (Elt F) (wbM.view.loc (c : Thread nD τ))) (fx : Buf (Elt F) (xbM.view.loc (c : Thread nD τ)))

/-- Before trip `k` of the product loop, the first `2 k` blocks of each output are stored. -/
def st3 (k : Nat) : sProp 𝕄 :=
  iprop(∃ f5 f6, ⌜(∀ y : S8x128x3840.Idx, (y 2).val < 256 * k → arg5.view.read (Elt F) f5 y = o5Val (xbM.view.read (Elt F) fx) (wbM.view.read (Elt F) fw) y)
      ∧ (∀ y : S30x8x128.Idx, (y 0).val < 2 * k → arg6.view.read (Elt F) f6 y = o6Val (xbM.view.read (Elt F) fx) (wbM.view.read (Elt F) fw) y)⌝
    ∗ res3 c arg5 arg6 fw fx f5 f6)

/-- Every block of a trip's products is in the list. -/
theorem mem_pairs3 : ∀ b : Fin 8, ∀ p : Fin 2, (b.val, p.val) ∈ pairs3 := by decide

/-- One trip of the product loop carries its invariant on. -/
theorem trip3 (k : Fin k0_t3_loop.trips) :
    st3 c arg5 arg6 fw fx k ⊢ wp frame (wpE (defs₀ (F := F)) 𝒱₀ (c : Thread nD τ) none) Set.univ (trip3G i arg1 harg1 arg2 harg2 arg4 harg4 arg5 harg5 arg6 harg6 k) (fun _ => st3 c arg5 arg6 fw fx (k.val + 1)) := by
  unfold st3
  iintro ⟨%f5, %f6, %hf, H⟩
  iapply (wp_wand_r frame (wpE (defs₀ (F := F)) 𝒱₀ (c : Thread nD τ) none) Set.univ)
  isplitl [H]
  · iapply ((trip3Run c i arg1 harg1 arg2 harg2 arg4 harg4 arg5 harg5 arg6 harg6 fw fx k).2.2 f5 f6); iexact H
  · iintro %_ H
    iexists _, _
    isplitr
    · ipureintro
      refine ⟨fun y hy => extend arg5.view _ _ (trip3Run_good5 c i arg1 harg1 arg2 harg2 arg4 harg4 arg5 harg5 arg6 harg6 fw fx k) f5 y ?_,
        fun y hy => extend arg6.view _ _ (trip3Run_good6 c i arg1 harg1 arg2 harg2 arg4 harg4 arg5 harg5 arg6 harg6 fw fx k) f6 y ?_⟩
      · by_cases h : (y 2).val < 256 * k.val
        · exact Or.inl (hf.1 y h)
        · have h0 : (y 0).val < 8 := (y 0).isLt
          refine Or.inr ⟨((y 0).val, (y 2).val % 256 / 128), mem_pairs3 ⟨(y 0).val, h0⟩ ⟨(y 2).val % 256 / 128, by omega⟩, ?_⟩
          refine ⟨rfl, ?_, ?_⟩
          · show 256 * k.val + 128 * ((y 2).val % 256 / 128) ≤ (y 2).val; omega
          · show (y 2).val < 256 * k.val + 128 * ((y 2).val % 256 / 128) + 128; omega
      · by_cases h : (y 0).val < 2 * k.val
        · exact Or.inl (hf.2 y h)
        · have h0 : (y 1).val < 8 := (y 1).isLt
          refine Or.inr ⟨((y 1).val, (y 0).val % 2), mem_pairs3 ⟨(y 1).val, h0⟩ ⟨(y 0).val % 2, by omega⟩, ?_, rfl⟩
          show (y 0).val = 2 * k.val + (y 0).val % 2; omega
    · iexact H

/-- The product loop. -/
theorem loop3 : st3 c arg5 arg6 fw fx 0 ⊢ wp frame (wpE (defs₀ (F := F)) 𝒱₀ (c : Thread nD τ) none) Set.univ (Scf.Loop.for k0_t3_loop k0_t3_ok ⟨⟩
      (fun k (_ : Unit) => trip3G i arg1 harg1 arg2 harg2 arg4 harg4 arg5 harg5 arg6 harg6 k))
      (fun _ => iprop(∃ f5 f6, ⌜(∀ y : S8x128x3840.Idx, arg5.view.read (Elt F) f5 y = o5Val (xbM.view.read (Elt F) fx) (wbM.view.read (Elt F) fw) y)
          ∧ (∀ y : S30x8x128.Idx, arg6.view.read (Elt F) f6 y = o6Val (xbM.view.read (Elt F) fx) (wbM.view.read (Elt F) fw) y)⌝
        ∗ res3 c arg5 arg6 fw fx f5 f6)) := by
  iintro H
  iapply (Scf.wp_for frame (wpE (defs₀ (F := F)) 𝒱₀ (c : Thread nD τ) none) Set.univ k0_t3_loop.lb k0_t3_loop.ub k0_t3_loop.st _ _ _
    (fun k _ => st3 c arg5 arg6 fw fx k) (fun k _ => trip3 c i arg1 harg1 arg2 harg2 arg4 harg4 arg5 harg5 arg6 harg6 fw fx k))
  isplitl [H]
  · iexact H
  · iintro %_ H
    unfold st3
    icases H with ⟨%f5, %f6, %hf, H⟩
    iexists f5, f6
    isplitr
    · ipureintro
      exact ⟨fun y => hf.1 y (by have e : k0_t3_loop.trips = 15 := trips3; have h : (y 2).val < 3840 := (y 2).isLt; show (y 2).val < 256 * k0_t3_loop.trips; omega),
        fun y => hf.2 y (by have e : k0_t3_loop.trips = 15 := trips3; have h : (y 0).val < 30 := (y 0).isLt; show (y 0).val < 2 * k0_t3_loop.trips; omega)⟩
    · iexact H
end L3

end Cert.KernelIdeal.Hand

end
-- ==== Proof.KernelIdeal.Body.lean ====
/-
  The kernel body at a grid point: at the first point it expands the weight; at every point it expands the activations
  and stores the codes and scales of the gated product.
-/
module

public import proofs.«01_k».proof.Proof.KernelIdeal.Loops

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
local notation "𝕄" => MT nD τ sig Unit (Elt F) ℕ (UU nD τ) ℕ

variable (c : Dev nD) (i : grid0.Coords)
  (arg1 : Memref sig .tc .vmem S8x128x2176 .fp8e4m3) (harg1 : arg1.IsWhole)
  (arg2 : Memref sig .tc .vmem S17x8x128 .f32) (harg2 : arg2.IsWhole)
  (arg4 : Memref sig .tc .smem S17x60 .f32) (harg4 : arg4.IsWhole)
  (arg5 : Memref sig .tc .vmem S8x128x3840 .fp8e4m3) (harg5 : arg5.IsWhole)
  (arg6 : Memref sig .tc .vmem S30x8x128 .f32) (harg6 : arg6.IsWhole)

/-- The first chunk lands in slot 0, -/
theorem sl2_0 : Ring.sl 2 0 = 0 := Fin.ext (by rfl)
/-- the second in slot 1; -/
theorem sl2_1 : Ring.sl 2 (0 + 1) = 1 := Fin.ext (by rfl)
/-- the first chunk is chunk 0. -/
theorem bk15_0 : Ring.bk 15 0 = 0 := Fin.ext (by rfl)

/-- At the start, chunk 0 apart from the rest. -/
theorem homes_zero (XA : Buf (Elt F) (wM.view.loc (c : Thread nD τ))) :
    bigSep Finset.univ (homeP c XA) = iprop(homeP c XA 0 ∗ bigSep (Ring.homeSet 1 0) (homeP c XA)) := by
  have e : (Finset.univ : Finset (Fin 15)) = insert 0 (Ring.homeSet (NB := 15) 1 0) := by
    ext b; simp only [Finset.mem_univ, Finset.mem_insert, Ring.mem_homeSet, true_iff, Fin.ext_iff]; have := b.isLt; omega
  rw [e, bigSep_insert (by simp [Ring.mem_homeSet, Fin.ext_iff])]; rfl

variable (g1 : Buf (Elt F) (arg1.view.loc (c : Thread nD τ))) (g2 : Buf (Elt F) (arg2.view.loc (c : Thread nD τ)))
  (g4 : Buf (Elt F) (arg4.view.loc (c : Thread nD τ))) (XA : Buf (Elt F) (wM.view.loc (c : Thread nD τ)))

/-- The body after the expansion of the weight. -/
abbrev restG : Prog (TpuEff nD τ sig (Elt F) Λ₀ .tc) PUnit :=
  (Scf.Loop.for k0_t2_loop k0_t2_ok ⟨⟩ (fun k (_ : Unit) => trip2G i arg1 harg1 arg2 harg2 arg4 harg4 arg5 harg5 arg6 harg6 k)) >>= fun _ =>
  (Scf.Loop.for k0_t3_loop k0_t3_ok ⟨⟩ (fun k (_ : Unit) => trip3G i arg1 harg1 arg2 harg2 arg4 harg4 arg5 harg5 arg6 harg6 k)) >>= fun _ =>
  pure ⟨⟩

/-- What the activation and product loops work with. -/
abbrev resR (fw : Buf (Elt F) (wbM.view.loc (c : Thread nD τ))) : sProp 𝕄 :=
  iprop((arg1.view.loc (c : Thread nD τ) ↦[arg1.view.set]{fullShare} g1) ∗ (arg2.view.loc (c : Thread nD τ) ↦[arg2.view.set]{fullShare} g2)
    ∗ wbP c fw ∗ (∃ fx, xbM.view.loc (c : Thread nD τ) ↦[xbM.view.set]{fullShare} fx)
    ∗ (∃ f5, arg5.view.loc (c : Thread nD τ) ↦[arg5.view.set]{fullShare} f5) ∗ (∃ f6, arg6.view.loc (c : Thread nD τ) ↦[arg6.view.set]{fullShare} f6))

/-- The same, the outputs at what they hold afterwards. -/
abbrev resD (fw : Buf (Elt F) (wbM.view.loc (c : Thread nD τ))) : sProp 𝕄 :=
  iprop((arg1.view.loc (c : Thread nD τ) ↦[arg1.view.set]{fullShare} g1) ∗ (arg2.view.loc (c : Thread nD τ) ↦[arg2.view.set]{fullShare} g2)
    ∗ wbP c fw ∗ (∃ fx, xbM.view.loc (c : Thread nD τ) ↦[xbM.view.set]{fullShare} fx)
    ∗ (∃ f5, ⌜arg5.view.read (Elt F) f5 = o5Val (xbVal (arg1.view.read (Elt F) g1) (arg2.view.read (Elt F) g2)) (wbM.view.read (Elt F) fw)⌝
        ∗ arg5.view.loc (c : Thread nD τ) ↦[arg5.view.set]{fullShare} f5)
    ∗ (∃ f6, ⌜arg6.view.read (Elt F) f6 = o6Val (xbVal (arg1.view.read (Elt F) g1) (arg2.view.read (Elt F) g2)) (wbM.view.read (Elt F) fw)⌝
        ∗ arg6.view.loc (c : Thread nD τ) ↦[arg6.view.set]{fullShare} f6))

/-- The activation loop, then the product loop. -/
theorem restRun (fw : Buf (Elt F) (wbM.view.loc (c : Thread nD τ))) :
    resR c arg1 arg2 arg5 arg6 g1 g2 fw ⊢ wp frame (wpE (defs₀ (F := F)) 𝒱₀ (c : Thread nD τ) none) Set.univ
      (restG i arg1 harg1 arg2 harg2 arg4 harg4 arg5 harg5 arg6 harg6) (fun _ => resD c arg1 arg2 arg5 arg6 g1 g2 fw) := by
  unfold restG
  rw [wp_bind]
  iintro ⟨H1, H2, Hw, ⟨%fx0, Hx⟩, ⟨%f50, H5⟩, ⟨%f60, H6⟩⟩
  iapply (wp_wand_r frame (wpE (defs₀ (F := F)) 𝒱₀ (c : Thread nD τ) none) Set.univ)
  isplitl [H1 H2 Hx]
  · iapply (loop2 c i arg1 harg1 arg2 harg2 arg4 harg4 arg5 harg5 arg6 harg6 g1 g2)
    unfold st2
    iexists fx0
    isplitr
    · ipureintro
      exact fun y hy => absurd hy (Nat.not_lt_zero _)
    · isplitl [H1]; · iexact H1
      isplitl [H2]; · iexact H2
      iexact Hx
  iintro %_ ⟨%fx, %hx, H1, H2, Hx⟩
  irw [wp_bind]
  iapply (wp_wand_r frame (wpE (defs₀ (F := F)) 𝒱₀ (c : Thread nD τ) none) Set.univ)
  isplitl [Hw Hx H5 H6]
  · iapply (loop3 c i arg1 harg1 arg2 harg2 arg4 harg4 arg5 harg5 arg6 harg6 fw fx)
    unfold st3
    iexists f50, f60
    isplitr
    · ipureintro
      exact ⟨fun y hy => absurd hy (Nat.not_lt_zero _), fun y hy => absurd hy (Nat.not_lt_zero _)⟩
    · isplitl [Hw]; · iexact Hw
      isplitl [Hx]; · iexact Hx
      isplitl [H5]; · iexact H5
      iexact H6
  iintro %_ ⟨%f5, %f6, %hf, Hw, Hx, H5, H6⟩
  have ex : xbM.view.read (Elt F) fx = xbVal (arg1.view.read (Elt F) g1) (arg2.view.read (Elt F) g2) := funext hx
  sl_step
  isplitl [H1]; · iexact H1
  isplitl [H2]; · iexact H2
  isplitl [Hw]; · iexact Hw
  isplitl [Hx]; · iexists fx; iexact Hx
  isplitl [H5]
  · iexists f5
    isplitr
    · ipureintro
      rw [← ex]; exact funext hf.1
    · iexact H5
  · iexists f6
    isplitr
    · ipureintro
      rw [← ex]; exact funext hf.2
    · iexact H6

/-- The body, its parts by name. -/
abbrev bodyG : Prog (TpuEff nD τ sig (Elt F) Λ₀ .tc) PUnit :=
  cc0_gate_up_swiglu_requant (F := F) i arg1 harg1 arg2 harg2 wM (Memref.isWhole_whole _) arg4 harg4 arg5 harg5 arg6 harg6 wbM (Memref.isWhole_whole _)
    landM (Memref.isWhole_whole _) xbM (Memref.isWhole_whole _) cc0_scratch3

/-- At a later grid point: the expanded weight is there already. -/
theorem bodyLater (h : ¬ k0_cond1 i = 1#1) (fw : Buf (Elt F) (wbM.view.loc (c : Thread nD τ))) :
    resR c arg1 arg2 arg5 arg6 g1 g2 fw ⊢ wp frame (wpE (defs₀ (F := F)) 𝒱₀ (c : Thread nD τ) none) Set.univ
      (bodyG i arg1 harg1 arg2 harg2 arg4 harg4 arg5 harg5 arg6 harg6) (fun _ => resD c arg1 arg2 arg5 arg6 g1 g2 fw) := by
  have e : bodyG (F := F) i arg1 harg1 arg2 harg2 arg4 harg4 arg5 harg5 arg6 harg6 = restG i arg1 harg1 arg2 harg2 arg4 harg4 arg5 harg5 arg6 harg6 := by
    unfold bodyG
    rw [cc0_gate_up_swiglu_requant_eq_skeleton]
    unfold cc0_gate_up_swiglu_requant_skel
    rw [dif_neg h]
  rw [e]
  exact restRun c i arg1 harg1 arg2 harg2 arg4 harg4 arg5 harg5 arg6 harg6 g1 g2 fw

/-- What the first grid point's weight loop works with. -/
abbrev resW : sProp 𝕄 :=
  iprop((∃ fw, wbP c fw) ∗ wsP c arg4 g4 ∗ (∃ W, owes (c : Thread nD τ) 0 W) ∗ bigSep Finset.univ (homeP c XA)
    ∗ (∃ f, slotP c 0 f) ∗ (∃ f, slotP c 1 f) ∗ cellP c 0 ∗ cellP c 1)

/-- What the weight loop starts from. -/
theorem st1_start (fw : Buf (Elt F) (wbM.view.loc (c : Thread nD τ))) (W : Waits sig Unit) (s0 : Buf (Elt F) ((rslot 0).view.loc (c : Thread nD τ)))
    (s1 : Buf (Elt F) ((rslot 1).view.loc (c : Thread nD τ))) :
    iprop(wbP c fw ∗ wsP c arg4 g4 ∗ owes (c : Thread nD τ) 0 W ∗ bigSep (Ring.homeSet 1 0) (homeP c XA) ∗ flightP c XA 0 0 s0 ∗ slotP c 1 s1 ∗ cellP c 1)
      ⊢ st1 c arg4 XA g4 0 := by
  unfold st1
  rw [if_pos (by decide)]
  unfold resAt
  rw [sl2_0, sl2_1, bk15_0]
  iintro ⟨Hw, Hs, HW, Hh, HF, Hs1, Hc1⟩
  iexists fw
  isplitr
  · ipureintro
    exact fun y hy => absurd hy (Nat.not_lt_zero _)
  isplitl [Hw]; · iexact Hw
  isplitl [Hs]; · iexact Hs
  isplitl [HW]; · iexists _; iexact HW
  isplitl [Hh]; · iexact Hh
  isplitl [HF]; · iexists _; iexact HF
  isplitl [Hs1]; · iexists _; iexact Hs1
  iexact Hc1

attribute [local sl_canon] sl2_0 sl2_1 bk15_0 in
/-- At the first grid point: chunk 0 is fetched, the weight loop runs, then the other two. -/
theorem bodyFirst (h : k0_cond1 i = 1#1) :
    iprop(resW c arg4 g4 XA
      ∗ (arg1.view.loc (c : Thread nD τ) ↦[arg1.view.set]{fullShare} g1) ∗ (arg2.view.loc (c : Thread nD τ) ↦[arg2.view.set]{fullShare} g2)
      ∗ (∃ fx, xbM.view.loc (c : Thread nD τ) ↦[xbM.view.set]{fullShare} fx)
      ∗ (∃ f5, arg5.view.loc (c : Thread nD τ) ↦[arg5.view.set]{fullShare} f5) ∗ (∃ f6, arg6.view.loc (c : Thread nD τ) ↦[arg6.view.set]{fullShare} f6))
    ⊢ wp frame (wpE (defs₀ (F := F)) 𝒱₀ (c : Thread nD τ) none) Set.univ
      (bodyG i arg1 harg1 arg2 harg2 arg4 harg4 arg5 harg5 arg6 harg6)
      (fun _ => iprop(∃ fw, ⌜wbM.view.read (Elt F) fw = wbVal c XA arg4 g4⌝ ∗ resD c arg1 arg2 arg5 arg6 g1 g2 fw
        ∗ wsP c arg4 g4 ∗ (∃ W, owes (c : Thread nD τ) 0 W) ∗ bigSep Finset.univ (homeP c XA)
        ∗ (∃ f, slotP c 0 f) ∗ (∃ f, slotP c 1 f) ∗ cellP c 0 ∗ cellP c 1)) := by
  iintro ⟨⟨⟨%fw0, Hw⟩, Hs, ⟨%W, HW⟩, Hh, ⟨%s0, Hs0⟩, ⟨%s1, Hs1⟩, Hc0, Hc1⟩, H1, H2, Hx, H5, H6⟩
  ihave Hh' := (ent_of_eq (homes_zero c XA)) $$ Hh
  icases Hh' with ⟨Hg0, Hh⟩
  dsimp only [bodyG]
  sl_rw [cc0_gate_up_swiglu_requant_eq_skeleton]
  unfold cc0_gate_up_swiglu_requant_skel
  sl_exec
  irw [wp_bind]
  iapply (wp_wand_r frame (wpE (defs₀ (F := F)) 𝒱₀ (c : Thread nD τ) none) Set.univ)
  isplitl [Hw Hs HW Hh Hc0 Hs1 Hc1]
  · iapply (loop1 c i arg1 harg1 arg2 harg2 arg4 harg4 arg5 harg5 arg6 harg6 XA g4 h)
    iapply (st1_start c arg4 g4 XA fw0 _ s0 s1)
    isplitl [Hw]; · iexact Hw
    isplitl [Hs]; · iexact Hs
    isplitl [HW]; · iexact HW
    isplitl [Hh]; · iexact Hh
    isplitl [Hc0]; · iexact Hc0
    isplitl [Hs1]; · iexact Hs1
    iexact Hc1
  unfold resEnd
  iintro %_ ⟨%fw, %hw, Hw, Hs, HW, Hh, Hs0, Hs1, Hc0, Hc1⟩
  iapply (wp_wand_r frame (wpE (defs₀ (F := F)) 𝒱₀ (c : Thread nD τ) none) Set.univ)
  isplitl [Hw H1 H2 Hx H5 H6]
  · iapply (restRun c i arg1 harg1 arg2 harg2 arg4 harg4 arg5 harg5 arg6 harg6 g1 g2 fw)
    isplitl [H1]; · iexact H1
    isplitl [H2]; · iexact H2
    isplitl [Hw]; · iexact Hw
    isplitl [Hx]; · iexact Hx
    isplitl [H5]; · iexact H5
    iexact H6
  iintro %_ HD
  iexists fw
  isplitr
  · ipureintro; exact funext hw
  isplitl [HD]; · iexact HD
  isplitl [Hs]; · iexact Hs
  isplitl [HW]; · iexact HW
  isplitl [Hh]; · iexact Hh
  isplitl [Hs0]; · iexact Hs0
  isplitl [Hs1]; · iexact Hs1
  isplitl [Hc0]; · iexact Hc0
  iexact Hc1

end Cert.KernelIdeal.Hand

end
-- ==== Proof.KernelIdeal.Obligation.lean ====
/-
  The grid: what the kernel holds between points, and the body run at every point. The weight is expanded at the first
  point and kept; the codes and scales of a point are functions of its own blocks and of the expanded weight.
-/
module

public import proofs.«01_k».proof.Proof.KernelIdeal.Body
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The weight's fifteen chunks and the landing buffer's two slots tile their arrays -/

/-- The indices of a chunk. -/
abbrev grpSet (b : Fin 15) : Finset S7680x2176.Idx := (Rect.unit (s := S7680x2176) (grpOff b) S512x2176.size (grpOff_inb b)).set
/-- The indices of a slot. -/
abbrev slotSet (s : Fin 2) : Finset S2x512x2176.Idx := (Rect.unit (s := S2x512x2176) (slotOff s) S1x512x2176.size (slotOff_inb s)).set

/-- A chunk's view covers its indices. -/
theorem grp_set (b : Fin 15) : (grp b : Memref sig .tc .hbm _ _).view.set = grpSet b := View.set_slice_whole _ _
/-- A slot's view covers its indices. -/
theorem rslot_set (s : Fin 2) : (rslot s : Memref sig .tc .vmem _ _).view.set = slotSet s := (View.set_reshape _ _).trans (View.set_slice_whole _ _)

/-- Chunk `b` is rows 512 b to 512 b + 511. -/
theorem mem_grpSet (b : Fin 15) (y : S7680x2176.Idx) : y ∈ grpSet b ↔ 512 * b.val ≤ (y 0).val ∧ (y 0).val < 512 * b.val + 512 := by
  rw [Rect.mem_set_unit]
  have h1 : (y 1).val < 2176 := (y 1).isLt
  constructor
  · intro H; exact H 0
  · intro H i; fin_cases i
    · exact H
    · show 0 ≤ (y 1).val ∧ (y 1).val < 0 + 2176; omega
/-- Slot `s` is the indices that begin with `s`. -/
theorem mem_slotSet (s : Fin 2) (y : S2x512x2176.Idx) : y ∈ slotSet s ↔ (y 0).val = s.val := by
  rw [Rect.mem_set_unit]
  have h1 : (y 1).val < 512 := (y 1).isLt
  have h2 : (y 2).val < 2176 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2176; omega
/-- Two chunks share no index, -/
theorem grpSet_disjoint : ∀ b b' : Fin 15, b ≠ b' → Disjoint (grpSet b) (grpSet b') := by
  intro b b' hne; rw [Finset.disjoint_left]; intro y hy hy'; rw [mem_grpSet] at hy hy'; exact hne (Fin.ext (by omega))
/-- and together they are the weight. -/
theorem grpSet_cover : (Finset.univ : Finset (Fin 15)).biUnion grpSet = Finset.univ := by
  ext y; simp only [Finset.mem_biUnion, Finset.mem_univ, true_and, iff_true]
  have h : (y 0).val < 7680 := (y 0).isLt
  exact ⟨⟨(y 0).val / 512, by omega⟩, by rw [mem_grpSet]; show 512 * ((y 0).val / 512) ≤ _ ∧ _ < 512 * ((y 0).val / 512) + 512; omega⟩
/-- The two slots share no index, -/
theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
/-- and together they are the landing buffer. -/
theorem slotSet_cover : (Finset.univ : Finset (Fin 2)).biUnion slotSet = Finset.univ := by
  ext y; simp only [Finset.mem_biUnion, Finset.mem_univ, true_and, iff_true]
  have h : (y 0).val < 2 := (y 0).isLt
  exact ⟨⟨(y 0).val, h⟩, by rw [mem_slotSet]⟩

/-- A separating product over two is the product of the two. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The weight whole is its fifteen chunks. -/
theorem weight_eq (c : Dev nD) (XA : Buf (Elt F) (wM.view.loc (c : Thread nD τ))) :
    (((c : Thread nD τ).loc main_arg2) ↦{fullShare} XA : sProp 𝕄) = bigSep Finset.univ (homeP c XA) := by
  rw [Ring.pointsTo_blocks (ℓ := (c : Thread nD τ).loc main_arg2) grpSet grpSet_disjoint grpSet_cover]
  exact bigSep_congr fun b _ => by rw [← grp_set]; rfl

/-- Holding a slot is holding its indices. -/
theorem slotP_eq (c : Dev nD) (s : Fin 2) (f) : slotP c s f = (((c : Thread nD τ).loc cc0_scratch1) ↦[slotSet s]{fullShare} f : sProp 𝕄) :=
  congrArg (fun S => (_ ↦[S]{fullShare} f : sProp 𝕄)) (rslot_set s)
/-- The landing buffer whole is its two slots, -/
theorem land_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scratch1) slotSet slotSet_disjoint slotSet_cover f).trans (bigSep_fin2 _))) $$ H
  icases H2 with ⟨H0, H1⟩
  isplitl [H0]
  · iexists f; iapply (ent_of_eq (slotP_eq c 0 f).symm); iexact H0
  · iexists f; iapply (ent_of_eq (slotP_eq c 1 f).symm); iexact H1
/-- and back. -/
theorem land_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) slotSet slotSet_disjoint slotSet_cover f0)
  irw [bigSep_fin2]
  isplitl [H0]
  · iexists f0; iapply (ent_of_eq (slotP_eq c 0 f0)); iexact H0
  · iexists f1; iapply (ent_of_eq (slotP_eq c 1 f1)); iexact H1

/-- A whole scratch buffer on its own elements is the buffer. -/
theorem wbP_eq (c : Dev nD) (f : Buf (Elt F) (wbM.view.loc (c : Thread nD τ))) :
    wbP c f = (((c : Thread nD τ).loc cc0_scratch0) ↦{fullShare} f : sProp 𝕄) :=
  congrArg (fun S => (_ ↦[S]{fullShare} f : sProp 𝕄)) (View.set_whole _)
/-- Holding the activation buffer through its view is holding it. -/
theorem xbP_eq (c : Dev nD) (f : Buf (Elt F) (xbM.view.loc (c : Thread nD τ))) :
    (xbM.view.loc (c : Thread nD τ) ↦[xbM.view.set]{fullShare} f : sProp 𝕄) = (((c : Thread nD τ).loc cc0_scratch2) ↦{fullShare} f : sProp 𝕄) :=
  congrArg (fun S => (_ ↦[S]{fullShare} f : sProp 𝕄)) (View.set_whole _)

/-! ## The kernel's own semaphores and the operand it moves itself -/

/-- The kernel's own two semaphores. -/
abbrev osem0 : Fin 2 → SemLoc sig := fun s => .dma (csm s).sem
/-- They are none of the pipeline's. -/
theorem ownSemFacts0 : Pipeline.OwnSemFacts spec0 osem0 := by decide
/-- The array that the kernel reads by its own copies. -/
abbrev H0 : Finset (Ref sig .tc) := {main_arg2}
/-- It is none of the windows' arrays. -/
theorem H0_sub : H0 ⊆ Pipeline.restRefs sig spec0 := by decide

/-- The two semaphores at zero. -/
theorem ownSems0_eq (c : Dev nD) : (Pipeline.ownSems0 (Ix := Unit) (Name := ℕ) (U := UU nD τ) (Lvl := ℕ) (Val := Elt F) (τ := τ) osem0 c : sProp 𝕄)
    = iprop(cellP c 0 ∗ cellP c 1) := by
  unfold Pipeline.ownSems0; rw [bigSep_fin2]

/-! ## The proof data -/

/-- The expanded weight, from the quantised weight and its scales. -/
def wexp (X : S7680x2176.Idx → Elt F .fp8e4m3) (S : S17x60.Idx → Elt F .f32) (y : S7680x2176.Idx) : Elt F .bf16 :=
  FloatOps.mulf (FloatOps.extf .bf16 bitsLt_fp8e4m3_bf16 (X y)) (Scalar.truncf .bf16 bitsLt_bf16_f32 (S (scaleIx y)))

/-- The expanded weight depends on what is read alone. -/
theorem wbVal_eq (c : Dev nD) (XA : Buf (Elt F) (wM.view.loc (c : Thread nD τ))) (arg4 : Memref sig .tc .smem S17x60 .f32)
    (g4 : Buf (Elt F) (arg4.view.loc (c : Thread nD τ))) :
    wbVal c XA arg4 g4 = wexp (wM.view.read (Elt F) XA) (arg4.view.read (Elt F) g4) := rfl

variable (m : (ℓ : Loc nD τ sig) → Buf (Elt F) ℓ) (ρ : Dev nD → PrngReg)

/-- The first point. -/
abbrev pt0 : Fin cfg0.N := ⟨0, by decide⟩

/-- The weight as every point uses it. -/
def WB (c : Dev nD) : S7680x2176.Idx → Elt F .bf16 := wexp (wM.view.read (Elt F) (V m c main_arg2)) (iblk m c 2 pt0)

/-- The activations as point `t` uses them. -/
def XB (c : Dev nD) (t : Fin cfg0.N) : S1024x2176.Idx → Elt F .bf16 := xbVal (iblk m c 0 t) (iblk m c 1 t)

/-- Between points: the scratch buffers (after the first point the expanded weight in place), the generator register,
    the two semaphores at zero and the quantised weight. -/
def PhiAt (c : Dev nD) (t : ℕ) : sProp 𝕄 :=
  iprop((∃ f, ⌜0 < t → wbM.view.read (Elt F) f = WB m c⌝ ∗ wbP c f)
    ∗ ((∃ f, slotP c 0 f) ∗ ∃ f, slotP c 1 f)
    ∗ (∃ f, xbM.view.loc (c : Thread nD τ) ↦[xbM.view.set]{fullShare} f)
    ∗ (∃ r, prngReg c r) ∗ (cellP c 0 ∗ cellP c 1) ∗ bigSep Finset.univ (homeP c (V m c main_arg2)))

/-- What each window holds after each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => o5Val (XB m c t) (WB m c)
    | ⟨4, _⟩ => o6Val (XB m c t) (WB m c)
  Φ t := PhiAt m c t.val
  q _ := fullShare
  owed _ := 0

/-- A window's array starts as the grid finds it. -/
theorem A_eq (c : Dev nD) (w : Fin cfg0.W) : (dats m 0 c).A w = V m c (Pipeline.arrRef spec0 w) := by
  dsimp only [dats]
/-- After a point the window of the activations holds the point's block; -/
theorem after0 (c : Dev nD) (t : Fin cfg0.N) : (dats m 0 c).after 0 t = iblk m c 0 t := by dsimp only [dats]
/-- that of their scales too; -/
theorem after1 (c : Dev nD) (t : Fin cfg0.N) : (dats m 0 c).after 1 t = iblk m c 1 t := by dsimp only [dats]
/-- and that of the scales of the weight; -/
theorem after2 (c : Dev nD) (t : Fin cfg0.N) : (dats m 0 c).after 2 t = iblk m c 2 t := by dsimp only [dats]
/-- the window of the codes holds the codes of the point, -/
theorem after3 (c : Dev nD) (t : Fin cfg0.N) : (dats m 0 c).after 3 t = o5Val (XB m c t) (WB m c) := by dsimp only [dats]
/-- and that of the scales its scales. -/
theorem after4 (c : Dev nD) (t : Fin cfg0.N) : (dats m 0 c).after 4 t = o6Val (XB m c t) (WB m c) := by dsimp only [dats]

/-- Every input window's buffer holds the point's block when the body starts. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- The same of the scales of the activations, -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- and of those of the weight. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body at a point -/

/-- A point's coordinate is its number. -/
theorem coords_zero : ∀ t : Fin grid0.N, (grid0.coords t 0).val = t.val := by decide +kernel

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at the first point leaves what it should. -/
theorem body_first (c : Dev nD) (t : Fin cfg0.N) (ht : t.val = 0) :
    bodyPre m c t ⊢ wp frame (wpE (defs₀ (F := F)) 𝒱₀ c none) Set.univ (bodyAt0 t) (fun _ => bodyPost m c t) := by
  have h1 : k0_cond1 (grid0.coords t) = 1#1 := (cond1_iff _).2 ((coords_zero t).trans ht)
  have et : t = pt0 := Fin.ext ht
  unfold bodyPre bodyPost bodyAt0
  rw [after0, after1, after2, after3, after4]
  simp only [before0, before1, before2]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  unfold PhiAt owns
  iintro ⟨⟨⟨%fw, -, Hw⟩, ⟨Hs0, Hs1⟩, Hx, Hr, ⟨Hc0, Hc1⟩, Hh⟩, ⟨%W, -, HW⟩, ⟨%d1, %g1, %hg1, H1⟩, ⟨%d2, %g2, %hg2, H2⟩, ⟨%d4, %g4, %hg4, H4⟩,
    ⟨%d5, %f5, -, H5⟩, ⟨%d6, %f6, -, H6⟩⟩
  iapply (wp_wand_r frame (wpE (defs₀ (F := F)) 𝒱₀ (c : Thread nD τ) none) Set.univ)
  isplitl [Hw Hs0 Hs1 Hx Hc0 Hc1 Hh HW H1 H2 H4 H5 H6]
  · iapply (bodyFirst c (grid0.coords t) (st0_0 t) _ (st0_1 t) _ (st0_2 t) _ (st0_3 t) _ (st0_4 t) _ g1 g2 g4 (V m c main_arg2) h1)
    isplitl [Hw Hs0 Hs1 Hc0 Hc1 Hh HW H4]
    · isplitl [Hw]; · iexists fw; iexact Hw
      isplitl [H4]; · iexact H4
      isplitl [HW]; · iexists W; iexact HW
      isplitl [Hh]; · iexact Hh
      isplitl [Hs0]; · iexact Hs0
      isplitl [Hs1]; · iexact Hs1
      isplitl [Hc0]; · iexact Hc0
      iexact Hc1
    isplitl [H1]; · iexact H1
    isplitl [H2]; · iexact H2
    isplitl [Hx]; · iexact Hx
    isplitl [H5]; · iexists f5; iexact H5
    iexists f6; iexact H6
  iintro %_ ⟨%fw', %hw, ⟨H1, H2, Hw, Hx, ⟨%f5', %h5, H5⟩, ⟨%f6', %h6, H6⟩⟩, H4, ⟨%W', HW⟩, Hh, Hs0, Hs1, Hc0, Hc1⟩
  have ew : wbM.view.read (Elt F) fw' = WB m c := by rw [hw, wbVal_eq, hg4, et]; rfl
  rw [hg1, hg2, ew] at h5 h6
  isplitl [Hw Hs0 Hs1 Hx Hr Hc0 Hc1 Hh]
  · isplitl [Hw]
    · iexists fw'; isplitr
      · ipureintro; exact fun _ => ew
      · iexact Hw
    isplitl [Hs0 Hs1]
    · isplitl [Hs0]; · iexact Hs0
      iexact Hs1
    isplitl [Hx]; · iexact Hx
    isplitl [Hr]; · iexact Hr
    isplitl [Hc0 Hc1]
    · isplitl [Hc0]; · iexact Hc0
      iexact Hc1
    iexact Hh
  isplitl [HW]
  · iexists W'; isplitr; · ipureintro; exact fun _ _ => Or.inl trivial
    iexact HW
  isplitl [H1]
  · iexists g1; isplitr; · ipureintro; exact hg1
    iexact H1
  isplitl [H2]
  · iexists g2; isplitr; · ipureintro; exact hg2
    iexact H2
  isplitl [H4]
  · iexists g4; isplitr; · ipureintro; exact hg4
    iexact H4
  isplitl [H5]
  · iexists f5'; isplitr; · ipureintro; exact h5
    iexact H5
  · iexists f6'; isplitr; · ipureintro; exact h6
    iexact H6

/-- The body at a later point leaves what it should. -/
theorem body_later (c : Dev nD) (t : Fin cfg0.N) (ht : 0 < t.val) :
    bodyPre m c t ⊢ wp frame (wpE (defs₀ (F := F)) 𝒱₀ c none) Set.univ (bodyAt0 t) (fun _ => bodyPost m c t) := by
  have h1 : ¬ k0_cond1 (grid0.coords t) = 1#1 := fun h => by have := (cond1_iff _).1 h; have := coords_zero t; omega
  unfold bodyPre bodyPost bodyAt0
  rw [after0, after1, after2, after3, after4]
  simp only [before0, before1, before2]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  unfold PhiAt owns
  iintro ⟨⟨⟨%fw, %hw, Hw⟩, Hs, Hx, Hr, Hc, Hh⟩, ⟨%W, -, HW⟩, ⟨%d1, %g1, %hg1, H1⟩, ⟨%d2, %g2, %hg2, H2⟩, ⟨%d4, %g4, %hg4, H4⟩,
    ⟨%d5, %f5, -, H5⟩, ⟨%d6, %f6, -, H6⟩⟩
  have ew := hw ht
  iapply (wp_wand_r frame (wpE (defs₀ (F := F)) 𝒱₀ (c : Thread nD τ) none) Set.univ)
  isplitl [Hw Hx H1 H2 H5 H6]
  · iapply (bodyLater c (grid0.coords t) (st0_0 t) _ (st0_1 t) _ (st0_2 t) _ (st0_3 t) _ (st0_4 t) _ g1 g2 h1 fw)
    isplitl [H1]; · iexact H1
    isplitl [H2]; · iexact H2
    isplitl [Hw]; · iexact Hw
    isplitl [Hx]; · iexact Hx
    isplitl [H5]; · iexists f5; iexact H5
    iexists f6; iexact H6
  iintro %_ ⟨H1, H2, Hw, Hx, ⟨%f5', %h5, H5⟩, ⟨%f6', %h6, H6⟩⟩
  rw [hg1, hg2, ew] at h5 h6
  isplitl [Hw Hs Hx Hr Hc Hh]
  · isplitl [Hw]
    · iexists fw; isplitr
      · ipureintro; exact fun _ => ew
      · iexact Hw
    isplitl [Hs]; · iexact Hs
    isplitl [Hx]; · iexact Hx
    isplitl [Hr]; · iexact Hr
    isplitl [Hc]; · iexact Hc
    iexact Hh
  isplitl [HW]
  · iexists W; isplitr; · ipureintro; exact fun _ _ => Or.inl trivial
    iexact HW
  isplitl [H1]
  · iexists g1; isplitr; · ipureintro; exact hg1
    iexact H1
  isplitl [H2]
  · iexists g2; isplitr; · ipureintro; exact hg2
    iexact H2
  isplitl [H4]
  · iexists g4; isplitr; · ipureintro; exact hg4
    iexact H4
  isplitl [H5]
  · iexists f5'; isplitr; · ipureintro; exact h5
    iexact H5
  · iexists f6'; isplitr; · ipureintro; exact h6
    iexact H6

/-- The pipeline's call of the body. -/
theorem defs₀_row (t : Fin cfg0.N) :
    defs₀ (F := F) .tc cfg0.body (cfg0.bodyArgs t (cfg0.slots t)) = bodyAt0 t := by
  unfold defs₀; rw [Defs.onTc_tc]

/-- The body does at every point what the proof data say. -/
theorem body_obligation (c : Dev nD) : BodyObligation (dats (F := F) m 0 c) (defs₀ (F := F)) 𝒱₀ () Set.univ := fun t => by
  rw [bigSep_W0, bigSep_W0, defs₀_row]
  exact triple_restated (by rcases Nat.eq_zero_or_pos t.val with h | h
                            · exact body_first m c t h
                            · exact body_later m c t h) rfl .rfl fun _ => .rfl

end Cert.KernelIdeal.Hand

end
-- ==== Proof.KernelIdeal.Run.lean ====
/-
  The whole program: the host lines before the grid, the grid, the host line after it. Every run ends with the argument
  arrays as launched, every semaphore at zero, and the result arrays at what the proof data name.
-/
module

public import proofs.«01_k».proof.Proof.KernelIdeal.Obligation

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- The program as one grid between host lines. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the grid does not touch the quantised weight. -/
theorem tail_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.unary_bufs, Finset.mem_insert, Finset.mem_singleton, not_or] <;> and_intros <;> exact StableHlo.devRef_ne_of_ne (by decide)

/-- The operand the kernel moves itself is the quantised weight. -/
theorem moved_eq (c : Dev nD) :
    (bigSep H0 (fun b => ((c.tc : Thread nD τ).loc b) ↦{fullShare} V m c b) : sProp 𝕄)
      = (((c : Thread nD τ).loc main_arg2) ↦{fullShare} V m c main_arg2 : sProp 𝕄) := by
  rw [BI.bigSep_eq_bigSepL_of_eq [main_arg2] (by decide) (by decide)]; rfl

/-- The activation buffer at any contents, held whole, is held through its view, -/
theorem xb_in (c : Dev nD) :
    iprop(∃ f : Buf (Elt F) ((c : Thread nD τ).loc cc0_scratch2), ((c : Thread nD τ).loc cc0_scratch2) ↦{fullShare} f)
      ⊢ (iprop(∃ f, xbM.view.loc (c : Thread nD τ) ↦[xbM.view.set]{fullShare} f) : sProp 𝕄) := by
  iintro ⟨%f, H⟩
  iexists f; iapply (ent_of_eq (xbP_eq c f).symm); iexact H
/-- and back. -/
theorem xb_out (c : Dev nD) :
    iprop(∃ f, xbM.view.loc (c : Thread nD τ) ↦[xbM.view.set]{fullShare} f)
      ⊢ (iprop(∃ f : Buf (Elt F) ((c : Thread nD τ).loc cc0_scratch2), ((c : Thread nD τ).loc cc0_scratch2) ↦{fullShare} f) : sProp 𝕄) := by
  iintro ⟨%f, H⟩
  iexists f; iapply (ent_of_eq (xbP_eq c f)); iexact H

/-- What the launch hands the grid is what the first point starts from, -/
theorem phi_in (c : Dev nD) : Pipeline.ΦD osem0 spec0 H0 (V m) c ⊢ PhiAt m c 0 := by
  rw [Pipeline.ΦD_eq, scopedRest0_eq, ownSems0_eq, moved_eq]
  unfold PhiAt
  rw [← weight_eq]
  iintro ⟨⟨⟨%fw, Hw⟩, Hs, Hx⟩, Hr, Hc, Hh⟩
  ihave Hs' := (land_split c) $$ Hs
  ihave Hx' := (xb_in c) $$ Hx
  ihave Hw' := (ent_of_eq (wbP_eq c fw).symm) $$ Hw
  isplitl [Hw']
  · iexists fw; isplitr
    · ipureintro; exact fun h => absurd h (Nat.lt_irrefl 0)
    · iexact Hw'
  isplitl [Hs']; · iexact Hs'
  isplitl [Hx']; · iexact Hx'
  isplitl [Hr]; · iexact Hr
  isplitl [Hc]; · iexact Hc
  iexact Hh
/-- and what the last point leaves is handed back. -/
theorem phi_out (c : Dev nD) (t : ℕ) : PhiAt m c t ⊢ Pipeline.ΦD osem0 spec0 H0 (V m) c := by
  rw [Pipeline.ΦD_eq, scopedRest0_eq, ownSems0_eq, moved_eq]
  unfold PhiAt
  rw [← weight_eq]
  iintro ⟨⟨%fw, -, Hw⟩, Hs, Hx, Hr, Hc, Hh⟩
  ihave Hs' := (land_join c) $$ Hs
  ihave Hx' := (xb_out c) $$ Hx
  ihave Hw' := (ent_of_eq (wbP_eq c fw)) $$ Hw
  isplitl [Hw' Hs' Hx']
  · isplitl [Hw']; · iexists fw; iexact Hw'
    isplitl [Hs']; · iexact Hs'
    iexact Hx'
  isplitl [Hr]; · iexact Hr
  isplitl [Hc]; · iexact Hc
  iexact Hh

set_option backward.isDefEq.respectTransparency.types false in
/-- Every run from zero counters ends: the arrays at what the proof data name, the counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ 𝒱₀ ownSemFacts0 H0 H0_sub m ρ main
    (hbody := fun c => (body_obligation m c).loose) (hshare := fun c => (dats m 0 c).share_full fun _ => rfl)
    (howed := fun _ _ => rfl) (V₀ := V0 m) (opss := [hostOps1]) (hsub := tail_but) (hfresh := sfx_fresh) (hkeep := sfx_keeps)
    (hmain := main_around m 𝒱₀) (hA := A_eq m)
    (hin := fun c => phi_in m c) (hout := fun c => phi_out m c _) (hQ' := fun _ h => h)

/-- The line after the grid does not write `main_arg1`: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The line after the grid does not write `main_arg2`: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The line after the grid does not write `main_arg3`: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- What a run leaves in the argument arrays. -/
theorem args_of (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c)⟩

/-- Every run ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of m r h.1, h.2⟩) (run_main m ρ)

end Cert.KernelIdeal.Hand

end
-- ==== Proof.Kernel.Names.lean ====
/-
  The names the weight loop is written in: chunk `b` of the quantised weight (512 of its rows), slot `s` of the
  landing buffer, slot `s`'s semaphore; and the printed offsets of the loop's trip `k` in closed form.
-/
module

public import proofs.«01_k».proof.Proof.KernelIdeal.Run
public import proofs.«01_k».proof.Proof.Gen.Kernel.Launch
public import proofs.«01_k».proof.Proof.Gen.Kernel.Loops
public import Idealize.ShloMosaic.Lib.Pipeline.Kit
public import Idealize.ShloMosaic.Lib.Ring
public import Idealize.ShloMosaic.Lib.Affine
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic

/-- The quantised weight, whole, where the launch left it. -/
abbrev wM : Memref sig .tc .hbm S7680x2176 .fp8e4m3 := Memref.whole main_arg2
/-- The two-slot landing buffer. -/
abbrev landM : Memref sig .tc .vmem S2x512x2176 .fp8e4m3 := Memref.whole cc0_scratch1

/-- Chunk `b` starts at row `512 b`. -/
abbrev grpOff (b : Fin 15) : Fin 2 → Nat := ![512 * b.val, 0]
/-- A chunk lies in the weight. -/
theorem grpOff_inb (b : Fin 15) : ∀ a, grpOff b a + S512x2176.size a ≤ S7680x2176.size a := by
  have := b.isLt; intro a; fin_cases a
  · show 512 * b.val + 512 ≤ 7680; omega
  · show 0 + 2176 ≤ 2176; omega
/-- Slot `s` is the `s`-th of the landing buffer's two pages. -/
abbrev slotOff (s : Fin 2) : Fin 3 → Nat := ![s.val, 0, 0]
/-- A slot lies in the landing buffer. -/
theorem slotOff_inb (s : Fin 2) : ∀ a, slotOff s a + S1x512x2176.size a ≤ S2x512x2176.size a := by
  have := s.isLt; intro a; fin_cases a
  · show s.val + 1 ≤ 2; omega
  · show 0 + 512 ≤ 512; omega
  · show 0 + 2176 ≤ 2176; omega
/-- Slot `s`'s semaphore is the `s`-th. -/
abbrev semOff (s : Fin 2) : Fin 1 → Nat := ![s.val]
/-- A slot has its semaphore. -/
theorem semOff_inb (s : Fin 2) : ∀ a, semOff s a + S1.size a ≤ S2.size a := by
  have := s.isLt; intro a; fin_cases a; show s.val + 1 ≤ 2; omega

/-- Chunk `b` of the weight, as the body slices it. -/
def grp (b : Fin 15) : Memref sig .tc .hbm S512x2176 .fp8e4m3 :=
  wM.slice (Rect.unit (s := S7680x2176) (grpOff b) S512x2176.size (grpOff_inb b)) (fun _ => rfl)
/-- Slot `s` of the landing buffer, as the body slices and squeezes it. -/
def rslot (s : Fin 2) : Memref sig .tc .vmem S512x2176 .fp8e4m3 :=
  (landM.slice (Rect.unit (s := S2x512x2176) (slotOff s) S1x512x2176.size (slotOff_inb s)) (fun _ => rfl)).squeeze S512x2176 squeezes_S1x512x2176_S512x2176
/-- Slot `s`'s semaphore, as the body slices and squeezes it. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 15) : ClosedOff (grpOff b) := ⟨grpOff b, rfl⟩

/-! ## The trip's offsets in closed form -/

/-- A trip number is below 15. -/
theorem trip_lt (k : Fin k0_t1_loop.trips) : k.val < 15 := Nat.lt_of_lt_of_le k.isLt k0_t1_abs.2.1

/-- The next copy's semaphore, -/
theorem off1_eq : ∀ k : Fin k0_t1_loop.trips, k0_off1 k = semOff (Ring.sl 2 (k.val + 1)) := by decide +kernel
/-- its slot; -/
theorem off2_eq : ∀ k : Fin k0_t1_loop.trips, k0_off2 k = slotOff (Ring.sl 2 (k.val + 1)) := by decide +kernel
/-- this copy's semaphore, -/
theorem off4_eq : ∀ k : Fin k0_t1_loop.trips, k0_off4 k = semOff (Ring.sl 2 k.val) := by decide +kernel
/-- its slot; -/
theorem off5_eq : ∀ k : Fin k0_t1_loop.trips, k0_off5 k = slotOff (Ring.sl 2 k.val) := by decide +kernel
/-- the next copy's chunk; -/
theorem off3_eq (k : Fin k0_t1_loop.trips) (hk : k.val + 1 < 15) : k0_off3 k = grpOff (Ring.bk 15 (k.val + 1)) := by
  rw [k0_off3_eq]; unfold grpOff; rw [Ring.bk_val hk]; congr 1
/-- this copy's chunk. -/
theorem off6_eq (k : Fin k0_t1_loop.trips) : k0_off6 k = grpOff (Ring.bk 15 k.val) := by
  rw [k0_off6_eq]; unfold grpOff; rw [Ring.bk_val (trip_lt k)]

/-- The next chunk is fetched at every trip but the last. -/
theorem cond2_iff : ∀ k : Fin k0_t1_loop.trips, k0_cond2 k = 1#1 ↔ k.val + 1 < 15 := by decide +kernel
/-- The weight is expanded at the first point only. -/
theorem cond1_iff : ∀ i : grid0.Coords, k0_cond1 i = 1#1 ↔ (i 0).val = 0 := by decide +kernel

/-- A box of trip `k`'s slot, from row `a` and column `b`. -/
abbrev boxOff (k : Fin k0_t1_loop.trips) (a b : Nat) : Fin 3 → Nat := ![(Ring.sl 2 k.val).val, a, b]
/-- The slot word the body computes for each of its loads is the trip's parity. -/
theorem box_eq (k : Fin k0_t1_loop.trips) (a b : Nat) : ![k0_off5 k 0, a, b] = boxOff k a b := by
  rw [off5_eq k]; rfl

instance (k : Fin k0_t1_loop.trips) : ClosedOff (k0_off2 k) := ⟨slotOff (Ring.sl 2 (k.val + 1)), off2_eq k⟩
instance (k : Fin k0_t1_loop.trips) : ClosedOff (k0_off5 k) := ⟨slotOff (Ring.sl 2 k.val), off5_eq k⟩

instance (k : Fin k0_t1_loop.trips) : ClosedOff (k0_off8 k) := ⟨boxOff k 0 0, box_eq k 0 0⟩
instance (k : Fin k0_t1_loop.trips) : ClosedOff (k0_off11 k) := ⟨boxOff k 0 128, box_eq k 0 128⟩
instance (k : Fin k0_t1_loop.trips) : ClosedOff (k0_off14 k) := ⟨boxOff k 0 256, box_eq k 0 256⟩
instance (k : Fin k0_t1_loop.trips) : ClosedOff (k0_off17 k) := ⟨boxOff k 0 384, box_eq k 0 384⟩
instance (k : Fin k0_t1_loop.trips) : ClosedOff (k0_off20 k) := ⟨boxOff k 0 512, box_eq k 0 512⟩
instance (k : Fin k0_t1_loop.trips) : ClosedOff (k0_off23 k) := ⟨boxOff k 0 640, box_eq k 0 640⟩
instance (k : Fin k0_t1_loop.trips) : ClosedOff (k0_off26 k) := ⟨boxOff k 0 768, box_eq k 0 768⟩
instance (k : Fin k0_t1_loop.trips) : ClosedOff (k0_off29 k) := ⟨boxOff k 0 896, box_eq k 0 896⟩
instance (k : Fin k0_t1_loop.trips) : ClosedOff (k0_off32 k) := ⟨boxOff k 0 1024, box_eq k 0 1024⟩
instance (k : Fin k0_t1_loop.trips) : ClosedOff (k0_off35 k) := ⟨boxOff k 0 1152, box_eq k 0 1152⟩
instance (k : Fin k0_t1_loop.trips) : ClosedOff (k0_off38 k) := ⟨boxOff k 0 1280, box_eq k 0 1280⟩
instance (k : Fin k0_t1_loop.trips) : ClosedOff (k0_off41 k) := ⟨boxOff k 0 1408, box_eq k 0 1408⟩
instance (k : Fin k0_t1_loop.trips) : ClosedOff (k0_off44 k) := ⟨boxOff k 0 1536, box_eq k 0 1536⟩
instance (k : Fin k0_t1_loop.trips) : ClosedOff (k0_off47 k) := ⟨boxOff k 0 1664, box_eq k 0 1664⟩
instance (k : Fin k0_t1_loop.trips) : ClosedOff (k0_off50 k) := ⟨boxOff k 0 1792, box_eq k 0 1792⟩
instance (k : Fin k0_t1_loop.trips) : ClosedOff (k0_off53 k) := ⟨boxOff k 0 1920, box_eq k 0 1920⟩
instance (k : Fin k0_t1_loop.trips) : ClosedOff (k0_off56 k) := ⟨boxOff k 0 2048, box_eq k 0 2048⟩
instance (k : Fin k0_t1_loop.trips) : ClosedOff (k0_off58 k) := ⟨boxOff k 128 0, box_eq k 128 0⟩
instance (k : Fin k0_t1_loop.trips) : ClosedOff (k0_off59 k) := ⟨boxOff k 128 128, box_eq k 128 128⟩
instance (k : Fin k0_t1_loop.trips) : ClosedOff (k0_off60 k) := ⟨boxOff k 128 256, box_eq k 128 256⟩
instance (k : Fin k0_t1_loop.trips) : ClosedOff (k0_off61 k) := ⟨boxOff k 128 384, box_eq k 128 384⟩
instance (k : Fin k0_t1_loop.trips) : ClosedOff (k0_off62 k) := ⟨boxOff k 128 512, box_eq k 128 512⟩
instance (k : Fin k0_t1_loop.trips) : ClosedOff (k0_off63 k) := ⟨boxOff k 128 640, box_eq k 128 640⟩
instance (k : Fin k0_t1_loop.trips) : ClosedOff (k0_off64 k) := ⟨boxOff k 128 768, box_eq k 128 768⟩
instance (k : Fin k0_t1_loop.trips) : ClosedOff (k0_off65 k) := ⟨boxOff k 128 896, box_eq k 128 896⟩
instance (k : Fin k0_t1_loop.trips) : ClosedOff (k0_off66 k) := ⟨boxOff k 128 1024, box_eq k 128 1024⟩
instance (k : Fin k0_t1_loop.trips) : ClosedOff (k0_off67 k) := ⟨boxOff k 128 1152, box_eq k 128 1152⟩
instance (k : Fin k0_t1_loop.trips) : ClosedOff (k0_off68 k) := ⟨boxOff k 128 1280, box_eq k 128 1280⟩
instance (k : Fin k0_t1_loop.trips) : ClosedOff (k0_off69 k) := ⟨boxOff k 128 1408, box_eq k 128 1408⟩
instance (k : Fin k0_t1_loop.trips) : ClosedOff (k0_off70 k) := ⟨boxOff k 128 1536, box_eq k 128 1536⟩
instance (k : Fin k0_t1_loop.trips) : ClosedOff (k0_off71 k) := ⟨boxOff k 128 1664, box_eq k 128 1664⟩
instance (k : Fin k0_t1_loop.trips) : ClosedOff (k0_off72 k) := ⟨boxOff k 128 1792, box_eq k 128 1792⟩
instance (k : Fin k0_t1_loop.trips) : ClosedOff (k0_off73 k) := ⟨boxOff k 128 1920, box_eq k 128 1920⟩
instance (k : Fin k0_t1_loop.trips) : ClosedOff (k0_off74 k) := ⟨boxOff k 128 2048, box_eq k 128 2048⟩
instance (k : Fin k0_t1_loop.trips) : ClosedOff (k0_off75 k) := ⟨boxOff k 256 0, box_eq k 256 0⟩
instance (k : Fin k0_t1_loop.trips) : ClosedOff (k0_off76 k) := ⟨boxOff k 256 128, box_eq k 256 128⟩
instance (k : Fin k0_t1_loop.trips) : ClosedOff (k0_off77 k) := ⟨boxOff k 256 256, box_eq k 256 256⟩
instance (k : Fin k0_t1_loop.trips) : ClosedOff (k0_off78 k) := ⟨boxOff k 256 384, box_eq k 256 384⟩
instance (k : Fin k0_t1_loop.trips) : ClosedOff (k0_off79 k) := ⟨boxOff k 256 512, box_eq k 256 512⟩
instance (k : Fin k0_t1_loop.trips) : ClosedOff (k0_off80 k) := ⟨boxOff k 256 640, box_eq k 256 640⟩
instance (k : Fin k0_t1_loop.trips) : ClosedOff (k0_off81 k) := ⟨boxOff k 256 768, box_eq k 256 768⟩
instance (k : Fin k0_t1_loop.trips) : ClosedOff (k0_off82 k) := ⟨boxOff k 256 896, box_eq k 256 896⟩
instance (k : Fin k0_t1_loop.trips) : ClosedOff (k0_off83 k) := ⟨boxOff k 256 1024, box_eq k 256 1024⟩
instance (k : Fin k0_t1_loop.trips) : ClosedOff (k0_off84 k) := ⟨boxOff k 256 1152, box_eq k 256 1152⟩
instance (k : Fin k0_t1_loop.trips) : ClosedOff (k0_off85 k) := ⟨boxOff k 256 1280, box_eq k 256 1280⟩
instance (k : Fin k0_t1_loop.trips) : ClosedOff (k0_off86 k) := ⟨boxOff k 256 1408, box_eq k 256 1408⟩
instance (k : Fin k0_t1_loop.trips) : ClosedOff (k0_off87 k) := ⟨boxOff k 256 1536, box_eq k 256 1536⟩
instance (k : Fin k0_t1_loop.trips) : ClosedOff (k0_off88 k) := ⟨boxOff k 256 1664, box_eq k 256 1664⟩
instance (k : Fin k0_t1_loop.trips) : ClosedOff (k0_off89 k) := ⟨boxOff k 256 1792, box_eq k 256 1792⟩
instance (k : Fin k0_t1_loop.trips) : ClosedOff (k0_off90 k) := ⟨boxOff k 256 1920, box_eq k 256 1920⟩
instance (k : Fin k0_t1_loop.trips) : ClosedOff (k0_off91 k) := ⟨boxOff k 256 2048, box_eq k 256 2048⟩
instance (k : Fin k0_t1_loop.trips) : ClosedOff (k0_off92 k) := ⟨boxOff k 384 0, box_eq k 384 0⟩
instance (k : Fin k0_t1_loop.trips) : ClosedOff (k0_off93 k) := ⟨boxOff k 384 128, box_eq k 384 128⟩
instance (k : Fin k0_t1_loop.trips) : ClosedOff (k0_off94 k) := ⟨boxOff k 384 256, box_eq k 384 256⟩
instance (k : Fin k0_t1_loop.trips) : ClosedOff (k0_off95 k) := ⟨boxOff k 384 384, box_eq k 384 384⟩
instance (k : Fin k0_t1_loop.trips) : ClosedOff (k0_off96 k) := ⟨boxOff k 384 512, box_eq k 384 512⟩
instance (k : Fin k0_t1_loop.trips) : ClosedOff (k0_off97 k) := ⟨boxOff k 384 640, box_eq k 384 640⟩
instance (k : Fin k0_t1_loop.trips) : ClosedOff (k0_off98 k) := ⟨boxOff k 384 768, box_eq k 384 768⟩
instance (k : Fin k0_t1_loop.trips) : ClosedOff (k0_off99 k) := ⟨boxOff k 384 896, box_eq k 384 896⟩
instance (k : Fin k0_t1_loop.trips) : ClosedOff (k0_off100 k) := ⟨boxOff k 384 1024, box_eq k 384 1024⟩
instance (k : Fin k0_t1_loop.trips) : ClosedOff (k0_off101 k) := ⟨boxOff k 384 1152, box_eq k 384 1152⟩
instance (k : Fin k0_t1_loop.trips) : ClosedOff (k0_off102 k) := ⟨boxOff k 384 1280, box_eq k 384 1280⟩
instance (k : Fin k0_t1_loop.trips) : ClosedOff (k0_off103 k) := ⟨boxOff k 384 1408, box_eq k 384 1408⟩
instance (k : Fin k0_t1_loop.trips) : ClosedOff (k0_off104 k) := ⟨boxOff k 384 1536, box_eq k 384 1536⟩
instance (k : Fin k0_t1_loop.trips) : ClosedOff (k0_off105 k) := ⟨boxOff k 384 1664, box_eq k 384 1664⟩
instance (k : Fin k0_t1_loop.trips) : ClosedOff (k0_off106 k) := ⟨boxOff k 384 1792, box_eq k 384 1792⟩
instance (k : Fin k0_t1_loop.trips) : ClosedOff (k0_off107 k) := ⟨boxOff k 384 1920, box_eq k 384 1920⟩
instance (k : Fin k0_t1_loop.trips) : ClosedOff (k0_off108 k) := ⟨boxOff k 384 2048, box_eq k 384 2048⟩

/-! ## The body's slices are those names -/

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (landM.slice (Rect.unit (s := S2x512x2176) off S1x512x2176.size hh) hs).squeeze S512x2176 squeezes_S1x512x2176_S512x2176 = rslot s :=
  congrArg (fun M : Memref sig .tc .vmem S1x512x2176 .fp8e4m3 => M.squeeze S512x2176 squeezes_S1x512x2176_S512x2176) (Memref.slice_unit_congr _ e _ _ _ _)
private theorem grp_congr {off : Fin 2 → Nat} {b : Fin 15} (e : off = grpOff b) (hh hs) :
    wM.slice (Rect.unit (s := S7680x2176) off S512x2176.size hh) hs = grp b :=
  Memref.slice_unit_congr _ e hh (grpOff_inb b) hs (fun _ => rfl)

/-- Before the loop: semaphore, slot and chunk 0. -/
@[sl_canon] theorem semL0 (hh) : (cc0_scratch3.slice (Rect.unit (s := S2) ![0] S1.size hh)).squeeze S_ squeezes_S1_S_ = csm 0 := csm_congr (by decide) _
@[sl_canon] theorem slotL0 (hh hs) : (landM.slice (Rect.unit (s := S2x512x2176) ![0, 0, 0] S1x512x2176.size hh) hs).squeeze S512x2176 squeezes_S1x512x2176_S512x2176 = rslot 0 := rslot_congr (by decide) _ _
@[sl_canon] theorem grpL0 (hh hs) : wM.slice (Rect.unit (s := S7680x2176) ![0, 0] S512x2176.size hh) hs = grp 0 := grp_congr (by decide) _ _

/-- Trip `k` issues chunk `k + 1` into the other slot, -/
@[sl_canon] theorem semI (k : Fin k0_t1_loop.trips) (hh) :
    (cc0_scratch3.slice (Rect.unit (s := S2) (k0_off1 k) S1.size hh)).squeeze S_ squeezes_S1_S_ = csm (Ring.sl 2 (k.val + 1)) := csm_congr (off1_eq k) _
@[sl_canon] theorem slotI (k : Fin k0_t1_loop.trips) (hh hs) :
    (landM.slice (Rect.unit (s := S2x512x2176) (k0_off2 k) S1x512x2176.size hh) hs).squeeze S512x2176 squeezes_S1x512x2176_S512x2176 = rslot (Ring.sl 2 (k.val + 1)) := rslot_congr (off2_eq k) _ _
@[sl_canon] theorem grpI (k : Fin k0_t1_loop.trips) (hk : k.val + 1 < 15) (hh hs) :
    wM.slice (Rect.unit (s := S7680x2176) (k0_off3 k) S512x2176.size hh) hs = grp (Ring.bk 15 (k.val + 1)) := grp_congr (off3_eq k hk) _ _
/-- and waits for chunk `k` in its own. -/
@[sl_canon] theorem semW (k : Fin k0_t1_loop.trips) (hh) :
    (cc0_scratch3.slice (Rect.unit (s := S2) (k0_off4 k) S1.size hh)).squeeze S_ squeezes_S1_S_ = csm (Ring.sl 2 k.val) := csm_congr (off4_eq k) _
@[sl_canon] theorem slotW (k : Fin k0_t1_loop.trips) (hh hs) :
    (landM.slice (Rect.unit (s := S2x512x2176) (k0_off5 k) S1x512x2176.size hh) hs).squeeze S512x2176 squeezes_S1x512x2176_S512x2176 = rslot (Ring.sl 2 k.val) := rslot_congr (off5_eq k) _ _
@[sl_canon] theorem grpW (k : Fin k0_t1_loop.trips) (hh hs) :
    wM.slice (Rect.unit (s := S7680x2176) (k0_off6 k) S512x2176.size hh) hs = grp (Ring.bk 15 k.val) := grp_congr (off6_eq k) _ _

end Cert.Kernel.Hand

end
-- ==== Proof.Kernel.Trip.lean ====
/-
  One trip of the weight loop, run at a symbolic trip `k`: chunk `k` is waited for in slot `k % 2`, chunk `k + 1` is
  issued into the other slot, and the waited chunk's sixty-eight blocks are scaled and stored.
-/
module

public import proofs.«01_k».proof.Proof.Kernel.Names

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra: the pipeline library's, beside the counters the kernel's own transfers ride on -/

/-- The ghost state. -/
abbrev UU (nD : Nat) (τ : Topo) : Type := UR sig nD τ × Counters
local notation "𝕄" => MT nD τ sig Unit (Elt F) ℕ (UU nD τ) ℕ
/-- No loop needs a variant. -/
abbrev 𝒱₀ : Variants := Variants.none

/-- The expanded weight, whole. -/
abbrev wbM : Memref sig .tc .vmem S7680x2176 .bf16 := Memref.whole cc0_scratch0

section Pieces
variable (c : Dev nD) (XA : Buf (Elt F) (wM.view.loc (c : Thread nD τ)))

/-- A slot's semaphore at zero. -/
abbrev cellP (s : Fin 2) : sProp 𝕄 := semVal ((c : Thread nD τ), SemLoc.dma (csm s).sem) 0
/-- A slot of the landing buffer. -/
abbrev slotP (s : Fin 2) (f : Buf (Elt F) ((rslot s).view.loc (c : Thread nD τ))) : sProp 𝕄 :=
  (rslot s).view.loc (c : Thread nD τ) ↦[(rslot s).view.set]{fullShare} f
/-- Chunk `b` HOME: held on its elements at the weight's contents. -/
abbrev homeP (b : Fin 15) : sProp 𝕄 := (grp b).view.loc (c : Thread nD τ) ↦[(grp b).view.set]{fullShare} XA
/-- Chunk `b`'s words as a slot's payload. -/
abbrev payload (b : Fin 15) : S512x2176.Idx → Elt F .fp8e4m3 := ReadAs.same.apply ((grp b).view.read (Elt F) XA)
/-- What chunk `b`'s transfer leaves in slot `s` over prior contents `f`: the chunk, written whole. -/
abbrev landed (s : Fin 2) (b : Fin 15) (f : Buf (Elt F) ((rslot s).view.loc (c : Thread nD τ))) : Buf (Elt F) ((rslot s).view.loc (c : Thread nD τ)) :=
  (rslot s).view.writes (Elt F) f [⟨Rect.whole S512x2176, payload c XA b⟩]
/-- A chunk's transfer moves this many units on its semaphore. -/
abbrev NN : ℕ := 34816
/-- Slot `s` IN FLIGHT with chunk `b`, issued over `f`. -/
abbrev flightP (s : Fin 2) (b : Fin 15) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- Trip `k`'s homes: chunk `k + 1` (about to go out) beside the rest. -/
theorem homes_here (k : ℕ) (hk : k + 1 < 15) :
    bigSep (Ring.homeSet 1 k) (homeP c XA) = iprop(homeP c XA (Ring.bk 15 (k + 1)) ∗ bigSep ((Ring.homeSet 1 k).erase (Ring.bk 15 (k + 1))) (homeP c XA)) := by
  conv_lhs => rw [Ring.homeSet_out 1 k hk, bigSep_insert (Ring.bkL_not_mem_erase 1 k)]
  rfl
/-- Trip `k + 1`'s homes: chunk `k` (just back) beside that rest. -/
theorem homes_next (k : ℕ) (hk : k + 1 < 15) :
    bigSep (Ring.homeSet 1 (k + 1)) (homeP c XA) = iprop(homeP c XA (Ring.bk 15 k) ∗ bigSep ((Ring.homeSet 1 k).erase (Ring.bk 15 (k + 1))) (homeP c XA)) := by
  conv_lhs => rw [Ring.homeSet_succ 1 k hk, bigSep_insert (Ring.bk_not_mem_erase 1 k (by omega) (by decide))]
  rfl
/-- After the last trip every chunk is home. -/
theorem homes_last (k : ℕ) (hk : k + 1 = 15) :
    bigSep Finset.univ (homeP c XA) = iprop(homeP c XA (Ring.bk 15 k) ∗ bigSep (Ring.homeSet 1 k) (homeP c XA)) := by
  rw [← Ring.homeSet_last (NB := 15) 1 (k + 1) (by omega), Ring.homeSet_succ_tail 1 k (by omega) (by omega),
    bigSep_insert (Ring.bk_not_mem_homeSet 1 k (by omega) (by decide))]
  rfl

end Pieces

section Trip

variable (c : Dev nD) (XA : Buf (Elt F) (wM.view.loc (c : Thread nD τ)))
  (i : grid0.Coords) (h1 : k0_cond1 i = 1#1)
  (arg1 : Memref sig .tc .vmem S8x128x2176 .fp8e4m3) (harg1 : arg1.IsWhole)
  (arg2 : Memref sig .tc .vmem S17x8x128 .f32) (harg2 : arg2.IsWhole)
  (arg4 : Memref sig .tc .smem S17x60 .f32) (harg4 : arg4.IsWhole)
  (arg5 : Memref sig .tc .vmem S8x128x3840 .fp8e4m3) (harg5 : arg5.IsWhole)
  (arg6 : Memref sig .tc .vmem S30x8x128 .f32) (harg6 : arg6.IsWhole)
  (arg9 : Memref sig .tc .vmem S1024x2176 .bf16) (harg9 : arg9.IsWhole)
  (g4 : Buf (Elt F) (arg4.view.loc (c : Thread nD τ)))

/-- The expanded weight. -/
abbrev wbP (f : Buf (Elt F) (wbM.view.loc (c : Thread nD τ))) : sProp 𝕄 := wbM.view.loc (c : Thread nD τ) ↦[wbM.view.set]{fullShare} f
/-- The scales of the weight. -/
abbrev wsP : sProp 𝕄 := arg4.view.loc (c : Thread nD τ) ↦[arg4.view.set]{fullShare} g4

/-- The resources before trip `k < 15`, the expanded weight at `f`. -/
def resAt (k : ℕ) (f : Buf (Elt F) (wbM.view.loc (c : Thread nD τ))) : sProp 𝕄 :=
  iprop(wbP c f ∗ wsP c arg4 g4 ∗ (∃ W, owes (c : Thread nD τ) 0 W)
    ∗ bigSep (Ring.homeSet 1 k) (homeP c XA)
    ∗ (∃ f, flightP c XA (Ring.sl 2 k) (Ring.bk 15 k) f)
    ∗ (∃ f, slotP c (Ring.sl 2 (k + 1)) f) ∗ cellP c (Ring.sl 2 (k + 1)))
/-- The resources after the last trip. -/
def resEnd (f : Buf (Elt F) (wbM.view.loc (c : Thread nD τ))) : sProp 𝕄 :=
  iprop(wbP c f ∗ wsP c arg4 g4 ∗ (∃ W, owes (c : Thread nD τ) 0 W)
    ∗ bigSep Finset.univ (homeP c XA)
    ∗ (∃ f, slotP c 0 f) ∗ (∃ f, slotP c 1 f) ∗ cellP c 0 ∗ cellP c 1)

/-- One trip of the weight loop, its parts by name. -/
abbrev tripG (k : Fin k0_t1_loop.trips) : Prog (TpuEff nD τ sig (Elt F) Λ₀ .tc) Unit :=
  k0_t1_body (F := F) i arg1 harg1 arg2 harg2 wM (Memref.isWhole_whole _) arg4 harg4 arg5 harg5 arg6 harg6 wbM (Memref.isWhole_whole _)
    landM (Memref.isWhole_whole _) arg9 harg9 cc0_scratch3 h1 k ()

omit [FloatOps F] in
/-- Chunks two apart share a slot. -/
theorem sl2_add2 (k : ℕ) : Ring.sl 2 (k + 1 + 1) = Ring.sl 2 k := by rw [show k + 1 + 1 = k + 2 from rfl, Ring.sl_add]

set_option backward.proofsInPublic true in
/-- ONE TRIP that issues the next chunk, the pieces it stores to be found. -/
def tripRun (k : Fin k0_t1_loop.trips) (hk : k.val + 1 < 15) (f : Buf (Elt F) (wbM.view.loc (c : Thread nD τ))) :
    { L : List (View.Piece (Elt F) S7680x2176 .bf16) //
      resAt c XA arg4 g4 k f ⊢ wp frame (wpE (defs₀ (F := F)) 𝒱₀ (c : Thread nD τ) none) Set.univ
        (tripG i h1 arg1 harg1 arg2 harg2 arg4 harg4 arg5 harg5 arg6 harg6 arg9 harg9 k)
        (fun _ => resAt c XA arg4 g4 (k.val + 1) (wbM.view.writes (Elt F) f L)) } := by
  refine ⟨?_, ?run⟩
  case run =>
    have h2 : k0_cond2 k = 1#1 := (cond2_iff k).2 hk
    unfold resAt
    rw [homes_here c XA k.val hk, homes_next c XA k.val hk, sl2_add2]
    iintro ⟨HO, HS, ⟨%W, HW⟩, ⟨Hg, Hrest⟩, ⟨%f0, HF0⟩, ⟨%f1, Hs1⟩, Hc1⟩
    dsimp only [tripG]
    unfold k0_t1_body
    sl_exec
    sl_step
    isplitl [HO]; · iexact HO
    isplitl [HS]; · iexact HS
    isplitl [HW]; · iexists _; iexact HW
    isplitl [HF0_src Hrest]
    · isplitl [HF0_src]; · iexact HF0_src
      iexact Hrest
    isplitl [Hc1]; · iexists f1; iexact Hc1
    isplitl [HF0_dst]; · iexists _; iexact HF0_dst
    iexact HF0

omit [FloatOps F] in
/-- Slots `k % 2` and `(k + 1) % 2` are slots 0 and 1. -/
theorem two_of_roles (P : Fin 2 → sProp 𝕄) (k : ℕ) : iprop(P (Ring.sl 2 k) ∗ P (Ring.sl 2 (k + 1))) ⊢ iprop(P 0 ∗ P 1) := by
  rcases Nat.mod_two_eq_zero_or_one k with h | h
  · have e0 : Ring.sl 2 k = 0 := Fin.ext (by simp [Ring.sl, Fin.ofNat, h])
    have e1 : Ring.sl 2 (k + 1) = 1 := Fin.ext (by simp [Ring.sl, Fin.ofNat]; omega)
    rw [e0, e1]
  · have e0 : Ring.sl 2 k = 1 := Fin.ext (by simp [Ring.sl, Fin.ofNat, h])
    have e1 : Ring.sl 2 (k + 1) = 0 := Fin.ext (by simp [Ring.sl, Fin.ofNat]; omega)
    rw [e0, e1]; iintro ⟨H1, H0⟩; isplitl [H0] <;> iassumption

set_option backward.proofsInPublic true in
/-- THE LAST TRIP, which issues nothing. -/
def lastRun (k : Fin k0_t1_loop.trips) (hk : k.val + 1 = 15) (f : Buf (Elt F) (wbM.view.loc (c : Thread nD τ))) :
    { L : List (View.Piece (Elt F) S7680x2176 .bf16) //
      resAt c XA arg4 g4 k f ⊢ wp frame (wpE (defs₀ (F := F)) 𝒱₀ (c : Thread nD τ) none) Set.univ
        (tripG i h1 arg1 harg1 arg2 harg2 arg4 harg4 arg5 harg5 arg6 harg6 arg9 harg9 k)
        (fun _ => resEnd c XA arg4 g4 (wbM.view.writes (Elt F) f L)) } := by
  refine ⟨?_, ?run⟩
  case run =>
    have h2 : ¬ k0_cond2 k = 1#1 := fun h => by have := (cond2_iff k).1 h; omega
    unfold resAt resEnd
    rw [homes_last c XA k.val hk]
    iintro ⟨HO, HS, ⟨%W, HW⟩, Hrest, ⟨%f0, HF0⟩, ⟨%f1, Hs1⟩, Hc1⟩
    dsimp only [tripG]
    unfold k0_t1_body
    sl_exec
    sl_step
    isplitl [HO]; · iexact HO
    isplitl [HS]; · iexact HS
    isplitl [HW]; · iexists _; iexact HW
    isplitl [HF0_src Hrest]
    · isplitl [HF0_src]; · iexact HF0_src
      iexact Hrest
    ihave Hs := (two_of_roles (F := F) (fun s => iprop(∃ f, slotP c s f)) k.val) $$ [HF0_dst Hs1]
    · isplitl [HF0_dst]; · iexists _; iexact HF0_dst
      iexists _; iexact Hs1
    icases Hs with ⟨Hs0, Hs1⟩
    ihave Hc := (two_of_roles (F := F) (cellP c) k.val) $$ [HF0 Hc1]
    · isplitl [HF0]; · iexact HF0
      iexact Hc1
    icases Hc with ⟨Hc0', Hc1'⟩
    isplitl [Hs0]; · iexact Hs0
    isplitl [Hs1]; · iexact Hs1
    isplitl [Hc0']; · iexact Hc0'
    iexact Hc1'

end Trip

end Cert.Kernel.Hand

end
-- ==== Proof.Kernel.Weight.lean ====
/-
  What a trip of the weight loop stores: each piece is the expanded weight (`wbVal`) on the piece's own rows and columns.
-/
module

public import proofs.«01_k».proof.Proof.Kernel.Trip
public import Idealize.ShloMosaic.Lib.Pipeline.Value
public import Idealize.ShloMosaic.Lib.ValueLayout

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.ShloMosaic.ValueIdx

variable {F : FTy → Type} [FloatOps F]
variable (c : Dev nD) (XA : Buf (Elt F) (wM.view.loc (c : Thread nD τ)))
  (arg4 : Memref sig .tc .smem S17x60 .f32) (g4 : Buf (Elt F) (arg4.view.loc (c : Thread nD τ)))

/-- Scale `(j, r)` of the weight: for its 128 rows from `128 r` and its 128 columns from `128 j`. -/
abbrev scaleIx (y : S7680x2176.Idx) : S17x60.Idx :=
  ix2 ⟨(y 1).val / 128, by have : (y 1).val < 2176 := (y 1).isLt; show _ < 17; omega⟩
    ⟨(y 0).val / 128, by have : (y 0).val < 7680 := (y 0).isLt; show _ < 60; omega⟩

/-- The expanded weight: the quantised element times its block's scale, the scale rounded to bfloat16 first. -/
def wbVal (y : S7680x2176.Idx) : Elt F .bf16 :=
  FloatOps.mulf (FloatOps.extf .bf16 bitsLt_fp8e4m3_bf16 (wM.view.read (Elt F) XA y))
    (Scalar.truncf .bf16 bitsLt_bf16_f32 (arg4.view.read (Elt F) g4 (scaleIx y)))

/-- The value one store writes, from its scale word and its block. -/
def wpay (s : Elt F .f32) (blk : Vec F S1x128x128 .fp8e4m3) : FVec F S128x128 .bf16 :=
  shapeCast S128x128 (mulf (extf .bf16 (shapeCast S128x128 blk shapeCasts_S1x128x128_S128x128) bitsLt_fp8e4m3_bf16)
    (broadcast S128x128 (Scalar.truncf .bf16 bitsLt_bf16_f32 s))) shapeCasts_S128x128_S128x128

/-- A block of the weight times its scale cast down, at an element. -/
theorem wpay_apply (s : Elt F .f32) (blk : Vec F S1x128x128 .fp8e4m3) (x : S128x128.Idx) :
    wpay s blk x = FloatOps.mulf (FloatOps.extf .bf16 bitsLt_fp8e4m3_bf16 (blk (Fin.cons ⟨0, Nat.one_pos⟩ x))) (Scalar.truncf .bf16 bitsLt_bf16_f32 s) := by
  unfold wpay
  rw [shapeCast_self, ← shapeCast_dropUnit_apply ![128, 128] blk shapeCasts_S1x128x128_S128x128 x]
  rfl

/-- A slot and a chunk have as many elements. -/
theorem slot_casts : S1x512x2176.ShapeCasts S512x2176 := by decide

/-- The landing buffer read at a slot's element is the slot's element. -/
theorem slot_read (s : Fin 2) (G : Buf (Elt F) (landM.view.loc (c : Thread nD τ))) (z : S512x2176.Idx) (y : S2x512x2176.Idx)
    (h0 : (y 0).val = s.val) (h1 : (y 1).val = (z 0).val) (h2 : (y 2).val = (z 1).val) :
    landM.view.read (Elt F) G y = (rslot s).view.read (Elt F) G z := by
  have e : (rslot s).view.read (Elt F) G z
      = shapeCast S512x2176 (landM.view.readAt (Elt F) (Rect.unit (s := S2x512x2176) (slotOff s) S1x512x2176.size (slotOff_inb s)).toLoadRect G) slot_casts z :=
    congrFun (Memref.read_squeeze_slice landM (Rect.unit (s := S2x512x2176) (slotOff s) S1x512x2176.size (slotOff_inb s)) (fun _ => rfl) squeezes_S1x512x2176_S512x2176 slot_casts G) z
  have e' : shapeCast S512x2176 (landM.view.readAt (Elt F) (Rect.unit (s := S2x512x2176) (slotOff s) S1x512x2176.size (slotOff_inb s)).toLoadRect G) slot_casts z
      = landM.view.readAt (Elt F) (Rect.unit (s := S2x512x2176) (slotOff s) S1x512x2176.size (slotOff_inb s)).toLoadRect G (Fin.cons ⟨0, Nat.one_pos⟩ z) :=
    shapeCast_dropUnit_apply ![512, 2176] _ _ z
  refine Eq.trans ?_ (e.trans e').symm
  show landM.view.read (Elt F) G y = landM.view.read (Elt F) G ((Rect.unit (s := S2x512x2176) (slotOff s) S1x512x2176.size (slotOff_inb s)).toLoadRect.idx (Fin.cons ⟨0, Nat.one_pos⟩ z))
  refine congrArg (landM.view.read (Elt F) G) ?_
  funext a
  apply Fin.ext
  match a with
  | ⟨0, _⟩ => show (y 0).val = s.val + 1 * 0; omega
  | ⟨1, _⟩ => show (y 1).val = 0 + 1 * (z 0).val; omega
  | ⟨2, _⟩ => show (y 2).val = 0 + 1 * (z 1).val; omega

/-- A block loaded from a slot that holds chunk `b` is the weight on that chunk's rows. -/
theorem land_box (s : Fin 2) (b : Fin 15) {off : Fin 3 → Nat} (r0 c0 : Nat) (e : off = ![s.val, r0, c0])
    (inb : ∀ a, off a + S1x128x128.size a ≤ S2x512x2176.size a) (f : Buf (Elt F) ((rslot s).view.loc (c : Thread nD τ)))
    (x : S128x128.Idx) (y : S7680x2176.Idx)
    (hy0 : (y 0).val = 512 * b.val + r0 + (x 0).val) (hy1 : (y 1).val = c0 + (x 1).val) :
    landM.view.readAt (Elt F) (Rect.unit (s := S2x512x2176) off S1x128x128.size inb).toLoadRect
      ((rslot s).view.writes (Elt F) f [⟨Rect.whole S512x2176, payload c XA b⟩]) (Fin.cons ⟨0, Nat.one_pos⟩ x)
      = wM.view.read (Elt F) XA y := by
  subst e
  have i1 : r0 + 128 ≤ 512 := inb 1
  have i2 : c0 + 128 ≤ 2176 := inb 2
  have x0 : (x 0).val < 128 := (x 0).isLt
  have x1 : (x 1).val < 128 := (x 1).isLt
  have hz : ∃ z : S512x2176.Idx, (z 0).val = r0 + (x 0).val ∧ (z 1).val = c0 + (x 1).val :=
    ⟨ix2 ⟨r0 + (x 0).val, by omega⟩ ⟨c0 + (x 1).val, by omega⟩, rfl, rfl⟩
  obtain ⟨z, hz0, hz1⟩ := hz
  have e1 : (rslot s).view.read (Elt F) ((rslot s).view.writes (Elt F) f [⟨Rect.whole S512x2176, payload c XA b⟩]) z = payload c XA b z :=
    View.read_writes_cons_hit_of_coords (rslot s).view f (Rect.whole S512x2176) (payload c XA b) [] z z
      (fun a => by show (z a).val = 0 + 1 * (z a).val; omega)
  have e2 : payload c XA b z = wM.view.read (Elt F) XA y := by
    show wM.view.read (Elt F) XA ((Rect.unit (s := S7680x2176) (grpOff b) S512x2176.size (grpOff_inb b)).emb z) = _
    refine congrArg (wM.view.read (Elt F) XA) ?_
    funext a
    apply Fin.ext
    match a with
    | ⟨0, _⟩ => show 512 * b.val + 1 * (z 0).val = (y 0).val; omega
    | ⟨1, _⟩ => show 0 + 1 * (z 1).val = (y 1).val; omega
  refine Eq.trans ?_ (e1.trans e2)
  refine slot_read c s ((rslot s).view.writes (Elt F) f [⟨Rect.whole S512x2176, payload c XA b⟩]) z _ ?_ ?_ ?_
  · show s.val + 1 * 0 = s.val; omega
  · show r0 + 1 * (x 0).val = (z 0).val; omega
  · show c0 + 1 * (x 1).val = (z 1).val; omega

/-- ONE PIECE: the store of block `(r, j)` of chunk `k` writes the expanded weight there. -/
theorem wpiece (k : Fin k0_t1_loop.trips) {r j : Nat} {off8 : Fin 3 → Nat} {off7 off9 : Fin 2 → Nat}
    (inb8 : ∀ a, off8 a + S1x128x128.size a ≤ S2x512x2176.size a) (inb7 : ∀ a, off7 a + S1x1.size a ≤ S17x60.size a)
    (inb9 : ∀ a, off9 a + S128x128.size a ≤ S7680x2176.size a)
    (q7 : off7 = ![j, 4 * k.val + r]) (q8 : off8 = ![(Ring.sl 2 k.val).val, 128 * r, 128 * j])
    (q9 : off9 = ![512 * k.val + 128 * r, 128 * j])
    (f : Buf (Elt F) ((rslot (Ring.sl 2 k.val)).view.loc (c : Thread nD τ))) (hn : 0 < S1x1.numel) (x : S128x128.Idx) :
    wpay (arg4.view.readAt (Elt F) (Rect.unit (s := S17x60) off7 S1x1.size inb7).toLoadRect g4 (Shape.Idx.first hn))
      (landM.view.readAt (Elt F) (Rect.unit (s := S2x512x2176) off8 S1x128x128.size inb8).toLoadRect
        ((rslot (Ring.sl 2 k.val)).view.writes (Elt F) f [⟨Rect.whole S512x2176, payload c XA (Ring.bk 15 k.val)⟩])) x
      = wbVal c XA arg4 g4 ((Rect.unit (s := S7680x2176) off9 S128x128.size inb9).emb x) := by
  have hk := trip_lt k
  have x0 : (x 0).val < 128 := (x 0).isLt
  have x1 : (x 1).val < 128 := (x 1).isLt
  subst q9
  have y0 : ((Rect.unit (s := S7680x2176) ![512 * k.val + 128 * r, 128 * j] S128x128.size inb9).emb x 0).val = 512 * k.val + 128 * r + (x 0).val := by
    show 512 * k.val + 128 * r + 1 * (x 0).val = _; omega
  have y1 : ((Rect.unit (s := S7680x2176) ![512 * k.val + 128 * r, 128 * j] S128x128.size inb9).emb x 1).val = 128 * j + (x 1).val := by
    show 128 * j + 1 * (x 1).val = _; omega
  rw [wpay_apply, land_box c XA (Ring.sl 2 k.val) (Ring.bk 15 k.val) (128 * r) (128 * j) q8 inb8 f x _ (by rw [y0, Ring.bk_val hk]) y1]
  unfold wbVal
  congr 2
  subst q7
  rw [View.readAt_apply]
  congr 1
  funext a
  apply Fin.ext
  have i0 : 4 * k.val + r + 1 ≤ 60 := inb7 1
  match a with
  | ⟨0, _⟩ =>
    show j + 1 * 0 = ((Rect.unit (s := S7680x2176) ![512 * k.val + 128 * r, 128 * j] S128x128.size inb9).emb x 1).val / 128
    rw [y1]; omega
  | ⟨1, _⟩ =>
    show (4 * k.val + r) + 1 * 0 = ((Rect.unit (s := S7680x2176) ![512 * k.val + 128 * r, 128 * j] S128x128.size inb9).emb x 0).val / 128
    rw [y0]; omega

end Cert.Kernel.Hand

end
-- ==== Proof.Kernel.Agree.lean ====
/-
  The stores of a trip of the weight loop, all together: every piece is the expanded weight on its block, and the pieces of
  chunk `k` fill exactly its rows.
-/
module

public import proofs.«01_k».proof.Proof.Kernel.Weight

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.ShloMosaic.ValueIdx

variable {F : FTy → Type} [FloatOps F]
variable (c : Dev nD) (XA : Buf (Elt F) (wM.view.loc (c : Thread nD τ)))
  (arg4 : Memref sig .tc .smem S17x60 .f32) (g4 : Buf (Elt F) (arg4.view.loc (c : Thread nD τ)))

/-- The blocks of a chunk, last stored first: `(r, j)` is rows from `128 r`, columns from `128 j`. -/
def pairs : List (Nat × Nat) := [(3, 16), (3, 15), (3, 14), (3, 13), (3, 12), (3, 11), (3, 10), (3, 9), (3, 8), (3, 7), (3, 6), (3, 5), (3, 4), (3, 3), (3, 2), (3, 1), (3, 0), (2, 16), (2, 15), (2, 14), (2, 13), (2, 12), (2, 11), (2, 10), (2, 9), (2, 8), (2, 7), (2, 6), (2, 5), (2, 4), (2, 3), (2, 2), (2, 1), (2, 0), (1, 16), (1, 15), (1, 14), (1, 13), (1, 12), (1, 11), (1, 10), (1, 9), (1, 8), (1, 7), (1, 6), (1, 5), (1, 4), (1, 3), (1, 2), (1, 1), (1, 0), (0, 16), (0, 15), (0, 14), (0, 13), (0, 12), (0, 11), (0, 10), (0, 9), (0, 8), (0, 7), (0, 6), (0, 5), (0, 4), (0, 3), (0, 2), (0, 1), (0, 0)]

/-- Every block of a chunk is in the list. -/
theorem mem_pairs : ∀ r : Fin 4, ∀ j : Fin 17, (r.val, j.val) ∈ pairs := by decide

/-- Piece `p` is the expanded weight on block `q` of chunk `k`. -/
def Good (k : Nat) (p : View.Piece (Elt F) S7680x2176 .bf16) (q : Nat × Nat) : Prop :=
  (∀ x, p.2 x = wbVal c XA arg4 g4 (p.1.emb x)) ∧
  ∀ y : S7680x2176.Idx, y ∈ p.1.set ↔ (512 * k + 128 * q.1 ≤ (y 0).val ∧ (y 0).val < 512 * k + 128 * q.1 + 128)
    ∧ 128 * q.2 ≤ (y 1).val ∧ (y 1).val < 128 * q.2 + 128

/-- A store of one block of a chunk, at offsets that name it, is the expanded weight there. -/
theorem good_mk (k : Fin k0_t1_loop.trips) {r j : Nat} {off8 : Fin 3 → Nat} {off7 off9 : Fin 2 → Nat}
    {inb8 : ∀ a, off8 a + S1x128x128.size a ≤ S2x512x2176.size a} {inb7 : ∀ a, off7 a + S1x1.size a ≤ S17x60.size a}
    {inb9 : ∀ a, off9 a + S128x128.size a ≤ S7680x2176.size a}
    {f : Buf (Elt F) ((rslot (Ring.sl 2 k.val)).view.loc (c : Thread nD τ))} {hn : 0 < S1x1.numel}
    {w : FVec F S128x128 .bf16} {s : Elt F .f32} {blk : Vec F S1x128x128 .fp8e4m3}
    (hw : w = wpay s blk)
    (hs : s = arg4.view.readAt (Elt F) (Rect.unit (s := S17x60) off7 S1x1.size inb7).toLoadRect g4 (Shape.Idx.first hn))
    (hb : blk = landM.view.readAt (Elt F) (Rect.unit (s := S2x512x2176) off8 S1x128x128.size inb8).toLoadRect
        ((rslot (Ring.sl 2 k.val)).view.writes (Elt F) f [⟨Rect.whole S512x2176, payload c XA (Ring.bk 15 k.val)⟩]))
    (q7 : off7 = ![j, 4 * k.val + r]) (q8 : off8 = ![(Ring.sl 2 k.val).val, 128 * r, 128 * j])
    (q9 : off9 = ![512 * k.val + 128 * r, 128 * j]) :
    Good c XA arg4 g4 k.val ⟨Rect.unit (s := S7680x2176) off9 S128x128.size inb9, w⟩ (r, j) := by
  subst hw hs hb
  refine ⟨fun x => wpiece c XA arg4 g4 k inb8 inb7 inb9 q7 q8 q9 f hn x, fun y => ?_⟩
  subst q9
  have hm : y ∈ (Rect.unit (s := S7680x2176) ![512 * k.val + 128 * r, 128 * j] S128x128.size inb9).set
      ↔ ∀ a : Fin 2, (![512 * k.val + 128 * r, 128 * j] : Fin 2 → Nat) a ≤ (y a).val ∧ (y a).val < (![512 * k.val + 128 * r, 128 * j] : Fin 2 → Nat) a + S128x128.size a :=
    Rect.mem_set_unit
  exact hm.trans ⟨fun h => ⟨h 0, h 1⟩, fun h => Fin.forall_fin_two.mpr h⟩

/-- Pieces that are good for all the blocks of chunk `k` extend the expanded weight by the chunk's rows. -/
theorem rows_of_good (k : Nat) (L : List (View.Piece (Elt F) S7680x2176 .bf16)) (hL : List.Forall₂ (Good c XA arg4 g4 k) L pairs)
    (f : Buf (Elt F) (wbM.view.loc (c : Thread nD τ)))
    (hf : ∀ y : S7680x2176.Idx, (y 0).val < 512 * k → wbM.view.read (Elt F) f y = wbVal c XA arg4 g4 y)
    (y : S7680x2176.Idx) (hy : (y 0).val < 512 * (k + 1)) :
    wbM.view.read (Elt F) (wbM.view.writes (Elt F) f L) y = wbVal c XA arg4 g4 y := by
  have hl : ∀ (L' : List (View.Piece (Elt F) S7680x2176 .bf16)) (P : List (Nat × Nat)), List.Forall₂ (Good c XA arg4 g4 k) L' P →
      (∀ p ∈ L', ∃ q ∈ P, Good c XA arg4 g4 k p q) ∧ ∀ q ∈ P, ∃ p ∈ L', Good c XA arg4 g4 k p q := by
    intro L' P h
    induction h with
    | nil => exact ⟨fun _ h => by simp at h, fun _ h => by simp at h⟩
    | cons h0 _ ih =>
      refine ⟨fun p hp => ?_, fun q hq => ?_⟩
      · rcases List.mem_cons.mp hp with rfl | hp
        · exact ⟨_, List.mem_cons_self, h0⟩
        · obtain ⟨q, hq, hg⟩ := ih.1 p hp; exact ⟨q, List.mem_cons_of_mem _ hq, hg⟩
      · rcases List.mem_cons.mp hq with rfl | hq
        · exact ⟨_, List.mem_cons_self, h0⟩
        · obtain ⟨p, hp, hg⟩ := ih.2 q hq; exact ⟨p, List.mem_cons_of_mem _ hp, hg⟩
  obtain ⟨h1, h2⟩ := hl L pairs hL
  by_cases hlt : (y 0).val < 512 * k
  · refine (View.read_writes_apply_of_forall_not_mem wbM.view f y L fun p hp hm => ?_).trans (hf y hlt)
    obtain ⟨q, _, hg⟩ := h1 p hp
    have := ((hg.2 y).mp hm).1
    omega
  · have y1 : (y 1).val < 2176 := (y 1).isLt
    refine View.read_writes_apply_of_pieces wbM.view f _ L (fun p hp x => ?_) y ?_
    · obtain ⟨q, _, hg⟩ := h1 p hp; exact hg.1 x
    · obtain ⟨p, hp, hg⟩ := h2 _ (mem_pairs ⟨((y 0).val - 512 * k) / 128, by omega⟩ ⟨(y 1).val / 128, by omega⟩)
      refine ⟨p, hp, (hg.2 y).mpr ?_⟩
      dsimp only
      omega

variable (i : grid0.Coords) (h1 : k0_cond1 i = 1#1)
  (arg1 : Memref sig .tc .vmem S8x128x2176 .fp8e4m3) (harg1 : arg1.IsWhole)
  (arg2 : Memref sig .tc .vmem S17x8x128 .f32) (harg2 : arg2.IsWhole) (harg4 : arg4.IsWhole)
  (arg5 : Memref sig .tc .vmem S8x128x3840 .fp8e4m3) (harg5 : arg5.IsWhole)
  (arg6 : Memref sig .tc .vmem S30x8x128 .f32) (harg6 : arg6.IsWhole)
  (arg9 : Memref sig .tc .vmem S1024x2176 .bf16) (harg9 : arg9.IsWhole)

/-- Every piece a trip that issues the next chunk stores is the expanded weight. -/
theorem tripRun_good (k : Fin k0_t1_loop.trips) (hk : k.val + 1 < 15) (f : Buf (Elt F) (wbM.view.loc (c : Thread nD τ))) :
    List.Forall₂ (Good c XA arg4 g4 k.val)
      (tripRun c XA i h1 arg1 harg1 arg2 harg2 arg4 harg4 arg5 harg5 arg6 harg6 arg9 harg9 g4 k hk f).1 pairs := by
  unfold tripRun pairs
  dsimp only
  sl_unfold_run_names
  iterate 68
    refine List.Forall₂.cons (good_mk c XA arg4 g4 k rfl rfl rfl ?_ ?_ ?_) ?_
    · exact (ClosedOff.eq (off := _)).trans rfl
    · exact (ClosedOff.eq (off := _)).trans rfl
    · exact (ClosedOff.eq (off := _)).trans rfl
  exact List.Forall₂.nil

/-- So is every piece the last trip stores. -/
theorem lastRun_good (k : Fin k0_t1_loop.trips) (hk : k.val + 1 = 15) (f : Buf (Elt F) (wbM.view.loc (c : Thread nD τ))) :
    List.Forall₂ (Good c XA arg4 g4 k.val)
      (lastRun c XA i h1 arg1 harg1 arg2 harg2 arg4 harg4 arg5 harg5 arg6 harg6 arg9 harg9 g4 k hk f).1 pairs := by
  unfold lastRun pairs
  dsimp only
  sl_unfold_run_names
  iterate 68
    refine List.Forall₂.cons (good_mk c XA arg4 g4 k rfl rfl rfl ?_ ?_ ?_) ?_
    · exact (ClosedOff.eq (off := _)).trans rfl
    · exact (ClosedOff.eq (off := _)).trans rfl
    · exact (ClosedOff.eq (off := _)).trans rfl
  exact List.Forall₂.nil

end Cert.Kernel.Hand

end
-- ==== Proof.Kernel.Trips.lean ====
/-
  One trip of the activation loop and one trip of the matrix product loop, run: the pieces they store.
-/
module

public import proofs.«01_k».proof.Proof.Kernel.Agree

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
local notation "𝕄" => MT nD τ sig Unit (Elt F) ℕ (UU nD τ) ℕ

/-- The expanded activations, whole. -/
abbrev xbM : Memref sig .tc .vmem S1024x2176 .bf16 := Memref.whole cc0_scratch2

variable (c : Dev nD) (i : grid0.Coords)
  (arg1 : Memref sig .tc .vmem S8x128x2176 .fp8e4m3) (harg1 : arg1.IsWhole)
  (arg2 : Memref sig .tc .vmem S17x8x128 .f32) (harg2 : arg2.IsWhole)
  (arg4 : Memref sig .tc .smem S17x60 .f32) (harg4 : arg4.IsWhole)
  (arg5 : Memref sig .tc .vmem S8x128x3840 .fp8e4m3) (harg5 : arg5.IsWhole)
  (arg6 : Memref sig .tc .vmem S30x8x128 .f32) (harg6 : arg6.IsWhole)

section T2
variable (g1 : Buf (Elt F) (arg1.view.loc (c : Thread nD τ))) (g2 : Buf (Elt F) (arg2.view.loc (c : Thread nD τ)))

/-- What a trip of the activation loop works with: the block and its scales read, the expanded activations at `f`. -/
abbrev res2 (f : Buf (Elt F) (xbM.view.loc (c : Thread nD τ))) : sProp 𝕄 :=
  iprop((arg1.view.loc (c : Thread nD τ) ↦[arg1.view.set]{fullShare} g1) ∗ (arg2.view.loc (c : Thread nD τ) ↦[arg2.view.set]{fullShare} g2)
    ∗ (xbM.view.loc (c : Thread nD τ) ↦[xbM.view.set]{fullShare} f))

/-- One trip of the activation loop. -/
abbrev trip2G (k : Fin k0_t2_loop.trips) : Prog (TpuEff nD τ sig (Elt F) Λ₀ .tc) Unit :=
  k0_t2_body (F := F) i arg1 harg1 arg2 harg2 wM (Memref.isWhole_whole _) arg4 harg4 arg5 harg5 arg6 harg6 wbM (Memref.isWhole_whole _) landM (Memref.isWhole_whole _) xbM (Memref.isWhole_whole _) cc0_scratch3 k ()

set_option backward.proofsInPublic true in
/-- One trip of the activation loop, the pieces it stores to be found. -/
def trip2Run (k : Fin k0_t2_loop.trips) :
    { L : List (View.Piece (Elt F) S1024x2176 .bf16) // ∀ f, res2 c arg1 arg2 g1 g2 f ⊢
        wp frame (wpE (defs₀ (F := F)) 𝒱₀ (c : Thread nD τ) none) Set.univ
          (trip2G i arg1 harg1 arg2 harg2 arg4 harg4 arg5 harg5 arg6 harg6 k) (fun _ => res2 c arg1 arg2 g1 g2 (xbM.view.writes (Elt F) f L)) } := by
  have hk : k.val < 17 := Nat.lt_of_lt_of_le k.isLt k0_t2_abs.2.1
  refine ⟨?_, fun f => ?run⟩
  case run =>
    dsimp only [trip2G]
    unfold k0_t2_body
    iintro ⟨HR_arg1, HR_arg2, HW_arg9⟩
    sl_exec
    sl_step
    sl_close
end T2

section T3
variable (fw : Buf (Elt F) (wbM.view.loc (c : Thread nD τ))) (fx : Buf (Elt F) (xbM.view.loc (c : Thread nD τ)))

/-- What a trip of the product loop works with: the expanded weight and activations read, the two outputs at `f5`, `f6`. -/
abbrev res3 (f5 : Buf (Elt F) (arg5.view.loc (c : Thread nD τ))) (f6 : Buf (Elt F) (arg6.view.loc (c : Thread nD τ))) : sProp 𝕄 :=
  iprop((wbM.view.loc (c : Thread nD τ) ↦[wbM.view.set]{fullShare} fw) ∗ (xbM.view.loc (c : Thread nD τ) ↦[xbM.view.set]{fullShare} fx)
    ∗ (arg5.view.loc (c : Thread nD τ) ↦[arg5.view.set]{fullShare} f5) ∗ (arg6.view.loc (c : Thread nD τ) ↦[arg6.view.set]{fullShare} f6))

/-- One trip of the product loop. -/
abbrev trip3G (k : Fin k0_t3_loop.trips) : Prog (TpuEff nD τ sig (Elt F) Λ₀ .tc) Unit :=
  k0_t3_body (F := F) i arg1 harg1 arg2 harg2 wM (Memref.isWhole_whole _) arg4 harg4 arg5 harg5 arg6 harg6 wbM (Memref.isWhole_whole _) landM (Memref.isWhole_whole _) xbM (Memref.isWhole_whole _) cc0_scratch3 k ()

set_option backward.proofsInPublic true in
/-- One trip of the product loop, the pieces it stores to be found. -/
def trip3Run (k : Fin k0_t3_loop.trips) :
    Σ' (L5 : List (View.Piece (Elt F) S8x128x3840 .fp8e4m3)), { L6 : List (View.Piece (Elt F) S30x8x128 .f32) // ∀ f5 f6,
      res3 c arg5 arg6 fw fx f5 f6 ⊢
        wp frame (wpE (defs₀ (F := F)) 𝒱₀ (c : Thread nD τ) none) Set.univ
          (trip3G i arg1 harg1 arg2 harg2 arg4 harg4 arg5 harg5 arg6 harg6 k)
          (fun _ => res3 c arg5 arg6 fw fx (arg5.view.writes (Elt F) f5 L5) (arg6.view.writes (Elt F) f6 L6)) } := by
  have hk : k.val < 15 := Nat.lt_of_lt_of_le k.isLt k0_t3_abs.2.1
  refine ⟨?_, ?_, fun f5 f6 => ?run⟩
  case run =>
    dsimp only [trip3G]
    unfold k0_t3_body
    iintro ⟨HR_arg7, HR_arg9, HW_arg5, HW_arg6⟩
    sl_exec
    sl_step
    sl_close
end T3

end Cert.Kernel.Hand

end
-- ==== Proof.Kernel.Blocks.lean ====
/-
  What the activation loop and the product loop store, block by block, as functions of the arrays they read.
-/
module

public import proofs.«01_k».proof.Proof.Kernel.Trips

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
local notation "𝕄" => MT nD τ sig Unit (Elt F) ℕ (UU nD τ) ℕ

/-! ## Lists of stores -/

/-- Piece `p` is the function `G`, on the elements block `q` has. -/
def Tile {s : Shape} {e : EltTy} {α : Type} (G : s.Idx → Elt F e) (In : α → s.Idx → Prop) (p : View.Piece (Elt F) s e) (q : α) : Prop :=
  (∀ x, p.2 x = G (p.1.emb x)) ∧ ∀ y, In q y → y ∈ p.1.set

/-- Stores that are all `G` leave `G` on their blocks, and leave it where it was. -/
theorem extend {sig' : RefSig} {κ : Kind} {sp : Space} {s : Shape} {e : EltTy} {α : Type} (v : View sig' κ sp s e) (G : s.Idx → Elt F e) (In : α → s.Idx → Prop)
    {L : List (View.Piece (Elt F) s e)} {P : List α} (hL : List.Forall₂ (Tile G In) L P)
    (f : v.ty.Contents (Elt F)) (y : s.Idx) (hy : v.read (Elt F) f y = G y ∨ ∃ q ∈ P, In q y) :
    v.read (Elt F) (v.writes (Elt F) f L) y = G y := by
  have hl : ∀ (L' : List (View.Piece (Elt F) s e)) (P' : List α), List.Forall₂ (Tile G In) L' P' →
      (∀ p ∈ L', ∀ x, p.2 x = G (p.1.emb x)) ∧ ∀ q ∈ P', ∃ p ∈ L', ∀ y, In q y → y ∈ p.1.set := by
    intro L' P' h
    induction h with
    | nil => exact ⟨fun _ h => by simp at h, fun _ h => by simp at h⟩
    | cons h0 _ ih =>
      refine ⟨fun p hp => ?_, fun q hq => ?_⟩
      · rcases List.mem_cons.mp hp with rfl | hp
        · exact h0.1
        · exact ih.1 p hp
      · rcases List.mem_cons.mp hq with rfl | hq
        · exact ⟨_, List.mem_cons_self, h0.2⟩
        · obtain ⟨p, hp, hg⟩ := ih.2 q hq; exact ⟨p, List.mem_cons_of_mem _ hp, hg⟩
  obtain ⟨h1, h2⟩ := hl L P hL
  by_cases hc : ∃ p ∈ L, y ∈ p.1.set
  · exact View.read_writes_apply_of_pieces v f G L h1 y hc
  · have hn : ∀ p ∈ L, y ∉ p.1.set := fun p hp hm => hc ⟨p, hp, hm⟩
    refine (View.read_writes_apply_of_forall_not_mem v f y L hn).trans (hy.resolve_right ?_)
    rintro ⟨q, hq, hi⟩
    obtain ⟨p, hp, hg⟩ := h2 q hq
    exact hc ⟨p, hp, hg y hi⟩

/-! ## The activations -/

/-- A block of activations times its rows' scales. -/
def xpay (v11 : Vec F S1x1x128 .f32) (v22 : Vec F S1x128x128 .fp8e4m3) : FVec F S128x128 .bf16 := k0_pay113 v11 v22

/-- A row of scales: batch `b`'s, of column block `k`. -/
abbrev srow (S : S17x8x128.Idx → Elt F .f32) (k : Fin 17) (b : Fin 8) : Vec F S1x1x128 .f32 := fun z => S (ix3 k b (z 2))
/-- Batch `b`'s activations of column block `k`. -/
abbrev xblk (X : S8x128x2176.Idx → Elt F .fp8e4m3) (k : Fin 17) (b : Fin 8) : Vec F S1x128x128 .fp8e4m3 :=
  fun z => X (ix3 b (z 1) ⟨128 * k.val + (z 2).val, by have h : (z 2).val < 128 := (z 2).isLt; show _ < 2176; omega⟩)

/-- The expanded activations of a grid point. -/
def xbVal (X : S8x128x2176.Idx → Elt F .fp8e4m3) (S : S17x8x128.Idx → Elt F .f32) (y : S1024x2176.Idx) : Elt F .bf16 :=
  xpay (srow S ⟨(y 1).val / 128, by have h : (y 1).val < 2176 := (y 1).isLt; omega⟩ ⟨(y 0).val / 128, by have h : (y 0).val < 1024 := (y 0).isLt; omega⟩)
    (xblk X ⟨(y 1).val / 128, by have h : (y 1).val < 2176 := (y 1).isLt; omega⟩ ⟨(y 0).val / 128, by have h : (y 0).val < 1024 := (y 0).isLt; omega⟩)
    (ix2 ⟨(y 0).val % 128, Nat.mod_lt _ (by decide)⟩ ⟨(y 1).val % 128, Nat.mod_lt _ (by decide)⟩)

/-- An expanded activation, read in the block that holds it. -/
theorem xbVal_at (X : S8x128x2176.Idx → Elt F .fp8e4m3) (S : S17x8x128.Idx → Elt F .f32) (y : S1024x2176.Idx) (k : Fin 17) (b : Fin 8)
    (x : S128x128.Idx) (h0 : (y 0).val = 128 * b.val + (x 0).val) (h1 : (y 1).val = 128 * k.val + (x 1).val) :
    xbVal X S y = xpay (srow S k b) (xblk X k b) x := by
  have x0 : (x 0).val < 128 := (x 0).isLt
  have x1 : (x 1).val < 128 := (x 1).isLt
  unfold xbVal
  have ek : (⟨(y 1).val / 128, by have h : (y 1).val < 2176 := (y 1).isLt; omega⟩ : Fin 17) = k := Fin.ext (by show (y 1).val / 128 = k.val; omega)
  have eb : (⟨(y 0).val / 128, by have h : (y 0).val < 1024 := (y 0).isLt; omega⟩ : Fin 8) = b := Fin.ext (by show (y 0).val / 128 = b.val; omega)
  have ex : (ix2 ⟨(y 0).val % 128, Nat.mod_lt _ (by decide)⟩ ⟨(y 1).val % 128, Nat.mod_lt _ (by decide)⟩ : S128x128.Idx) = x := by
    funext a
    apply Fin.ext
    match a with
    | ⟨0, _⟩ => show (y 0).val % 128 = (x 0).val; omega
    | ⟨1, _⟩ => show (y 1).val % 128 = (x 1).val; omega
  rw [ek, eb, ex]

/-- Block `b` of trip `k` of the activation loop. -/
abbrev In2 (k : Nat) (b : Nat) (y : S1024x2176.Idx) : Prop :=
  (128 * b ≤ (y 0).val ∧ (y 0).val < 128 * b + 128) ∧ 128 * k ≤ (y 1).val ∧ (y 1).val < 128 * k + 128

/-- A store of one block of activations leaves the expanded activations there. -/
theorem tile2 (c : Dev nD) (arg1 : Memref sig .tc .vmem S8x128x2176 .fp8e4m3) (arg2 : Memref sig .tc .vmem S17x8x128 .f32)
    (g1 : Buf (Elt F) (arg1.view.loc (c : Thread nD τ))) (g2 : Buf (Elt F) (arg2.view.loc (c : Thread nD τ)))
    (k : Fin k0_t2_loop.trips) {b : Nat} {offs offx : Fin 3 → Nat} {off : Fin 2 → Nat}
    {inbs : ∀ a, offs a + S1x1x128.size a ≤ S17x8x128.size a} {inbx : ∀ a, offx a + S1x128x128.size a ≤ S8x128x2176.size a}
    {inb : ∀ a, off a + S128x128.size a ≤ S1024x2176.size a}
    {w : FVec F S128x128 .bf16} {s : Vec F S1x1x128 .f32} {blk : Vec F S1x128x128 .fp8e4m3}
    (hw : w = xpay s blk)
    (hs : s = arg2.view.readAt (Elt F) (Rect.unit (s := S17x8x128) offs S1x1x128.size inbs).toLoadRect g2)
    (hb : blk = arg1.view.readAt (Elt F) (Rect.unit (s := S8x128x2176) offx S1x128x128.size inbx).toLoadRect g1)
    (qs : offs = ![k.val, b, 0]) (qx : offx = ![b, 0, 128 * k.val]) (q : off = ![128 * b, 128 * k.val]) :
    Tile (xbVal (arg1.view.read (Elt F) g1) (arg2.view.read (Elt F) g2)) (In2 k.val)
      ⟨Rect.unit (s := S1024x2176) off S128x128.size inb, w⟩ b := by
  have hk : k.val < 17 := Nat.lt_of_lt_of_le k.isLt k0_t2_abs.2.1
  subst hw hs hb qs qx q
  have hb : b < 8 := by have := inbs 1; change b + 1 ≤ 8 at this; omega
  refine ⟨fun x => ?_, fun y h => ?_⟩
  · have x0 : (x 0).val < 128 := (x 0).isLt
    have x1 : (x 1).val < 128 := (x 1).isLt
    rw [xbVal_at _ _ _ ⟨k.val, hk⟩ ⟨b, hb⟩ x (by show 128 * b + 1 * (x 0).val = 128 * b + (x 0).val; omega) (by show 128 * k.val + 1 * (x 1).val = 128 * k.val + (x 1).val; omega)]
    refine congrFun (congrArg₂ xpay ?_ ?_) x
    · funext z
      have z0 : (z 0).val < 1 := (z 0).isLt
      have z1 : (z 1).val < 1 := (z 1).isLt
      refine congrArg (arg2.view.read (Elt F) g2) ?_
      funext a
      apply Fin.ext
      match a with
      | ⟨0, _⟩ => show k.val + 1 * (z 0).val = k.val; omega
      | ⟨1, _⟩ => show b + 1 * (z 1).val = b; omega
      | ⟨2, _⟩ => show 0 + 1 * (z 2).val = (z 2).val; omega
    · funext z
      have z0 : (z 0).val < 1 := (z 0).isLt
      refine congrArg (arg1.view.read (Elt F) g1) ?_
      funext a
      apply Fin.ext
      match a with
      | ⟨0, _⟩ => show b + 1 * (z 0).val = b; omega
      | ⟨1, _⟩ => show 0 + 1 * (z 1).val = (z 1).val; omega
      | ⟨2, _⟩ => show 128 * k.val + 1 * (z 2).val = 128 * k.val + (z 2).val; omega
  · have hm : y ∈ (Rect.unit (s := S1024x2176) ![128 * b, 128 * k.val] S128x128.size inb).set
        ↔ ∀ a : Fin 2, (![128 * b, 128 * k.val] : Fin 2 → Nat) a ≤ (y a).val ∧ (y a).val < (![128 * b, 128 * k.val] : Fin 2 → Nat) a + S128x128.size a :=
      Rect.mem_set_unit
    exact hm.mpr (Fin.forall_fin_two.mpr h)

/-! ## The gated product and the requantiser -/

/-- The gated product of a tile: `silu(gate) * up`. -/
def hOf (x : Vec F S512x2176 .bf16) (g u : Vec F S256x2176 .bf16) : FVec F S512x256 .f32 := k0_pay126 x g u

/-- Each row's largest magnitude. -/
def amaxOf (hb : FVec F S128x128 .f32) : FVec F S128x1 .f32 :=
  shapeCast S128x1 (multiReduction .maximumf [1] S128 (absf hb) 0xFF800000#32 reduces_S128x128_S128 (.inl rfl) rfl) shapeCasts_S128_S128x1

/-- One step of the search for the exponent field: bit `m` is set if the value so formed is still at most `x`. -/
def stepF (m : BitVec 32) (x : FVec F S128x1 .f32) (f : IVec S128x1 32) : IVec S128x1 32 :=
  select (cmpf .oge x (bitcastToFloat .f32 (ori f (broadcast S128x1 m)))) (ori f (broadcast S128x1 m)) f

/-- The exponent field of each row's `amax / 448`. -/
def fieldOf (hb : FVec F S128x128 .f32) : IVec S128x1 32 :=
  let x := mulf (amaxOf hb) (broadcast S128x1 (Scalar.ofBits .f32 0x3B124925#32))
  select (cmpf .ole (amaxOf hb) (broadcast S128x1 (Scalar.ofBits .f32 0x7F7FFFFF#32)))
    (stepF 8388608#32 x (stepF 16777216#32 x (stepF 33554432#32 x (stepF 67108864#32 x (stepF 134217728#32 x (stepF 268435456#32 x
      (stepF 536870912#32 x (stepF 1073741824#32 x (broadcast S128x1 0#32)))))))))
    (broadcast S128x1 2139095040#32)

/-- Which rows have the zero field or the field of all ones. -/
def specialOf (hb : FVec F S128x128 .f32) : IVec S128x1 1 :=
  ori (cmpi .eq (fieldOf hb) (broadcast S128x1 0#32)) (cmpi .eq (fieldOf hb) (broadcast S128x1 2139095040#32))

/-- Each row's scale, a power of two. -/
def scaleOf (hb : FVec F S128x128 .f32) : FVec F S128x1 .f32 :=
  bitcastToFloat .f32 (select (specialOf hb) (broadcast S128x1 1065353216#32) (addi (fieldOf hb) (broadcast S128x1 8388608#32)))

/-- Its reciprocal. -/
def invOf (hb : FVec F S128x128 .f32) : FVec F S128x1 .f32 :=
  bitcastToFloat .f32 (select (specialOf hb) (broadcast S128x1 1065353216#32) (subi (broadcast S128x1 2122317824#32) (fieldOf hb)))

/-- The block's codes. -/
def codesOf (hb : FVec F S128x128 .f32) : FVec F S1x128x128 .fp8e4m3 := k0_pay136 hb (invOf hb)
/-- The block's scales, as a row. -/
def rowOf (hb : FVec F S128x128 .f32) : FVec F S1x1x128 .f32 := k0_pay137 (scaleOf hb)

/-- The 512 rows of expanded activations that hold batch `b`. -/
abbrev xtile (xb : S1024x2176.Idx → Elt F .bf16) (b : Fin 8) : Vec F S512x2176 .bf16 :=
  fun z => xb (ix2 ⟨512 * (b.val / 4) + (z 0).val, by have h : (z 0).val < 512 := (z 0).isLt; show _ < 1024; omega⟩ (z 1))
/-- Rows 256 n to 256 n + 255 of the expanded weight. -/
abbrev wtile (wb : S7680x2176.Idx → Elt F .bf16) (n : Fin 30) : Vec F S256x2176 .bf16 :=
  fun z => wb (ix2 ⟨256 * n.val + (z 0).val, by have h : (z 0).val < 256 := (z 0).isLt; show _ < 7680; omega⟩ (z 1))

/-- Block `(b, c)` of trip `k`'s gated product. -/
def hblk (xb : S1024x2176.Idx → Elt F .bf16) (wb : S7680x2176.Idx → Elt F .bf16) (k : Fin 15) (b : Fin 8) (c : Fin 2) : FVec F S128x128 .f32 :=
  fun z => hOf (xtile xb b) (wtile wb ⟨k.val, by omega⟩) (wtile wb ⟨k.val + 15, by omega⟩)
    (ix2 ⟨128 * (b.val % 4) + (z 0).val, by have h : (z 0).val < 128 := (z 0).isLt; show _ < 512; omega⟩
      ⟨128 * c.val + (z 1).val, by have h : (z 1).val < 128 := (z 1).isLt; show _ < 256; omega⟩)

/-- The codes of a grid point. -/
def o5Val (xb : S1024x2176.Idx → Elt F .bf16) (wb : S7680x2176.Idx → Elt F .bf16) (y : S8x128x3840.Idx) : Elt F .fp8e4m3 :=
  codesOf (hblk xb wb ⟨(y 2).val / 256, by have h : (y 2).val < 3840 := (y 2).isLt; omega⟩ (y 0) ⟨(y 2).val % 256 / 128, by omega⟩)
    (ix3 ⟨0, by decide⟩ (y 1) ⟨(y 2).val % 128, Nat.mod_lt _ (by decide)⟩)
/-- The scales of a grid point. -/
def o6Val (xb : S1024x2176.Idx → Elt F .bf16) (wb : S7680x2176.Idx → Elt F .bf16) (y : S30x8x128.Idx) : Elt F .f32 :=
  rowOf (hblk xb wb ⟨(y 0).val / 2, by have h : (y 0).val < 30 := (y 0).isLt; omega⟩ (y 1) ⟨(y 0).val % 2, by omega⟩) (ix3 ⟨0, by decide⟩ ⟨0, by decide⟩ (y 2))

/-- Block `q` of trip `k`'s codes. -/
abbrev In5 (k : Nat) (q : Nat × Nat) (y : S8x128x3840.Idx) : Prop :=
  (y 0).val = q.1 ∧ 256 * k + 128 * q.2 ≤ (y 2).val ∧ (y 2).val < 256 * k + 128 * q.2 + 128
/-- Block `q` of trip `k`'s scales. -/
abbrev In6 (k : Nat) (q : Nat × Nat) (y : S30x8x128.Idx) : Prop := (y 0).val = 2 * k + q.2 ∧ (y 1).val = q.1

/-- A block cut out of a tile's gated product is `hblk`. -/
theorem hblk_eq (c : Dev nD) (fw : Buf (Elt F) (wbM.view.loc (c : Thread nD τ))) (fx : Buf (Elt F) (xbM.view.loc (c : Thread nD τ)))
    (k : Fin 15) (b : Fin 8) (p : Fin 2) {offX offG offU offS : Fin 2 → Nat}
    {inbX : ∀ a, offX a + S512x2176.size a ≤ S1024x2176.size a} {inbG : ∀ a, offG a + S256x2176.size a ≤ S7680x2176.size a}
    {inbU : ∀ a, offU a + S256x2176.size a ≤ S7680x2176.size a} {hsl : S512x256.Slices offS S128x128}
    {hb : FVec F S128x128 .f32} {h : FVec F S512x256 .f32} {x : Vec F S512x2176 .bf16} {g u : Vec F S256x2176 .bf16}
    (he : hb = extractStridedSlice S128x128 offS h hsl) (hh : h = hOf x g u)
    (hx : x = xbM.view.readAt (Elt F) (Rect.unit (s := S1024x2176) offX S512x2176.size inbX).toLoadRect fx)
    (hg : g = wbM.view.readAt (Elt F) (Rect.unit (s := S7680x2176) offG S256x2176.size inbG).toLoadRect fw)
    (hu : u = wbM.view.readAt (Elt F) (Rect.unit (s := S7680x2176) offU S256x2176.size inbU).toLoadRect fw)
    (qX : offX = ![512 * (b.val / 4), 0]) (qG : offG = ![256 * k.val, 0]) (qU : offU = ![256 * k.val + 3840, 0])
    (qS : offS = ![128 * (b.val % 4), 128 * p.val]) :
    hb = hblk (xbM.view.read (Elt F) fx) (wbM.view.read (Elt F) fw) k b p := by
  subst qX qG qU qS
  have ex : x = xtile (xbM.view.read (Elt F) fx) b := by
    subst hx
    funext z
    refine congrArg (xbM.view.read (Elt F) fx) ?_
    funext a
    apply Fin.ext
    match a with
    | ⟨0, _⟩ => show 512 * (b.val / 4) + 1 * (z 0).val = 512 * (b.val / 4) + (z 0).val; omega
    | ⟨1, _⟩ => show 0 + 1 * (z 1).val = (z 1).val; omega
  have eg : g = wtile (wbM.view.read (Elt F) fw) ⟨k.val, by omega⟩ := by
    subst hg
    funext z
    refine congrArg (wbM.view.read (Elt F) fw) ?_
    funext a
    apply Fin.ext
    match a with
    | ⟨0, _⟩ => show 256 * k.val + 1 * (z 0).val = 256 * k.val + (z 0).val; omega
    | ⟨1, _⟩ => show 0 + 1 * (z 1).val = (z 1).val; omega
  have eu : u = wtile (wbM.view.read (Elt F) fw) ⟨k.val + 15, by omega⟩ := by
    subst hu
    funext z
    refine congrArg (wbM.view.read (Elt F) fw) ?_
    funext a
    apply Fin.ext
    match a with
    | ⟨0, _⟩ => show 256 * k.val + 3840 + 1 * (z 0).val = 256 * (k.val + 15) + (z 0).val; omega
    | ⟨1, _⟩ => show 0 + 1 * (z 1).val = (z 1).val; omega
  clear hx hg hu
  subst he hh ex eg eu
  funext z
  unfold hblk
  exact extractStridedSlice_apply _ _ _ _ _ (fun a => match a with
    | ⟨0, _⟩ => rfl
    | ⟨1, _⟩ => rfl)

/-- A code, read in the block that holds it. -/
theorem o5Val_at (xb : S1024x2176.Idx → Elt F .bf16) (wb : S7680x2176.Idx → Elt F .bf16) (y : S8x128x3840.Idx) (k : Fin 15) (b : Fin 8) (p : Fin 2)
    (x : S1x128x128.Idx) (h0 : (y 0).val = b.val) (h1 : (y 1).val = (x 1).val) (h2 : (y 2).val = 256 * k.val + 128 * p.val + (x 2).val) :
    o5Val xb wb y = codesOf (hblk xb wb k b p) x := by
  have x0 : (x 0).val < 1 := (x 0).isLt
  have x2 : (x 2).val < 128 := (x 2).isLt
  have hp := p.isLt
  unfold o5Val
  have ek : (⟨(y 2).val / 256, by have h : (y 2).val < 3840 := (y 2).isLt; omega⟩ : Fin 15) = k := Fin.ext (by show (y 2).val / 256 = k.val; omega)
  have eb : y 0 = b := Fin.ext h0
  have ep : (⟨(y 2).val % 256 / 128, by omega⟩ : Fin 2) = p := Fin.ext (by show (y 2).val % 256 / 128 = p.val; omega)
  have ex : (ix3 ⟨0, by decide⟩ (y 1) ⟨(y 2).val % 128, Nat.mod_lt _ (by decide)⟩ : S1x128x128.Idx) = x := by
    funext a
    apply Fin.ext
    match a with
    | ⟨0, _⟩ => show 0 = (x 0).val; omega
    | ⟨1, _⟩ => exact h1
    | ⟨2, _⟩ => show (y 2).val % 128 = (x 2).val; omega
  rw [ek, eb, ep, ex]

/-- A scale, read in the block that holds it. -/
theorem o6Val_at (xb : S1024x2176.Idx → Elt F .bf16) (wb : S7680x2176.Idx → Elt F .bf16) (y : S30x8x128.Idx) (k : Fin 15) (b : Fin 8) (p : Fin 2)
    (x : S1x1x128.Idx) (h0 : (y 0).val = 2 * k.val + p.val) (h1 : (y 1).val = b.val) (h2 : (y 2).val = (x 2).val) :
    o6Val xb wb y = rowOf (hblk xb wb k b p) x := by
  have x0 : (x 0).val < 1 := (x 0).isLt
  have x1 : (x 1).val < 1 := (x 1).isLt
  have hp := p.isLt
  unfold o6Val
  have ek : (⟨(y 0).val / 2, by have h : (y 0).val < 30 := (y 0).isLt; omega⟩ : Fin 15) = k := Fin.ext (by show (y 0).val / 2 = k.val; omega)
  have eb : y 1 = b := Fin.ext h1
  have ep : (⟨(y 0).val % 2, by omega⟩ : Fin 2) = p := Fin.ext (by show (y 0).val % 2 = p.val; omega)
  have ex : (ix3 ⟨0, by decide⟩ ⟨0, by decide⟩ (y 2) : S1x1x128.Idx) = x := by
    funext a
    apply Fin.ext
    match a with
    | ⟨0, _⟩ => show 0 = (x 0).val; omega
    | ⟨1, _⟩ => show 0 = (x 1).val; omega
    | ⟨2, _⟩ => exact h2
  rw [ek, eb, ep, ex]

/-- The codes a trip of the product loop stores for block `(b, p)`. -/
theorem tile5 (k : Fin k0_t3_loop.trips) (xb : S1024x2176.Idx → Elt F .bf16) (wb : S7680x2176.Idx → Elt F .bf16) {b p : Nat} (hb : b < 8) (hp : p < 2) (hk : k.val < 15)
    {off : Fin 3 → Nat} {inb : ∀ a, off a + S1x128x128.size a ≤ S8x128x3840.size a} {w : FVec F S1x128x128 .fp8e4m3} {h : FVec F S128x128 .f32}
    (hw : w = codesOf h) (hh : h = hblk xb wb ⟨k.val, hk⟩ ⟨b, hb⟩ ⟨p, hp⟩) (q : off = ![b, 0, 256 * k.val + 128 * p]) :
    Tile (o5Val xb wb) (In5 k.val) ⟨Rect.unit (s := S8x128x3840) off S1x128x128.size inb, w⟩ (b, p) := by
  subst hw hh q
  refine ⟨fun x => ?_, fun y h => ?_⟩
  · have x0 : (x 0).val < 1 := (x 0).isLt
    refine (o5Val_at xb wb _ ⟨k.val, hk⟩ ⟨b, hb⟩ ⟨p, hp⟩ x ?_ ?_ ?_).symm
    · show b + 1 * (x 0).val = b; omega
    · show 0 + 1 * (x 1).val = (x 1).val; omega
    · show 256 * k.val + 128 * p + 1 * (x 2).val = 256 * k.val + 128 * p + (x 2).val; omega
  · have hm : y ∈ (Rect.unit (s := S8x128x3840) ![b, 0, 256 * k.val + 128 * p] S1x128x128.size inb).set
        ↔ ∀ a : Fin 3, (![b, 0, 256 * k.val + 128 * p] : Fin 3 → Nat) a ≤ (y a).val ∧ (y a).val < (![b, 0, 256 * k.val + 128 * p] : Fin 3 → Nat) a + S1x128x128.size a :=
      Rect.mem_set_unit
    have y1 : (y 1).val < 128 := (y 1).isLt
    refine hm.mpr fun a => ?_
    obtain ⟨h0, h1, h2⟩ := h
    match a with
    | ⟨0, _⟩ => show b ≤ (y 0).val ∧ (y 0).val < b + 1; dsimp only at h0; omega
    | ⟨1, _⟩ => show 0 ≤ (y 1).val ∧ (y 1).val < 0 + 128; omega
    | ⟨2, _⟩ => exact ⟨h1, h2⟩

/-- The scales a trip of the product loop stores for block `(b, p)`. -/
theorem tile6 (k : Fin k0_t3_loop.trips) (xb : S1024x2176.Idx → Elt F .bf16) (wb : S7680x2176.Idx → Elt F .bf16) {b p : Nat} (hb : b < 8) (hp : p < 2) (hk : k.val < 15)
    {off : Fin 3 → Nat} {inb : ∀ a, off a + S1x1x128.size a ≤ S30x8x128.size a} {w : FVec F S1x1x128 .f32} {h : FVec F S128x128 .f32}
    (hw : w = rowOf h) (hh : h = hblk xb wb ⟨k.val, hk⟩ ⟨b, hb⟩ ⟨p, hp⟩) (q : off = ![2 * k.val + p, b, 0]) :
    Tile (o6Val xb wb) (In6 k.val) ⟨Rect.unit (s := S30x8x128) off S1x1x128.size inb, w⟩ (b, p) := by
  subst hw hh q
  refine ⟨fun x => ?_, fun y h => ?_⟩
  · have x0 : (x 0).val < 1 := (x 0).isLt
    have x1 : (x 1).val < 1 := (x 1).isLt
    refine (o6Val_at xb wb _ ⟨k.val, hk⟩ ⟨b, hb⟩ ⟨p, hp⟩ x ?_ ?_ ?_).symm
    · show 2 * k.val + p + 1 * (x 0).val = 2 * k.val + p; omega
    · show b + 1 * (x 1).val = b; omega
    · show 0 + 1 * (x 2).val = (x 2).val; omega
  · have hm : y ∈ (Rect.unit (s := S30x8x128) ![2 * k.val + p, b, 0] S1x1x128.size inb).set
        ↔ ∀ a : Fin 3, (![2 * k.val + p, b, 0] : Fin 3 → Nat) a ≤ (y a).val ∧ (y a).val < (![2 * k.val + p, b, 0] : Fin 3 → Nat) a + S1x1x128.size a :=
      Rect.mem_set_unit
    have y2 : (y 2).val < 128 := (y 2).isLt
    refine hm.mpr fun a => ?_
    obtain ⟨h0, h1⟩ := h
    dsimp only at h0 h1
    match a with
    | ⟨0, _⟩ => show 2 * k.val + p ≤ (y 0).val ∧ (y 0).val < 2 * k.val + p + 1; omega
    | ⟨1, _⟩ => show b ≤ (y 1).val ∧ (y 1).val < b + 1; omega
    | ⟨2, _⟩ => show 0 ≤ (y 2).val ∧ (y 2).val < 0 + 128; omega

end Cert.Kernel.Hand

end
-- ==== Proof.Kernel.Stores.lean ====
/-
  Every store of the activation loop and of the product loop is the block `Blocks` says.
-/
module

public import proofs.«01_k».proof.Proof.Kernel.Blocks

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
local notation "𝕄" => MT nD τ sig Unit (Elt F) ℕ (UU nD τ) ℕ

variable (c : Dev nD) (i : grid0.Coords)
  (arg1 : Memref sig .tc .vmem S8x128x2176 .fp8e4m3) (harg1 : arg1.IsWhole)
  (arg2 : Memref sig .tc .vmem S17x8x128 .f32) (harg2 : arg2.IsWhole)
  (arg4 : Memref sig .tc .smem S17x60 .f32) (harg4 : arg4.IsWhole)
  (arg5 : Memref sig .tc .vmem S8x128x3840 .fp8e4m3) (harg5 : arg5.IsWhole)
  (arg6 : Memref sig .tc .vmem S30x8x128 .f32) (harg6 : arg6.IsWhole)

/-- Every piece a trip of the activation loop stores is the expanded activations. -/
theorem trip2Run_good (g1 : Buf (Elt F) (arg1.view.loc (c : Thread nD τ))) (g2 : Buf (Elt F) (arg2.view.loc (c : Thread nD τ))) (k : Fin k0_t2_loop.trips) :
    List.Forall₂ (Tile (xbVal (arg1.view.read (Elt F) g1) (arg2.view.read (Elt F) g2)) (In2 k.val))
      (trip2Run c i arg1 harg1 arg2 harg2 arg4 harg4 arg5 harg5 arg6 harg6 g1 g2 k).1 [7, 6, 5, 4, 3, 2, 1, 0] := by
  unfold trip2Run
  dsimp only
  sl_unfold_run_names
  iterate 8
    refine List.Forall₂.cons (tile2 c arg1 arg2 g1 g2 k rfl rfl rfl ?_ ?_ ?_) ?_
    · exact (ClosedOff.eq (off := _)).trans rfl
    · exact (ClosedOff.eq (off := _)).trans rfl
    · exact (ClosedOff.eq (off := _)).trans rfl
  exact List.Forall₂.nil

/-- A block lies in its tile. -/
theorem slices_at (b : Nat) {p : Nat} (hp : p < 2) : S512x256.Slices ![128 * (b % 4), 128 * p] S128x128 := by
  refine ⟨rfl, fun a => ?_⟩
  match a with
  | ⟨0, _⟩ => show 128 * (b % 4) + 128 ≤ 512; omega
  | ⟨1, _⟩ => show 128 * p + 128 ≤ 256; omega

/-- `tile5` from the loads of the trip. -/
theorem tile5_at (fw : Buf (Elt F) (wbM.view.loc (c : Thread nD τ))) (fx : Buf (Elt F) (xbM.view.loc (c : Thread nD τ)))
    (k : Fin k0_t3_loop.trips) {b p : Nat} (hb : b < 8) (hp : p < 2)
    {off : Fin 3 → Nat} {inb : ∀ a, off a + S1x128x128.size a ≤ S8x128x3840.size a} {w : FVec F S1x128x128 .fp8e4m3}
    {offX offG offU : Fin 2 → Nat}
    {inbX : ∀ a, offX a + S512x2176.size a ≤ S1024x2176.size a} {inbG : ∀ a, offG a + S256x2176.size a ≤ S7680x2176.size a}
    {inbU : ∀ a, offU a + S256x2176.size a ≤ S7680x2176.size a}
    (hw : w = codesOf (extractStridedSlice S128x128 ![128 * (b % 4), 128 * p]
      (hOf (xbM.view.readAt (Elt F) (Rect.unit (s := S1024x2176) offX S512x2176.size inbX).toLoadRect fx)
        (wbM.view.readAt (Elt F) (Rect.unit (s := S7680x2176) offG S256x2176.size inbG).toLoadRect fw)
        (wbM.view.readAt (Elt F) (Rect.unit (s := S7680x2176) offU S256x2176.size inbU).toLoadRect fw)) (slices_at b hp)))
    (qX : offX = ![512 * (b / 4), 0]) (qG : offG = ![256 * k.val, 0]) (qU : offU = ![256 * k.val + 3840, 0])
    (q : off = ![b, 0, 256 * k.val + 128 * p]) :
    Tile (o5Val (xbM.view.read (Elt F) fx) (wbM.view.read (Elt F) fw)) (In5 k.val) ⟨Rect.unit (s := S8x128x3840) off S1x128x128.size inb, w⟩ (b, p) :=
  tile5 k _ _ hb hp (Nat.lt_of_lt_of_le k.isLt k0_t3_abs.2.1) hw
    (hblk_eq c fw fx ⟨k.val, Nat.lt_of_lt_of_le k.isLt k0_t3_abs.2.1⟩ ⟨b, hb⟩ ⟨p, hp⟩ rfl rfl rfl rfl rfl qX qG qU rfl) q

/-- `tile6` from the loads of the trip. -/
theorem tile6_at (fw : Buf (Elt F) (wbM.view.loc (c : Thread nD τ))) (fx : Buf (Elt F) (xbM.view.loc (c : Thread nD τ)))
    (k : Fin k0_t3_loop.trips) {b p : Nat} (hb : b < 8) (hp : p < 2)
    {off : Fin 3 → Nat} {inb : ∀ a, off a + S1x1x128.size a ≤ S30x8x128.size a} {w : FVec F S1x1x128 .f32}
    {offX offG offU : Fin 2 → Nat}
    {inbX : ∀ a, offX a + S512x2176.size a ≤ S1024x2176.size a} {inbG : ∀ a, offG a + S256x2176.size a ≤ S7680x2176.size a}
    {inbU : ∀ a, offU a + S256x2176.size a ≤ S7680x2176.size a}
    (hw : w = rowOf (extractStridedSlice S128x128 ![128 * (b % 4), 128 * p]
      (hOf (xbM.view.readAt (Elt F) (Rect.unit (s := S1024x2176) offX S512x2176.size inbX).toLoadRect fx)
        (wbM.view.readAt (Elt F) (Rect.unit (s := S7680x2176) offG S256x2176.size inbG).toLoadRect fw)
        (wbM.view.readAt (Elt F) (Rect.unit (s := S7680x2176) offU S256x2176.size inbU).toLoadRect fw)) (slices_at b hp)))
    (qX : offX = ![512 * (b / 4), 0]) (qG : offG = ![256 * k.val, 0]) (qU : offU = ![256 * k.val + 3840, 0])
    (q : off = ![2 * k.val + p, b, 0]) :
    Tile (o6Val (xbM.view.read (Elt F) fx) (wbM.view.read (Elt F) fw)) (In6 k.val) ⟨Rect.unit (s := S30x8x128) off S1x1x128.size inb, w⟩ (b, p) :=
  tile6 k _ _ hb hp (Nat.lt_of_lt_of_le k.isLt k0_t3_abs.2.1) hw
    (hblk_eq c fw fx ⟨k.val, Nat.lt_of_lt_of_le k.isLt k0_t3_abs.2.1⟩ ⟨b, hb⟩ ⟨p, hp⟩ rfl rfl rfl rfl rfl qX qG qU rfl) q

/-- The blocks of a trip of the product loop, last stored first. -/
def pairs3 : List (Nat × Nat) := [(7, 1), (7, 0), (6, 1), (6, 0), (5, 1), (5, 0), (4, 1), (4, 0), (3, 1), (3, 0), (2, 1), (2, 0), (1, 1), (1, 0), (0, 1), (0, 0)]

set_option maxRecDepth 100000 in
/-- Every piece of codes a trip of the product loop stores is its block's codes. -/
theorem trip3Run_good5 (fw : Buf (Elt F) (wbM.view.loc (c : Thread nD τ))) (fx : Buf (Elt F) (xbM.view.loc (c : Thread nD τ))) (k : Fin k0_t3_loop.trips) :
    List.Forall₂ (Tile (o5Val (xbM.view.read (Elt F) fx) (wbM.view.read (Elt F) fw)) (In5 k.val))
      (trip3Run c i arg1 harg1 arg2 harg2 arg4 harg4 arg5 harg5 arg6 harg6 fw fx k).1 pairs3 := by
  unfold trip3Run pairs3
  dsimp only
  sl_unfold_run_names
  iterate 16
    refine List.Forall₂.cons (tile5_at c fw fx k (by decide) (by decide) rfl ?_ ?_ ?_ ?_) ?_
    · first | rfl | exact (ClosedOff.eq (off := _)).trans rfl
    · exact (ClosedOff.eq (off := _)).trans rfl
    · exact (ClosedOff.eq (off := _)).trans rfl
    · exact (ClosedOff.eq (off := _)).trans rfl
  exact List.Forall₂.nil

set_option maxRecDepth 100000 in
/-- Every piece of scales a trip of the product loop stores is its block's scales. -/
theorem trip3Run_good6 (fw : Buf (Elt F) (wbM.view.loc (c : Thread nD τ))) (fx : Buf (Elt F) (xbM.view.loc (c : Thread nD τ))) (k : Fin k0_t3_loop.trips) :
    List.Forall₂ (Tile (o6Val (xbM.view.read (Elt F) fx) (wbM.view.read (Elt F) fw)) (In6 k.val))
      (trip3Run c i arg1 harg1 arg2 harg2 arg4 harg4 arg5 harg5 arg6 harg6 fw fx k).2.1 pairs3 := by
  unfold trip3Run pairs3
  dsimp only
  sl_unfold_run_names
  iterate 16
    refine List.Forall₂.cons (tile6_at c fw fx k (by decide) (by decide) rfl ?_ ?_ ?_ ?_) ?_
    · first | rfl | exact (ClosedOff.eq (off := _)).trans rfl
    · exact (ClosedOff.eq (off := _)).trans rfl
    · exact (ClosedOff.eq (off := _)).trans rfl
    · exact (ClosedOff.eq (off := _)).trans rfl
  exact List.Forall₂.nil

end Cert.Kernel.Hand

end
-- ==== Proof.Kernel.Loops.lean ====
/-
  The three counted loops of the kernel body, each by an invariant that says which part of its buffer is done.
-/
module

public import proofs.«01_k».proof.Proof.Kernel.Agree
public import proofs.«01_k».proof.Proof.Kernel.Stores

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
local notation "𝕄" => MT nD τ sig Unit (Elt F) ℕ (UU nD τ) ℕ

variable (c : Dev nD) (i : grid0.Coords)
  (arg1 : Memref sig .tc .vmem S8x128x2176 .fp8e4m3) (harg1 : arg1.IsWhole)
  (arg2 : Memref sig .tc .vmem S17x8x128 .f32) (harg2 : arg2.IsWhole)
  (arg4 : Memref sig .tc .smem S17x60 .f32) (harg4 : arg4.IsWhole)
  (arg5 : Memref sig .tc .vmem S8x128x3840 .fp8e4m3) (harg5 : arg5.IsWhole)
  (arg6 : Memref sig .tc .vmem S30x8x128 .f32) (harg6 : arg6.IsWhole)

omit [FloatOps F] in
/-- Equal assertions entail each other. -/
theorem ent_of_eq {P Q : sProp 𝕄} (e : P = Q) : P ⊢ Q := e ▸ .rfl

/-- The weight loop makes 15 trips, -/
theorem trips1 : k0_t1_loop.trips = 15 := by decide +kernel
/-- the activation loop 17, -/
theorem trips2 : k0_t2_loop.trips = 17 := by decide +kernel
/-- the product loop 15. -/
theorem trips3 : k0_t3_loop.trips = 15 := by decide +kernel

section L1
variable (XA : Buf (Elt F) (wM.view.loc (c : Thread nD τ))) (g4 : Buf (Elt F) (arg4.view.loc (c : Thread nD τ))) (h1 : k0_cond1 i = 1#1)

/-- Before trip `k` of the weight loop, the rows of the first `k` chunks are expanded; after the last, all are. -/
def st1 (k : Nat) : sProp 𝕄 :=
  if k < 15 then iprop(∃ f, ⌜∀ y : S7680x2176.Idx, (y 0).val < 512 * k → wbM.view.read (Elt F) f y = wbVal c XA arg4 g4 y⌝ ∗ resAt c XA arg4 g4 k f)
  else iprop(∃ f, ⌜∀ y : S7680x2176.Idx, wbM.view.read (Elt F) f y = wbVal c XA arg4 g4 y⌝ ∗ resEnd c XA arg4 g4 f)

/-- One trip of the weight loop carries its invariant on. -/
theorem trip1 (k : Fin k0_t1_loop.trips) :
    st1 c arg4 XA g4 k ⊢ wp frame (wpE (defs₀ (F := F)) 𝒱₀ (c : Thread nD τ) none) Set.univ (tripG i h1 arg1 harg1 arg2 harg2 arg4 harg4 arg5 harg5 arg6 harg6 xbM (Memref.isWhole_whole _) k)
      (fun _ => st1 c arg4 XA g4 (k.val + 1)) := by
  have hk : k.val < 15 := trip_lt k
  unfold st1
  rw [if_pos hk]
  by_cases hl : k.val + 1 < 15
  · rw [if_pos hl]
    iintro ⟨%f, %hf, H⟩
    iapply (wp_wand_r frame (wpE (defs₀ (F := F)) 𝒱₀ (c : Thread nD τ) none) Set.univ)
    isplitl [H]
    · iapply (tripRun c XA i h1 arg1 harg1 arg2 harg2 arg4 harg4 arg5 harg5 arg6 harg6 xbM (Memref.isWhole_whole _) g4 k hl f).2; iexact H
    · iintro %_ H
      iexists _
      isplitr
      · ipureintro
        exact fun y hy => rows_of_good c XA arg4 g4 k.val _
          (tripRun_good c XA arg4 g4 i h1 arg1 harg1 arg2 harg2 harg4 arg5 harg5 arg6 harg6 xbM (Memref.isWhole_whole _) k hl f) f hf y hy
      · iexact H
  · rw [if_neg hl]
    iintro ⟨%f, %hf, H⟩
    iapply (wp_wand_r frame (wpE (defs₀ (F := F)) 𝒱₀ (c : Thread nD τ) none) Set.univ)
    isplitl [H]
    · iapply (lastRun c XA i h1 arg1 harg1 arg2 harg2 arg4 harg4 arg5 harg5 arg6 harg6 xbM (Memref.isWhole_whole _) g4 k (by omega) f).2; iexact H
    · iintro %_ H
      iexists _
      isplitr
      · ipureintro
        exact fun y => rows_of_good c XA arg4 g4 k.val _
          (lastRun_good c XA arg4 g4 i h1 arg1 harg1 arg2 harg2 harg4 arg5 harg5 arg6 harg6 xbM (Memref.isWhole_whole _) k (by omega) f) f hf y
          (by have h : (y 0).val < 7680 := (y 0).isLt; omega)
      · iexact H

/-- The weight loop. -/
theorem loop1 : st1 c arg4 XA g4 0 ⊢ wp frame (wpE (defs₀ (F := F)) 𝒱₀ (c : Thread nD τ) none) Set.univ (Scf.Loop.for k0_t1_loop (k0_t1_ok i h1) ⟨⟩
      (fun k (_ : Unit) => tripG i h1 arg1 harg1 arg2 harg2 arg4 harg4 arg5 harg5 arg6 harg6 xbM (Memref.isWhole_whole _) k))
      (fun _ => iprop(∃ f, ⌜∀ y : S7680x2176.Idx, wbM.view.read (Elt F) f y = wbVal c XA arg4 g4 y⌝ ∗ resEnd c XA arg4 g4 f)) := by
  iintro H
  iapply (Scf.wp_for frame (wpE (defs₀ (F := F)) 𝒱₀ (c : Thread nD τ) none) Set.univ k0_t1_loop.lb k0_t1_loop.ub k0_t1_loop.st _ _ _
    (fun k _ => st1 c arg4 XA g4 k) (fun k _ => trip1 c i arg1 harg1 arg2 harg2 arg4 harg4 arg5 harg5 arg6 harg6 XA g4 h1 k))
  isplitl [H]
  · iexact H
  · iintro %_ H
    ihave H' := (ent_of_eq (show st1 c arg4 XA g4 k0_t1_loop.trips = iprop(∃ f, ⌜∀ y : S7680x2176.Idx, wbM.view.read (Elt F) f y = wbVal c XA arg4 g4 y⌝ ∗ resEnd c XA arg4 g4 f)
      from by rw [trips1]; exact if_neg (by decide))) $$ H
    iexact H'
end L1

section L2
variable (g1 : Buf (Elt F) (arg1.view.loc (c : Thread nD τ))) (g2 : Buf (Elt F) (arg2.view.loc (c : Thread nD τ)))

/-- Before trip `k` of the activation loop, the first `128 k` columns are expanded. -/
def st2 (k : Nat) : sProp 𝕄 :=
  iprop(∃ f, ⌜∀ y : S1024x2176.Idx, (y 1).val < 128 * k → xbM.view.read (Elt F) f y = xbVal (arg1.view.read (Elt F) g1) (arg2.view.read (Elt F) g2) y⌝
    ∗ res2 c arg1 arg2 g1 g2 f)

/-- Every batch is in the list. -/
theorem mem_eight : ∀ b : Fin 8, b.val ∈ [7, 6, 5, 4, 3, 2, 1, 0] := by decide

/-- One trip of the activation loop carries its invariant on. -/
theorem trip2 (k : Fin k0_t2_loop.trips) :
    st2 c arg1 arg2 g1 g2 k ⊢ wp frame (wpE (defs₀ (F := F)) 𝒱₀ (c : Thread nD τ) none) Set.univ (trip2G i arg1 harg1 arg2 harg2 arg4 harg4 arg5 harg5 arg6 harg6 k) (fun _ => st2 c arg1 arg2 g1 g2 (k.val + 1)) := by
  unfold st2
  iintro ⟨%f, %hf, H⟩
  iapply (wp_wand_r frame (wpE (defs₀ (F := F)) 𝒱₀ (c : Thread nD τ) none) Set.univ)
  isplitl [H]
  · iapply ((trip2Run c i arg1 harg1 arg2 harg2 arg4 harg4 arg5 harg5 arg6 harg6 g1 g2 k).2 f); iexact H
  · iintro %_ H
    iexists _
    isplitr
    · ipureintro
      refine fun y hy => extend xbM.view _ _ (trip2Run_good c i arg1 harg1 arg2 harg2 arg4 harg4 arg5 harg5 arg6 harg6 g1 g2 k) f y ?_
      by_cases h : (y 1).val < 128 * k.val
      · exact Or.inl (hf y h)
      · have h0 : (y 0).val < 1024 := (y 0).isLt
        refine Or.inr ⟨(y 0).val / 128, mem_eight ⟨(y 0).val / 128, by omega⟩, ?_⟩
        refine ⟨⟨?_, ?_⟩, ⟨?_, ?_⟩⟩
        · show 128 * ((y 0).val / 128) ≤ (y 0).val; omega
        · show (y 0).val < 128 * ((y 0).val / 128) + 128; omega
        · show 128 * k.val ≤ (y 1).val; omega
        · show (y 1).val < 128 * k.val + 128; omega
    · iexact H

/-- The activation loop. -/
theorem loop2 : st2 c arg1 arg2 g1 g2 0 ⊢ wp frame (wpE (defs₀ (F := F)) 𝒱₀ (c : Thread nD τ) none) Set.univ (Scf.Loop.for k0_t2_loop k0_t2_ok ⟨⟩
      (fun k (_ : Unit) => trip2G i arg1 harg1 arg2 harg2 arg4 harg4 arg5 harg5 arg6 harg6 k))
      (fun _ => iprop(∃ f, ⌜∀ y : S1024x2176.Idx, xbM.view.read (Elt F) f y = xbVal (arg1.view.read (Elt F) g1) (arg2.view.read (Elt F) g2) y⌝
        ∗ res2 c arg1 arg2 g1 g2 f)) := by
  iintro H
  iapply (Scf.wp_for frame (wpE (defs₀ (F := F)) 𝒱₀ (c : Thread nD τ) none) Set.univ k0_t2_loop.lb k0_t2_loop.ub k0_t2_loop.st _ _ _
    (fun k _ => st2 c arg1 arg2 g1 g2 k) (fun k _ => trip2 c i arg1 harg1 arg2 harg2 arg4 harg4 arg5 harg5 arg6 harg6 g1 g2 k))
  isplitl [H]
  · iexact H
  · iintro %_ H
    unfold st2
    icases H with ⟨%f, %hf, H⟩
    iexists f
    isplitr
    · ipureintro
      exact fun y => hf y (by have e : k0_t2_loop.trips = 17 := trips2; have h : (y 1).val < 2176 := (y 1).isLt; show (y 1).val < 128 * k0_t2_loop.trips; omega)
    · iexact H
end L2

section L3
variable (fw : Buf (Elt F) (wbM.view.loc (c : Thread nD τ))) (fx : Buf (Elt F) (xbM.view.loc (c : Thread nD τ)))

/-- Before trip `k` of the product loop, the first `2 k` blocks of each output are stored. -/
def st3 (k : Nat) : sProp 𝕄 :=
  iprop(∃ f5 f6, ⌜(∀ y : S8x128x3840.Idx, (y 2).val < 256 * k → arg5.view.read (Elt F) f5 y = o5Val (xbM.view.read (Elt F) fx) (wbM.view.read (Elt F) fw) y)
      ∧ (∀ y : S30x8x128.Idx, (y 0).val < 2 * k → arg6.view.read (Elt F) f6 y = o6Val (xbM.view.read (Elt F) fx) (wbM.view.read (Elt F) fw) y)⌝
    ∗ res3 c arg5 arg6 fw fx f5 f6)

/-- Every block of a trip's products is in the list. -/
theorem mem_pairs3 : ∀ b : Fin 8, ∀ p : Fin 2, (b.val, p.val) ∈ pairs3 := by decide

/-- One trip of the product loop carries its invariant on. -/
theorem trip3 (k : Fin k0_t3_loop.trips) :
    st3 c arg5 arg6 fw fx k ⊢ wp frame (wpE (defs₀ (F := F)) 𝒱₀ (c : Thread nD τ) none) Set.univ (trip3G i arg1 harg1 arg2 harg2 arg4 harg4 arg5 harg5 arg6 harg6 k) (fun _ => st3 c arg5 arg6 fw fx (k.val + 1)) := by
  unfold st3
  iintro ⟨%f5, %f6, %hf, H⟩
  iapply (wp_wand_r frame (wpE (defs₀ (F := F)) 𝒱₀ (c : Thread nD τ) none) Set.univ)
  isplitl [H]
  · iapply ((trip3Run c i arg1 harg1 arg2 harg2 arg4 harg4 arg5 harg5 arg6 harg6 fw fx k).2.2 f5 f6); iexact H
  · iintro %_ H
    iexists _, _
    isplitr
    · ipureintro
      refine ⟨fun y hy => extend arg5.view _ _ (trip3Run_good5 c i arg1 harg1 arg2 harg2 arg4 harg4 arg5 harg5 arg6 harg6 fw fx k) f5 y ?_,
        fun y hy => extend arg6.view _ _ (trip3Run_good6 c i arg1 harg1 arg2 harg2 arg4 harg4 arg5 harg5 arg6 harg6 fw fx k) f6 y ?_⟩
      · by_cases h : (y 2).val < 256 * k.val
        · exact Or.inl (hf.1 y h)
        · have h0 : (y 0).val < 8 := (y 0).isLt
          refine Or.inr ⟨((y 0).val, (y 2).val % 256 / 128), mem_pairs3 ⟨(y 0).val, h0⟩ ⟨(y 2).val % 256 / 128, by omega⟩, ?_⟩
          refine ⟨rfl, ?_, ?_⟩
          · show 256 * k.val + 128 * ((y 2).val % 256 / 128) ≤ (y 2).val; omega
          · show (y 2).val < 256 * k.val + 128 * ((y 2).val % 256 / 128) + 128; omega
      · by_cases h : (y 0).val < 2 * k.val
        · exact Or.inl (hf.2 y h)
        · have h0 : (y 1).val < 8 := (y 1).isLt
          refine Or.inr ⟨((y 1).val, (y 0).val % 2), mem_pairs3 ⟨(y 1).val, h0⟩ ⟨(y 0).val % 2, by omega⟩, ?_, rfl⟩
          show (y 0).val = 2 * k.val + (y 0).val % 2; omega
    · iexact H

/-- The product loop. -/
theorem loop3 : st3 c arg5 arg6 fw fx 0 ⊢ wp frame (wpE (defs₀ (F := F)) 𝒱₀ (c : Thread nD τ) none) Set.univ (Scf.Loop.for k0_t3_loop k0_t3_ok ⟨⟩
      (fun k (_ : Unit) => trip3G i arg1 harg1 arg2 harg2 arg4 harg4 arg5 harg5 arg6 harg6 k))
      (fun _ => iprop(∃ f5 f6, ⌜(∀ y : S8x128x3840.Idx, arg5.view.read (Elt F) f5 y = o5Val (xbM.view.read (Elt F) fx) (wbM.view.read (Elt F) fw) y)
          ∧ (∀ y : S30x8x128.Idx, arg6.view.read (Elt F) f6 y = o6Val (xbM.view.read (Elt F) fx) (wbM.view.read (Elt F) fw) y)⌝
        ∗ res3 c arg5 arg6 fw fx f5 f6)) := by
  iintro H
  iapply (Scf.wp_for frame (wpE (defs₀ (F := F)) 𝒱₀ (c : Thread nD τ) none) Set.univ k0_t3_loop.lb k0_t3_loop.ub k0_t3_loop.st _ _ _
    (fun k _ => st3 c arg5 arg6 fw fx k) (fun k _ => trip3 c i arg1 harg1 arg2 harg2 arg4 harg4 arg5 harg5 arg6 harg6 fw fx k))
  isplitl [H]
  · iexact H
  · iintro %_ H
    unfold st3
    icases H with ⟨%f5, %f6, %hf, H⟩
    iexists f5, f6
    isplitr
    · ipureintro
      exact ⟨fun y => hf.1 y (by have e : k0_t3_loop.trips = 15 := trips3; have h : (y 2).val < 3840 := (y 2).isLt; show (y 2).val < 256 * k0_t3_loop.trips; omega),
        fun y => hf.2 y (by have e : k0_t3_loop.trips = 15 := trips3; have h : (y 0).val < 30 := (y 0).isLt; show (y 0).val < 2 * k0_t3_loop.trips; omega)⟩
    · iexact H
end L3

end Cert.Kernel.Hand

end
-- ==== Proof.Kernel.Body.lean ====
/-
  The kernel body at a grid point: at the first point it expands the weight; at every point it expands the activations
  and stores the codes and scales of the gated product.
-/
module

public import proofs.«01_k».proof.Proof.Kernel.Loops

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
local notation "𝕄" => MT nD τ sig Unit (Elt F) ℕ (UU nD τ) ℕ

variable (c : Dev nD) (i : grid0.Coords)
  (arg1 : Memref sig .tc .vmem S8x128x2176 .fp8e4m3) (harg1 : arg1.IsWhole)
  (arg2 : Memref sig .tc .vmem S17x8x128 .f32) (harg2 : arg2.IsWhole)
  (arg4 : Memref sig .tc .smem S17x60 .f32) (harg4 : arg4.IsWhole)
  (arg5 : Memref sig .tc .vmem S8x128x3840 .fp8e4m3) (harg5 : arg5.IsWhole)
  (arg6 : Memref sig .tc .vmem S30x8x128 .f32) (harg6 : arg6.IsWhole)

/-- The first chunk lands in slot 0, -/
theorem sl2_0 : Ring.sl 2 0 = 0 := Fin.ext (by rfl)
/-- the second in slot 1; -/
theorem sl2_1 : Ring.sl 2 (0 + 1) = 1 := Fin.ext (by rfl)
/-- the first chunk is chunk 0. -/
theorem bk15_0 : Ring.bk 15 0 = 0 := Fin.ext (by rfl)

/-- At the start, chunk 0 apart from the rest. -/
theorem homes_zero (XA : Buf (Elt F) (wM.view.loc (c : Thread nD τ))) :
    bigSep Finset.univ (homeP c XA) = iprop(homeP c XA 0 ∗ bigSep (Ring.homeSet 1 0) (homeP c XA)) := by
  have e : (Finset.univ : Finset (Fin 15)) = insert 0 (Ring.homeSet (NB := 15) 1 0) := by
    ext b; simp only [Finset.mem_univ, Finset.mem_insert, Ring.mem_homeSet, true_iff, Fin.ext_iff]; have := b.isLt; omega
  rw [e, bigSep_insert (by simp [Ring.mem_homeSet, Fin.ext_iff])]; rfl

variable (g1 : Buf (Elt F) (arg1.view.loc (c : Thread nD τ))) (g2 : Buf (Elt F) (arg2.view.loc (c : Thread nD τ)))
  (g4 : Buf (Elt F) (arg4.view.loc (c : Thread nD τ))) (XA : Buf (Elt F) (wM.view.loc (c : Thread nD τ)))

/-- The body after the expansion of the weight. -/
abbrev restG : Prog (TpuEff nD τ sig (Elt F) Λ₀ .tc) PUnit :=
  (Scf.Loop.for k0_t2_loop k0_t2_ok ⟨⟩ (fun k (_ : Unit) => trip2G i arg1 harg1 arg2 harg2 arg4 harg4 arg5 harg5 arg6 harg6 k)) >>= fun _ =>
  (Scf.Loop.for k0_t3_loop k0_t3_ok ⟨⟩ (fun k (_ : Unit) => trip3G i arg1 harg1 arg2 harg2 arg4 harg4 arg5 harg5 arg6 harg6 k)) >>= fun _ =>
  pure ⟨⟩

/-- What the activation and product loops work with. -/
abbrev resR (fw : Buf (Elt F) (wbM.view.loc (c : Thread nD τ))) : sProp 𝕄 :=
  iprop((arg1.view.loc (c : Thread nD τ) ↦[arg1.view.set]{fullShare} g1) ∗ (arg2.view.loc (c : Thread nD τ) ↦[arg2.view.set]{fullShare} g2)
    ∗ wbP c fw ∗ (∃ fx, xbM.view.loc (c : Thread nD τ) ↦[xbM.view.set]{fullShare} fx)
    ∗ (∃ f5, arg5.view.loc (c : Thread nD τ) ↦[arg5.view.set]{fullShare} f5) ∗ (∃ f6, arg6.view.loc (c : Thread nD τ) ↦[arg6.view.set]{fullShare} f6))

/-- The same, the outputs at what they hold afterwards. -/
abbrev resD (fw : Buf (Elt F) (wbM.view.loc (c : Thread nD τ))) : sProp 𝕄 :=
  iprop((arg1.view.loc (c : Thread nD τ) ↦[arg1.view.set]{fullShare} g1) ∗ (arg2.view.loc (c : Thread nD τ) ↦[arg2.view.set]{fullShare} g2)
    ∗ wbP c fw ∗ (∃ fx, xbM.view.loc (c : Thread nD τ) ↦[xbM.view.set]{fullShare} fx)
    ∗ (∃ f5, ⌜arg5.view.read (Elt F) f5 = o5Val (xbVal (arg1.view.read (Elt F) g1) (arg2.view.read (Elt F) g2)) (wbM.view.read (Elt F) fw)⌝
        ∗ arg5.view.loc (c : Thread nD τ) ↦[arg5.view.set]{fullShare} f5)
    ∗ (∃ f6, ⌜arg6.view.read (Elt F) f6 = o6Val (xbVal (arg1.view.read (Elt F) g1) (arg2.view.read (Elt F) g2)) (wbM.view.read (Elt F) fw)⌝
        ∗ arg6.view.loc (c : Thread nD τ) ↦[arg6.view.set]{fullShare} f6))

/-- The activation loop, then the product loop. -/
theorem restRun (fw : Buf (Elt F) (wbM.view.loc (c : Thread nD τ))) :
    resR c arg1 arg2 arg5 arg6 g1 g2 fw ⊢ wp frame (wpE (defs₀ (F := F)) 𝒱₀ (c : Thread nD τ) none) Set.univ
      (restG i arg1 harg1 arg2 harg2 arg4 harg4 arg5 harg5 arg6 harg6) (fun _ => resD c arg1 arg2 arg5 arg6 g1 g2 fw) := by
  unfold restG
  rw [wp_bind]
  iintro ⟨H1, H2, Hw, ⟨%fx0, Hx⟩, ⟨%f50, H5⟩, ⟨%f60, H6⟩⟩
  iapply (wp_wand_r frame (wpE (defs₀ (F := F)) 𝒱₀ (c : Thread nD τ) none) Set.univ)
  isplitl [H1 H2 Hx]
  · iapply (loop2 c i arg1 harg1 arg2 harg2 arg4 harg4 arg5 harg5 arg6 harg6 g1 g2)
    unfold st2
    iexists fx0
    isplitr
    · ipureintro
      exact fun y hy => absurd hy (Nat.not_lt_zero _)
    · isplitl [H1]; · iexact H1
      isplitl [H2]; · iexact H2
      iexact Hx
  iintro %_ ⟨%fx, %hx, H1, H2, Hx⟩
  irw [wp_bind]
  iapply (wp_wand_r frame (wpE (defs₀ (F := F)) 𝒱₀ (c : Thread nD τ) none) Set.univ)
  isplitl [Hw Hx H5 H6]
  · iapply (loop3 c i arg1 harg1 arg2 harg2 arg4 harg4 arg5 harg5 arg6 harg6 fw fx)
    unfold st3
    iexists f50, f60
    isplitr
    · ipureintro
      exact ⟨fun y hy => absurd hy (Nat.not_lt_zero _), fun y hy => absurd hy (Nat.not_lt_zero _)⟩
    · isplitl [Hw]; · iexact Hw
      isplitl [Hx]; · iexact Hx
      isplitl [H5]; · iexact H5
      iexact H6
  iintro %_ ⟨%f5, %f6, %hf, Hw, Hx, H5, H6⟩
  have ex : xbM.view.read (Elt F) fx = xbVal (arg1.view.read (Elt F) g1) (arg2.view.read (Elt F) g2) := funext hx
  sl_step
  isplitl [H1]; · iexact H1
  isplitl [H2]; · iexact H2
  isplitl [Hw]; · iexact Hw
  isplitl [Hx]; · iexists fx; iexact Hx
  isplitl [H5]
  · iexists f5
    isplitr
    · ipureintro
      rw [← ex]; exact funext hf.1
    · iexact H5
  · iexists f6
    isplitr
    · ipureintro
      rw [← ex]; exact funext hf.2
    · iexact H6

/-- The body, its parts by name. -/
abbrev bodyG : Prog (TpuEff nD τ sig (Elt F) Λ₀ .tc) PUnit :=
  cc0_gate_up_swiglu_requant (F := F) i arg1 harg1 arg2 harg2 wM (Memref.isWhole_whole _) arg4 harg4 arg5 harg5 arg6 harg6 wbM (Memref.isWhole_whole _)
    landM (Memref.isWhole_whole _) xbM (Memref.isWhole_whole _) cc0_scratch3

/-- At a later grid point: the expanded weight is there already. -/
theorem bodyLater (h : ¬ k0_cond1 i = 1#1) (fw : Buf (Elt F) (wbM.view.loc (c : Thread nD τ))) :
    resR c arg1 arg2 arg5 arg6 g1 g2 fw ⊢ wp frame (wpE (defs₀ (F := F)) 𝒱₀ (c : Thread nD τ) none) Set.univ
      (bodyG i arg1 harg1 arg2 harg2 arg4 harg4 arg5 harg5 arg6 harg6) (fun _ => resD c arg1 arg2 arg5 arg6 g1 g2 fw) := by
  have e : bodyG (F := F) i arg1 harg1 arg2 harg2 arg4 harg4 arg5 harg5 arg6 harg6 = restG i arg1 harg1 arg2 harg2 arg4 harg4 arg5 harg5 arg6 harg6 := by
    unfold bodyG
    rw [cc0_gate_up_swiglu_requant_eq_skeleton]
    unfold cc0_gate_up_swiglu_requant_skel
    rw [dif_neg h]
  rw [e]
  exact restRun c i arg1 harg1 arg2 harg2 arg4 harg4 arg5 harg5 arg6 harg6 g1 g2 fw

/-- What the first grid point's weight loop works with. -/
abbrev resW : sProp 𝕄 :=
  iprop((∃ fw, wbP c fw) ∗ wsP c arg4 g4 ∗ (∃ W, owes (c : Thread nD τ) 0 W) ∗ bigSep Finset.univ (homeP c XA)
    ∗ (∃ f, slotP c 0 f) ∗ (∃ f, slotP c 1 f) ∗ cellP c 0 ∗ cellP c 1)

/-- What the weight loop starts from. -/
theorem st1_start (fw : Buf (Elt F) (wbM.view.loc (c : Thread nD τ))) (W : Waits sig Unit) (s0 : Buf (Elt F) ((rslot 0).view.loc (c : Thread nD τ)))
    (s1 : Buf (Elt F) ((rslot 1).view.loc (c : Thread nD τ))) :
    iprop(wbP c fw ∗ wsP c arg4 g4 ∗ owes (c : Thread nD τ) 0 W ∗ bigSep (Ring.homeSet 1 0) (homeP c XA) ∗ flightP c XA 0 0 s0 ∗ slotP c 1 s1 ∗ cellP c 1)
      ⊢ st1 c arg4 XA g4 0 := by
  unfold st1
  rw [if_pos (by decide)]
  unfold resAt
  rw [sl2_0, sl2_1, bk15_0]
  iintro ⟨Hw, Hs, HW, Hh, HF, Hs1, Hc1⟩
  iexists fw
  isplitr
  · ipureintro
    exact fun y hy => absurd hy (Nat.not_lt_zero _)
  isplitl [Hw]; · iexact Hw
  isplitl [Hs]; · iexact Hs
  isplitl [HW]; · iexists _; iexact HW
  isplitl [Hh]; · iexact Hh
  isplitl [HF]; · iexists _; iexact HF
  isplitl [Hs1]; · iexists _; iexact Hs1
  iexact Hc1

attribute [local sl_canon] sl2_0 sl2_1 bk15_0 in
/-- At the first grid point: chunk 0 is fetched, the weight loop runs, then the other two. -/
theorem bodyFirst (h : k0_cond1 i = 1#1) :
    iprop(resW c arg4 g4 XA
      ∗ (arg1.view.loc (c : Thread nD τ) ↦[arg1.view.set]{fullShare} g1) ∗ (arg2.view.loc (c : Thread nD τ) ↦[arg2.view.set]{fullShare} g2)
      ∗ (∃ fx, xbM.view.loc (c : Thread nD τ) ↦[xbM.view.set]{fullShare} fx)
      ∗ (∃ f5, arg5.view.loc (c : Thread nD τ) ↦[arg5.view.set]{fullShare} f5) ∗ (∃ f6, arg6.view.loc (c : Thread nD τ) ↦[arg6.view.set]{fullShare} f6))
    ⊢ wp frame (wpE (defs₀ (F := F)) 𝒱₀ (c : Thread nD τ) none) Set.univ
      (bodyG i arg1 harg1 arg2 harg2 arg4 harg4 arg5 harg5 arg6 harg6)
      (fun _ => iprop(∃ fw, ⌜wbM.view.read (Elt F) fw = wbVal c XA arg4 g4⌝ ∗ resD c arg1 arg2 arg5 arg6 g1 g2 fw
        ∗ wsP c arg4 g4 ∗ (∃ W, owes (c : Thread nD τ) 0 W) ∗ bigSep Finset.univ (homeP c XA)
        ∗ (∃ f, slotP c 0 f) ∗ (∃ f, slotP c 1 f) ∗ cellP c 0 ∗ cellP c 1)) := by
  iintro ⟨⟨⟨%fw0, Hw⟩, Hs, ⟨%W, HW⟩, Hh, ⟨%s0, Hs0⟩, ⟨%s1, Hs1⟩, Hc0, Hc1⟩, H1, H2, Hx, H5, H6⟩
  ihave Hh' := (ent_of_eq (homes_zero c XA)) $$ Hh
  icases Hh' with ⟨Hg0, Hh⟩
  dsimp only [bodyG]
  sl_rw [cc0_gate_up_swiglu_requant_eq_skeleton]
  unfold cc0_gate_up_swiglu_requant_skel
  sl_exec
  irw [wp_bind]
  iapply (wp_wand_r frame (wpE (defs₀ (F := F)) 𝒱₀ (c : Thread nD τ) none) Set.univ)
  isplitl [Hw Hs HW Hh Hc0 Hs1 Hc1]
  · iapply (loop1 c i arg1 harg1 arg2 harg2 arg4 harg4 arg5 harg5 arg6 harg6 XA g4 h)
    iapply (st1_start c arg4 g4 XA fw0 _ s0 s1)
    isplitl [Hw]; · iexact Hw
    isplitl [Hs]; · iexact Hs
    isplitl [HW]; · iexact HW
    isplitl [Hh]; · iexact Hh
    isplitl [Hc0]; · iexact Hc0
    isplitl [Hs1]; · iexact Hs1
    iexact Hc1
  unfold resEnd
  iintro %_ ⟨%fw, %hw, Hw, Hs, HW, Hh, Hs0, Hs1, Hc0, Hc1⟩
  iapply (wp_wand_r frame (wpE (defs₀ (F := F)) 𝒱₀ (c : Thread nD τ) none) Set.univ)
  isplitl [Hw H1 H2 Hx H5 H6]
  · iapply (restRun c i arg1 harg1 arg2 harg2 arg4 harg4 arg5 harg5 arg6 harg6 g1 g2 fw)
    isplitl [H1]; · iexact H1
    isplitl [H2]; · iexact H2
    isplitl [Hw]; · iexact Hw
    isplitl [Hx]; · iexact Hx
    isplitl [H5]; · iexact H5
    iexact H6
  iintro %_ HD
  iexists fw
  isplitr
  · ipureintro; exact funext hw
  isplitl [HD]; · iexact HD
  isplitl [Hs]; · iexact Hs
  isplitl [HW]; · iexact HW
  isplitl [Hh]; · iexact Hh
  isplitl [Hs0]; · iexact Hs0
  isplitl [Hs1]; · iexact Hs1
  isplitl [Hc0]; · iexact Hc0
  iexact Hc1

end Cert.Kernel.Hand

end
-- ==== Proof.Kernel.Obligation.lean ====
/-
  The grid: what the kernel holds between points, and the body run at every point. The weight is expanded at the first
  point and kept; the codes and scales of a point are functions of its own blocks and of the expanded weight.
-/
module

public import proofs.«01_k».proof.Proof.Kernel.Body
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The weight's fifteen chunks and the landing buffer's two slots tile their arrays -/

/-- The indices of a chunk. -/
abbrev grpSet (b : Fin 15) : Finset S7680x2176.Idx := (Rect.unit (s := S7680x2176) (grpOff b) S512x2176.size (grpOff_inb b)).set
/-- The indices of a slot. -/
abbrev slotSet (s : Fin 2) : Finset S2x512x2176.Idx := (Rect.unit (s := S2x512x2176) (slotOff s) S1x512x2176.size (slotOff_inb s)).set

/-- A chunk's view covers its indices. -/
theorem grp_set (b : Fin 15) : (grp b : Memref sig .tc .hbm _ _).view.set = grpSet b := View.set_slice_whole _ _
/-- A slot's view covers its indices. -/
theorem rslot_set (s : Fin 2) : (rslot s : Memref sig .tc .vmem _ _).view.set = slotSet s := (View.set_reshape _ _).trans (View.set_slice_whole _ _)

/-- Chunk `b` is rows 512 b to 512 b + 511. -/
theorem mem_grpSet (b : Fin 15) (y : S7680x2176.Idx) : y ∈ grpSet b ↔ 512 * b.val ≤ (y 0).val ∧ (y 0).val < 512 * b.val + 512 := by
  rw [Rect.mem_set_unit]
  have h1 : (y 1).val < 2176 := (y 1).isLt
  constructor
  · intro H; exact H 0
  · intro H i; fin_cases i
    · exact H
    · show 0 ≤ (y 1).val ∧ (y 1).val < 0 + 2176; omega
/-- Slot `s` is the indices that begin with `s`. -/
theorem mem_slotSet (s : Fin 2) (y : S2x512x2176.Idx) : y ∈ slotSet s ↔ (y 0).val = s.val := by
  rw [Rect.mem_set_unit]
  have h1 : (y 1).val < 512 := (y 1).isLt
  have h2 : (y 2).val < 2176 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2176; omega
/-- Two chunks share no index, -/
theorem grpSet_disjoint : ∀ b b' : Fin 15, b ≠ b' → Disjoint (grpSet b) (grpSet b') := by
  intro b b' hne; rw [Finset.disjoint_left]; intro y hy hy'; rw [mem_grpSet] at hy hy'; exact hne (Fin.ext (by omega))
/-- and together they are the weight. -/
theorem grpSet_cover : (Finset.univ : Finset (Fin 15)).biUnion grpSet = Finset.univ := by
  ext y; simp only [Finset.mem_biUnion, Finset.mem_univ, true_and, iff_true]
  have h : (y 0).val < 7680 := (y 0).isLt
  exact ⟨⟨(y 0).val / 512, by omega⟩, by rw [mem_grpSet]; show 512 * ((y 0).val / 512) ≤ _ ∧ _ < 512 * ((y 0).val / 512) + 512; omega⟩
/-- The two slots share no index, -/
theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
/-- and together they are the landing buffer. -/
theorem slotSet_cover : (Finset.univ : Finset (Fin 2)).biUnion slotSet = Finset.univ := by
  ext y; simp only [Finset.mem_biUnion, Finset.mem_univ, true_and, iff_true]
  have h : (y 0).val < 2 := (y 0).isLt
  exact ⟨⟨(y 0).val, h⟩, by rw [mem_slotSet]⟩

/-- A separating product over two is the product of the two. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The weight whole is its fifteen chunks. -/
theorem weight_eq (c : Dev nD) (XA : Buf (Elt F) (wM.view.loc (c : Thread nD τ))) :
    (((c : Thread nD τ).loc main_arg2) ↦{fullShare} XA : sProp 𝕄) = bigSep Finset.univ (homeP c XA) := by
  rw [Ring.pointsTo_blocks (ℓ := (c : Thread nD τ).loc main_arg2) grpSet grpSet_disjoint grpSet_cover]
  exact bigSep_congr fun b _ => by rw [← grp_set]; rfl

/-- Holding a slot is holding its indices. -/
theorem slotP_eq (c : Dev nD) (s : Fin 2) (f) : slotP c s f = (((c : Thread nD τ).loc cc0_scratch1) ↦[slotSet s]{fullShare} f : sProp 𝕄) :=
  congrArg (fun S => (_ ↦[S]{fullShare} f : sProp 𝕄)) (rslot_set s)
/-- The landing buffer whole is its two slots, -/
theorem land_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scratch1) slotSet slotSet_disjoint slotSet_cover f).trans (bigSep_fin2 _))) $$ H
  icases H2 with ⟨H0, H1⟩
  isplitl [H0]
  · iexists f; iapply (ent_of_eq (slotP_eq c 0 f).symm); iexact H0
  · iexists f; iapply (ent_of_eq (slotP_eq c 1 f).symm); iexact H1
/-- and back. -/
theorem land_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) slotSet slotSet_disjoint slotSet_cover f0)
  irw [bigSep_fin2]
  isplitl [H0]
  · iexists f0; iapply (ent_of_eq (slotP_eq c 0 f0)); iexact H0
  · iexists f1; iapply (ent_of_eq (slotP_eq c 1 f1)); iexact H1

/-- A whole scratch buffer on its own elements is the buffer. -/
theorem wbP_eq (c : Dev nD) (f : Buf (Elt F) (wbM.view.loc (c : Thread nD τ))) :
    wbP c f = (((c : Thread nD τ).loc cc0_scratch0) ↦{fullShare} f : sProp 𝕄) :=
  congrArg (fun S => (_ ↦[S]{fullShare} f : sProp 𝕄)) (View.set_whole _)
/-- Holding the activation buffer through its view is holding it. -/
theorem xbP_eq (c : Dev nD) (f : Buf (Elt F) (xbM.view.loc (c : Thread nD τ))) :
    (xbM.view.loc (c : Thread nD τ) ↦[xbM.view.set]{fullShare} f : sProp 𝕄) = (((c : Thread nD τ).loc cc0_scratch2) ↦{fullShare} f : sProp 𝕄) :=
  congrArg (fun S => (_ ↦[S]{fullShare} f : sProp 𝕄)) (View.set_whole _)

/-! ## The kernel's own semaphores and the operand it moves itself -/

/-- The kernel's own two semaphores. -/
abbrev osem0 : Fin 2 → SemLoc sig := fun s => .dma (csm s).sem
/-- They are none of the pipeline's. -/
theorem ownSemFacts0 : Pipeline.OwnSemFacts spec0 osem0 := by decide
/-- The array that the kernel reads by its own copies. -/
abbrev H0 : Finset (Ref sig .tc) := {main_arg2}
/-- It is none of the windows' arrays. -/
theorem H0_sub : H0 ⊆ Pipeline.restRefs sig spec0 := by decide

/-- The two semaphores at zero. -/
theorem ownSems0_eq (c : Dev nD) : (Pipeline.ownSems0 (Ix := Unit) (Name := ℕ) (U := UU nD τ) (Lvl := ℕ) (Val := Elt F) (τ := τ) osem0 c : sProp 𝕄)
    = iprop(cellP c 0 ∗ cellP c 1) := by
  unfold Pipeline.ownSems0; rw [bigSep_fin2]

/-! ## The proof data -/

/-- The expanded weight, from the quantised weight and its scales. -/
def wexp (X : S7680x2176.Idx → Elt F .fp8e4m3) (S : S17x60.Idx → Elt F .f32) (y : S7680x2176.Idx) : Elt F .bf16 :=
  FloatOps.mulf (FloatOps.extf .bf16 bitsLt_fp8e4m3_bf16 (X y)) (Scalar.truncf .bf16 bitsLt_bf16_f32 (S (scaleIx y)))

/-- The expanded weight depends on what is read alone. -/
theorem wbVal_eq (c : Dev nD) (XA : Buf (Elt F) (wM.view.loc (c : Thread nD τ))) (arg4 : Memref sig .tc .smem S17x60 .f32)
    (g4 : Buf (Elt F) (arg4.view.loc (c : Thread nD τ))) :
    wbVal c XA arg4 g4 = wexp (wM.view.read (Elt F) XA) (arg4.view.read (Elt F) g4) := rfl

variable (m : (ℓ : Loc nD τ sig) → Buf (Elt F) ℓ) (ρ : Dev nD → PrngReg)

/-- The first point. -/
abbrev pt0 : Fin cfg0.N := ⟨0, by decide⟩

/-- The weight as every point uses it. -/
def WB (c : Dev nD) : S7680x2176.Idx → Elt F .bf16 := wexp (wM.view.read (Elt F) (V m c main_arg2)) (iblk m c 2 pt0)

/-- The activations as point `t` uses them. -/
def XB (c : Dev nD) (t : Fin cfg0.N) : S1024x2176.Idx → Elt F .bf16 := xbVal (iblk m c 0 t) (iblk m c 1 t)

/-- Between points: the scratch buffers (after the first point the expanded weight in place), the generator register,
    the two semaphores at zero and the quantised weight. -/
def PhiAt (c : Dev nD) (t : ℕ) : sProp 𝕄 :=
  iprop((∃ f, ⌜0 < t → wbM.view.read (Elt F) f = WB m c⌝ ∗ wbP c f)
    ∗ ((∃ f, slotP c 0 f) ∗ ∃ f, slotP c 1 f)
    ∗ (∃ f, xbM.view.loc (c : Thread nD τ) ↦[xbM.view.set]{fullShare} f)
    ∗ (∃ r, prngReg c r) ∗ (cellP c 0 ∗ cellP c 1) ∗ bigSep Finset.univ (homeP c (V m c main_arg2)))

/-- What each window holds after each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => o5Val (XB m c t) (WB m c)
    | ⟨4, _⟩ => o6Val (XB m c t) (WB m c)
  Φ t := PhiAt m c t.val
  q _ := fullShare
  owed _ := 0

/-- A window's array starts as the grid finds it. -/
theorem A_eq (c : Dev nD) (w : Fin cfg0.W) : (dats m 0 c).A w = V m c (Pipeline.arrRef spec0 w) := by
  dsimp only [dats]
/-- After a point the window of the activations holds the point's block; -/
theorem after0 (c : Dev nD) (t : Fin cfg0.N) : (dats m 0 c).after 0 t = iblk m c 0 t := by dsimp only [dats]
/-- that of their scales too; -/
theorem after1 (c : Dev nD) (t : Fin cfg0.N) : (dats m 0 c).after 1 t = iblk m c 1 t := by dsimp only [dats]
/-- and that of the scales of the weight; -/
theorem after2 (c : Dev nD) (t : Fin cfg0.N) : (dats m 0 c).after 2 t = iblk m c 2 t := by dsimp only [dats]
/-- the window of the codes holds the codes of the point, -/
theorem after3 (c : Dev nD) (t : Fin cfg0.N) : (dats m 0 c).after 3 t = o5Val (XB m c t) (WB m c) := by dsimp only [dats]
/-- and that of the scales its scales. -/
theorem after4 (c : Dev nD) (t : Fin cfg0.N) : (dats m 0 c).after 4 t = o6Val (XB m c t) (WB m c) := by dsimp only [dats]

/-- Every input window's buffer holds the point's block when the body starts. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- The same of the scales of the activations, -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- and of those of the weight. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body at a point -/

/-- A point's coordinate is its number. -/
theorem coords_zero : ∀ t : Fin grid0.N, (grid0.coords t 0).val = t.val := by decide +kernel

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at the first point leaves what it should. -/
theorem body_first (c : Dev nD) (t : Fin cfg0.N) (ht : t.val = 0) :
    bodyPre m c t ⊢ wp frame (wpE (defs₀ (F := F)) 𝒱₀ c none) Set.univ (bodyAt0 t) (fun _ => bodyPost m c t) := by
  have h1 : k0_cond1 (grid0.coords t) = 1#1 := (cond1_iff _).2 ((coords_zero t).trans ht)
  have et : t = pt0 := Fin.ext ht
  unfold bodyPre bodyPost bodyAt0
  rw [after0, after1, after2, after3, after4]
  simp only [before0, before1, before2]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  unfold PhiAt owns
  iintro ⟨⟨⟨%fw, -, Hw⟩, ⟨Hs0, Hs1⟩, Hx, Hr, ⟨Hc0, Hc1⟩, Hh⟩, ⟨%W, -, HW⟩, ⟨%d1, %g1, %hg1, H1⟩, ⟨%d2, %g2, %hg2, H2⟩, ⟨%d4, %g4, %hg4, H4⟩,
    ⟨%d5, %f5, -, H5⟩, ⟨%d6, %f6, -, H6⟩⟩
  iapply (wp_wand_r frame (wpE (defs₀ (F := F)) 𝒱₀ (c : Thread nD τ) none) Set.univ)
  isplitl [Hw Hs0 Hs1 Hx Hc0 Hc1 Hh HW H1 H2 H4 H5 H6]
  · iapply (bodyFirst c (grid0.coords t) (st0_0 t) _ (st0_1 t) _ (st0_2 t) _ (st0_3 t) _ (st0_4 t) _ g1 g2 g4 (V m c main_arg2) h1)
    isplitl [Hw Hs0 Hs1 Hc0 Hc1 Hh HW H4]
    · isplitl [Hw]; · iexists fw; iexact Hw
      isplitl [H4]; · iexact H4
      isplitl [HW]; · iexists W; iexact HW
      isplitl [Hh]; · iexact Hh
      isplitl [Hs0]; · iexact Hs0
      isplitl [Hs1]; · iexact Hs1
      isplitl [Hc0]; · iexact Hc0
      iexact Hc1
    isplitl [H1]; · iexact H1
    isplitl [H2]; · iexact H2
    isplitl [Hx]; · iexact Hx
    isplitl [H5]; · iexists f5; iexact H5
    iexists f6; iexact H6
  iintro %_ ⟨%fw', %hw, ⟨H1, H2, Hw, Hx, ⟨%f5', %h5, H5⟩, ⟨%f6', %h6, H6⟩⟩, H4, ⟨%W', HW⟩, Hh, Hs0, Hs1, Hc0, Hc1⟩
  have ew : wbM.view.read (Elt F) fw' = WB m c := by rw [hw, wbVal_eq, hg4, et]; rfl
  rw [hg1, hg2, ew] at h5 h6
  isplitl [Hw Hs0 Hs1 Hx Hr Hc0 Hc1 Hh]
  · isplitl [Hw]
    · iexists fw'; isplitr
      · ipureintro; exact fun _ => ew
      · iexact Hw
    isplitl [Hs0 Hs1]
    · isplitl [Hs0]; · iexact Hs0
      iexact Hs1
    isplitl [Hx]; · iexact Hx
    isplitl [Hr]; · iexact Hr
    isplitl [Hc0 Hc1]
    · isplitl [Hc0]; · iexact Hc0
      iexact Hc1
    iexact Hh
  isplitl [HW]
  · iexists W'; isplitr; · ipureintro; exact fun _ _ => Or.inl trivial
    iexact HW
  isplitl [H1]
  · iexists g1; isplitr; · ipureintro; exact hg1
    iexact H1
  isplitl [H2]
  · iexists g2; isplitr; · ipureintro; exact hg2
    iexact H2
  isplitl [H4]
  · iexists g4; isplitr; · ipureintro; exact hg4
    iexact H4
  isplitl [H5]
  · iexists f5'; isplitr; · ipureintro; exact h5
    iexact H5
  · iexists f6'; isplitr; · ipureintro; exact h6
    iexact H6

/-- The body at a later point leaves what it should. -/
theorem body_later (c : Dev nD) (t : Fin cfg0.N) (ht : 0 < t.val) :
    bodyPre m c t ⊢ wp frame (wpE (defs₀ (F := F)) 𝒱₀ c none) Set.univ (bodyAt0 t) (fun _ => bodyPost m c t) := by
  have h1 : ¬ k0_cond1 (grid0.coords t) = 1#1 := fun h => by have := (cond1_iff _).1 h; have := coords_zero t; omega
  unfold bodyPre bodyPost bodyAt0
  rw [after0, after1, after2, after3, after4]
  simp only [before0, before1, before2]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  unfold PhiAt owns
  iintro ⟨⟨⟨%fw, %hw, Hw⟩, Hs, Hx, Hr, Hc, Hh⟩, ⟨%W, -, HW⟩, ⟨%d1, %g1, %hg1, H1⟩, ⟨%d2, %g2, %hg2, H2⟩, ⟨%d4, %g4, %hg4, H4⟩,
    ⟨%d5, %f5, -, H5⟩, ⟨%d6, %f6, -, H6⟩⟩
  have ew := hw ht
  iapply (wp_wand_r frame (wpE (defs₀ (F := F)) 𝒱₀ (c : Thread nD τ) none) Set.univ)
  isplitl [Hw Hx H1 H2 H5 H6]
  · iapply (bodyLater c (grid0.coords t) (st0_0 t) _ (st0_1 t) _ (st0_2 t) _ (st0_3 t) _ (st0_4 t) _ g1 g2 h1 fw)
    isplitl [H1]; · iexact H1
    isplitl [H2]; · iexact H2
    isplitl [Hw]; · iexact Hw
    isplitl [Hx]; · iexact Hx
    isplitl [H5]; · iexists f5; iexact H5
    iexists f6; iexact H6
  iintro %_ ⟨H1, H2, Hw, Hx, ⟨%f5', %h5, H5⟩, ⟨%f6', %h6, H6⟩⟩
  rw [hg1, hg2, ew] at h5 h6
  isplitl [Hw Hs Hx Hr Hc Hh]
  · isplitl [Hw]
    · iexists fw; isplitr
      · ipureintro; exact fun _ => ew
      · iexact Hw
    isplitl [Hs]; · iexact Hs
    isplitl [Hx]; · iexact Hx
    isplitl [Hr]; · iexact Hr
    isplitl [Hc]; · iexact Hc
    iexact Hh
  isplitl [HW]
  · iexists W; isplitr; · ipureintro; exact fun _ _ => Or.inl trivial
    iexact HW
  isplitl [H1]
  · iexists g1; isplitr; · ipureintro; exact hg1
    iexact H1
  isplitl [H2]
  · iexists g2; isplitr; · ipureintro; exact hg2
    iexact H2
  isplitl [H4]
  · iexists g4; isplitr; · ipureintro; exact hg4
    iexact H4
  isplitl [H5]
  · iexists f5'; isplitr; · ipureintro; exact h5
    iexact H5
  · iexists f6'; isplitr; · ipureintro; exact h6
    iexact H6

/-- The pipeline's call of the body. -/
theorem defs₀_row (t : Fin cfg0.N) :
    defs₀ (F := F) .tc cfg0.body (cfg0.bodyArgs t (cfg0.slots t)) = bodyAt0 t := by
  unfold defs₀; rw [Defs.onTc_tc]

/-- The body does at every point what the proof data say. -/
theorem body_obligation (c : Dev nD) : BodyObligation (dats (F := F) m 0 c) (defs₀ (F := F)) 𝒱₀ () Set.univ := fun t => by
  rw [bigSep_W0, bigSep_W0, defs₀_row]
  exact triple_restated (by rcases Nat.eq_zero_or_pos t.val with h | h
                            · exact body_first m c t h
                            · exact body_later m c t h) rfl .rfl fun _ => .rfl

end Cert.Kernel.Hand

end
-- ==== Proof.Kernel.Run.lean ====
/-
  The whole program: the host lines before the grid, the grid, the host line after it. Every run ends with the argument
  arrays as launched, every semaphore at zero, and the result arrays at what the proof data name.
-/
module

public import proofs.«01_k».proof.Proof.Kernel.Obligation

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- The program as one grid between host lines. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the grid does not touch the quantised weight. -/
theorem tail_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.unary_bufs, Finset.mem_insert, Finset.mem_singleton, not_or] <;> and_intros <;> exact StableHlo.devRef_ne_of_ne (by decide)

/-- The operand the kernel moves itself is the quantised weight. -/
theorem moved_eq (c : Dev nD) :
    (bigSep H0 (fun b => ((c.tc : Thread nD τ).loc b) ↦{fullShare} V m c b) : sProp 𝕄)
      = (((c : Thread nD τ).loc main_arg2) ↦{fullShare} V m c main_arg2 : sProp 𝕄) := by
  rw [BI.bigSep_eq_bigSepL_of_eq [main_arg2] (by decide) (by decide)]; rfl

/-- The activation buffer at any contents, held whole, is held through its view, -/
theorem xb_in (c : Dev nD) :
    iprop(∃ f : Buf (Elt F) ((c : Thread nD τ).loc cc0_scratch2), ((c : Thread nD τ).loc cc0_scratch2) ↦{fullShare} f)
      ⊢ (iprop(∃ f, xbM.view.loc (c : Thread nD τ) ↦[xbM.view.set]{fullShare} f) : sProp 𝕄) := by
  iintro ⟨%f, H⟩
  iexists f; iapply (ent_of_eq (xbP_eq c f).symm); iexact H
/-- and back. -/
theorem xb_out (c : Dev nD) :
    iprop(∃ f, xbM.view.loc (c : Thread nD τ) ↦[xbM.view.set]{fullShare} f)
      ⊢ (iprop(∃ f : Buf (Elt F) ((c : Thread nD τ).loc cc0_scratch2), ((c : Thread nD τ).loc cc0_scratch2) ↦{fullShare} f) : sProp 𝕄) := by
  iintro ⟨%f, H⟩
  iexists f; iapply (ent_of_eq (xbP_eq c f)); iexact H

/-- What the launch hands the grid is what the first point starts from, -/
theorem phi_in (c : Dev nD) : Pipeline.ΦD osem0 spec0 H0 (V m) c ⊢ PhiAt m c 0 := by
  rw [Pipeline.ΦD_eq, scopedRest0_eq, ownSems0_eq, moved_eq]
  unfold PhiAt
  rw [← weight_eq]
  iintro ⟨⟨⟨%fw, Hw⟩, Hs, Hx⟩, Hr, Hc, Hh⟩
  ihave Hs' := (land_split c) $$ Hs
  ihave Hx' := (xb_in c) $$ Hx
  ihave Hw' := (ent_of_eq (wbP_eq c fw).symm) $$ Hw
  isplitl [Hw']
  · iexists fw; isplitr
    · ipureintro; exact fun h => absurd h (Nat.lt_irrefl 0)
    · iexact Hw'
  isplitl [Hs']; · iexact Hs'
  isplitl [Hx']; · iexact Hx'
  isplitl [Hr]; · iexact Hr
  isplitl [Hc]; · iexact Hc
  iexact Hh
/-- and what the last point leaves is handed back. -/
theorem phi_out (c : Dev nD) (t : ℕ) : PhiAt m c t ⊢ Pipeline.ΦD osem0 spec0 H0 (V m) c := by
  rw [Pipeline.ΦD_eq, scopedRest0_eq, ownSems0_eq, moved_eq]
  unfold PhiAt
  rw [← weight_eq]
  iintro ⟨⟨%fw, -, Hw⟩, Hs, Hx, Hr, Hc, Hh⟩
  ihave Hs' := (land_join c) $$ Hs
  ihave Hx' := (xb_out c) $$ Hx
  ihave Hw' := (ent_of_eq (wbP_eq c fw)) $$ Hw
  isplitl [Hw' Hs' Hx']
  · isplitl [Hw']; · iexists fw; iexact Hw'
    isplitl [Hs']; · iexact Hs'
    iexact Hx'
  isplitl [Hr]; · iexact Hr
  isplitl [Hc]; · iexact Hc
  iexact Hh

set_option backward.isDefEq.respectTransparency.types false in
/-- Every run from zero counters ends: the arrays at what the proof data name, the counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ 𝒱₀ ownSemFacts0 H0 H0_sub m ρ main
    (hbody := fun c => (body_obligation m c).loose) (hshare := fun c => (dats m 0 c).share_full fun _ => rfl)
    (howed := fun _ _ => rfl) (V₀ := V0 m) (opss := [hostOps1]) (hsub := tail_but) (hfresh := sfx_fresh) (hkeep := sfx_keeps)
    (hmain := main_around m 𝒱₀) (hA := A_eq m)
    (hin := fun c => phi_in m c) (hout := fun c => phi_out m c _) (hQ' := fun _ h => h)

/-- The line after the grid does not write `main_arg1`: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The line after the grid does not write `main_arg2`: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The line after the grid does not write `main_arg3`: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- What a run leaves in the argument arrays. -/
theorem args_of (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c)⟩

/-- Every run ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of m r h.1, h.2⟩) (run_main m ρ)

end Cert.Kernel.Hand

end
-- ==== Proof.Values.Exponent.lean ====
/-
  The power of two of a quantised group, on one extended real: the search over the bits of a float's exponent field finds
  the floor of the base-two logarithm.
-/
module

public import Idealize.ShloMosaic.Lib.Pointwise
public import Idealize.ShloMosaic.Lib.ValueIdx
public import Idealize.ShloMosaic.PureOps.Ideal.Laws

@[expose] public section

set_option maxRecDepth 8192
set_option maxHeartbeats 4000000

noncomputable section

namespace Cert.Values

open Idealize.ShloMosaic

/-! ## The bits of a power of two -/

/-- The word whose exponent field is `M` and whose other bits are zero. -/
def word (M : BitVec 8) : BitVec 32 := M.setWidth 32 <<< 23

/-- What a word with only an exponent field denotes. -/
def fval (M : BitVec 8) : EReal := Ideal.ofBits .f32 (word M)

/-- Setting bits of a field sets them in its word. -/
theorem word_or (a b : BitVec 8) : word (a ||| b) = word a ||| word b := by
  unfold word; rw [BitVec.setWidth_or, BitVec.shiftLeft_or_distrib]

/-- A word has no sign, its field and no fraction. -/
theorem word_fields (M : BitVec 8) : (word M).extractLsb' 31 1 = 0#1 ∧ (word M).extractLsb' 23 8 = M ∧ (word M).extractLsb' 0 23 = 0#23 := by
  revert M; decide +kernel

/-- Adding one to the field's lowest bit gives the next field. -/
theorem word_succ (M : BitVec 8) (h : M ≠ 255#8) : word M + 8388608#32 = word (M + 1#8) := by
  revert M; decide +kernel

/-- Taking a word from that of field 253 takes the field from 253. -/
theorem word_neg (M : BitVec 8) (h : M.toNat ≤ 253) : 2122317824#32 - word M = word (253#8 - M) := by
  revert M; decide +kernel

/-- Only the zero field has the zero word, -/
theorem word_eq_zero (M : BitVec 8) : word M = 0#32 ↔ M = 0#8 := by
  revert M; decide +kernel

/-- and only the field of all ones the word of infinity. -/
theorem word_eq_top (M : BitVec 8) : word M = 2139095040#32 ↔ M = 255#8 := by
  revert M; decide +kernel

/-- A normal exponent field denotes its power of two. -/
theorem fval_normal (M : BitVec 8) (h0 : M ≠ 0#8) (h1 : M ≠ 255#8) : fval M = (((2 : ℝ) ^ ((M.toNat : ℤ) - 127) : ℝ) : EReal) := by
  obtain ⟨hs, he, hf⟩ := word_fields M
  have n0 : M.toNat ≠ 0 := fun h => h0 (BitVec.eq_of_toNat_eq h)
  have n1 : M.toNat ≠ 255 := fun h => h1 (BitVec.eq_of_toNat_eq h)
  unfold fval
  show Ideal.ieee 8 23 (word M) = _
  unfold Ideal.ieee
  simp only [hs, he, hf]
  rw [if_neg (by simpa using n1), if_neg n0]
  congr 1
  have e : (2 : ℝ) ^ ((M.toNat : ℤ) - 127) = 2 ^ (23 : ℤ) * 2 ^ ((M.toNat : ℤ) - 127 - 23) := by
    rw [← zpow_add₀ (by norm_num)]; congr 1; ring
  rw [e]
  norm_num

/-- The field of all ones denotes infinity. -/
theorem fval_top : fval 255#8 = ⊤ := by
  obtain ⟨hs, he, hf⟩ := word_fields 255#8
  unfold fval
  show Ideal.ieee 8 23 (word 255#8) = _
  unfold Ideal.ieee
  simp only [hs, he, hf]
  simp

/-- The word of one. -/
theorem ofBits_one : Ideal.ofBits .f32 1065353216#32 = 1 := by
  simp [Ideal.ofBits, Ideal.ieee, -EReal.coe_mul]; norm_num

/-- The word of minus infinity. -/
theorem lowest : Ideal.ofBits .f32 4286578688#32 = ⊥ := by
  simp [Ideal.ofBits, Ideal.ieee]

/-! ## The search -/

/-- One step of the search for an exponent field. -/
def step (m : BitVec 32) (x : EReal) (f : BitVec 32) : BitVec 32 :=
  Scalar.select (Ideal.cmp .oge x (Ideal.ofBits .f32 (f ||| m))) (f ||| m) f

/-- The whole search. -/
def search (x : EReal) : BitVec 32 :=
  step 8388608#32 x (step 16777216#32 x (step 33554432#32 x (step 67108864#32 x (step 134217728#32 x (step 268435456#32 x
    (step 536870912#32 x (step 1073741824#32 x 0#32)))))))

/-- The same step on the field alone, once the field sought is known. -/
def step8 (E m f : BitVec 8) : BitVec 8 := if (f ||| m).toNat ≤ E.toNat then f ||| m else f

/-- A step on words is the step on fields. -/
theorem step_word {x : EReal} {E : BitVec 8} (h : ∀ M : BitVec 8, M ≠ 0#8 → (fval M ≤ x ↔ M.toNat ≤ E.toNat)) (m f : BitVec 8) (hm : m ≠ 0#8) :
    step (word m) x (word f) = word (step8 E m f) := by
  have hn : f ||| m ≠ 0#8 := fun hh => hm (by simpa using (BitVec.or_eq_zero_iff.mp hh).2)
  unfold step step8
  rw [← word_or]
  have hc := h _ hn
  show Scalar.select (BitVec.ofBool (decide (fval (f ||| m) ≤ x))) _ _ = _
  by_cases hq : (f ||| m).toNat ≤ E.toNat
  · rw [decide_eq_true (hc.mpr hq), if_pos hq]; rfl
  · rw [decide_eq_false (fun h' => hq (hc.mp h')), if_neg hq]; rfl

/-- Eight steps find any field. -/
theorem search8 (E : BitVec 8) :
    step8 E 1#8 (step8 E 2#8 (step8 E 4#8 (step8 E 8#8 (step8 E 16#8 (step8 E 32#8 (step8 E 64#8 (step8 E 128#8 0#8))))))) = E := by
  revert E; decide +kernel

/-- The search finds the largest field whose power of two does not exceed the number. -/
theorem search_eq {x : EReal} {E : BitVec 8} (h : ∀ M : BitVec 8, M ≠ 0#8 → (fval M ≤ x ↔ M.toNat ≤ E.toNat)) : search x = word E := by
  have hz : (0#32 : BitVec 32) = word 0#8 := by decide
  have e0 : (8388608#32 : BitVec 32) = word 1#8 := by decide
  have e1 : (16777216#32 : BitVec 32) = word 2#8 := by decide
  have e2 : (33554432#32 : BitVec 32) = word 4#8 := by decide
  have e3 : (67108864#32 : BitVec 32) = word 8#8 := by decide
  have e4 : (134217728#32 : BitVec 32) = word 16#8 := by decide
  have e5 : (268435456#32 : BitVec 32) = word 32#8 := by decide
  have e6 : (536870912#32 : BitVec 32) = word 64#8 := by decide
  have e7 : (1073741824#32 : BitVec 32) = word 128#8 := by decide
  unfold search
  rw [hz, e0, e1, e2, e3, e4, e5, e6, e7, step_word h _ _ (by decide), step_word h _ _ (by decide), step_word h _ _ (by decide),
    step_word h _ _ (by decide), step_word h _ _ (by decide), step_word h _ _ (by decide), step_word h _ _ (by decide),
    step_word h _ _ (by decide), search8]

/-! ## Scale and reciprocal, found by the search and by the logarithm -/

/-- A group's amax over 448. -/
def over448 (a : EReal) : EReal := a * Ideal.ofBits .f32 0x3B124925#32

/-- The exponent field of `a / 448`; the field of all ones above the largest float. -/
def field (a : EReal) : BitVec 32 := Scalar.select (Ideal.cmp .ole a (Ideal.ofBits .f32 0x7F7FFFFF#32)) (search (over448 a)) 2139095040#32

/-- Whether the field stands for no normal number. -/
def special (a : EReal) : BitVec 1 := IntOp.cmpi .eq (field a) 0#32 ||| IntOp.cmpi .eq (field a) 2139095040#32

/-- The scale as the search gives it. -/
def scale (a : EReal) : EReal := Ideal.ofBits .f32 (Scalar.select (special a) 1065353216#32 (field a + 8388608#32))
/-- The reciprocal of the scale as the search gives it. -/
def inv (a : EReal) : EReal := Ideal.ofBits .f32 (Scalar.select (special a) 1065353216#32 (2122317824#32 - field a))

/-- The exponent as the logarithm gives it: zero for a group whose `a / 448` is below the smallest normal float or whose `a` is above the largest. -/
def expo (a : EReal) : EReal :=
  Scalar.select (Ideal.cmp .oge (over448 a) (Ideal.ofBits .f32 0x00800000#32) &&& Ideal.cmp .ole a (Ideal.ofBits .f32 0x7F7FFFFF#32))
    (Ideal.liftRound Int.floor (Ideal.div (Ideal.log (over448 a)) (Ideal.log (Ideal.ofBits .f32 0x40000000#32))) + Ideal.ofBits .f32 0x3F800000#32)
    (Ideal.ofBits .f32 0x00000000#32)

/-- The smallest normal float. -/
theorem smallest : Ideal.ofBits .f32 0x00800000#32 = (((2 : ℝ) ^ (-126 : ℤ) : ℝ) : EReal) := by
  have h : (0x00800000#32 : BitVec 32) = word 1#8 := by decide
  rw [h]
  exact (fval_normal 1#8 (by decide) (by decide)).trans (by norm_num)

/-- The word of two. -/
theorem two_eq : Ideal.ofBits .f32 0x40000000#32 = ((2 : ℝ) : EReal) := by
  simp [Ideal.ofBits, Ideal.ieee, -EReal.coe_mul]; norm_num

/-- The largest float. -/
theorem largest_eq : Ideal.ofBits .f32 0x7F7FFFFF#32 = (((16777215 : ℝ) * 2 ^ (104 : ℤ) : ℝ) : EReal) := by
  simp [Ideal.ofBits, Ideal.ieee, -EReal.coe_mul]

/-- The float nearest to 1/448. -/
theorem c448_eq : Ideal.ofBits .f32 0x3B124925#32 = (((9586981 : ℝ) * 2 ^ (-32 : ℤ) : ℝ) : EReal) := by
  simp [Ideal.ofBits, Ideal.ieee, -EReal.coe_mul]

/-- Below the smallest normal float the search finds the zero field. -/
theorem search_small {x : EReal} (h : ¬ Ideal.ofBits .f32 0x00800000#32 ≤ x) : search x = 0#32 := by
  have hz : (0#32 : BitVec 32) = word 0#8 := by decide
  rw [hz]
  refine search_eq fun M hM => ⟨fun hle => absurd ?_ h, fun hle => absurd (BitVec.eq_of_toNat_eq (Nat.le_zero.mp hle)) hM⟩
  refine le_trans ?_ hle
  rw [smallest]
  by_cases h1 : M = 255#8
  · rw [h1, fval_top]; exact le_top
  · rw [fval_normal M hM h1]
    have n0 : M.toNat ≠ 0 := fun h => hM (BitVec.eq_of_toNat_eq h)
    exact EReal.coe_le_coe_iff.mpr (zpow_le_zpow_right₀ (by norm_num) (by omega))

/-- Between two powers of two the search finds the field of the lower one. -/
theorem search_normal {r : ℝ} {n : ℤ} (hn : -126 ≤ n) (hn' : n ≤ 126) (h : (2 : ℝ) ^ n ≤ r) (h' : r < (2 : ℝ) ^ (n + 1)) :
    search (r : EReal) = word (BitVec.ofNat 8 (n + 127).toNat) := by
  have eE : (BitVec.ofNat 8 (n + 127).toNat).toNat = (n + 127).toNat := by
    rw [BitVec.toNat_ofNat]; exact Nat.mod_eq_of_lt (by omega)
  refine search_eq fun M hM => ?_
  rw [eE]
  by_cases h1 : M = 255#8
  · subst h1
    rw [fval_top]
    refine ⟨fun hle => absurd (top_le_iff.mp hle) (EReal.coe_ne_top r), fun hle => absurd hle ?_⟩
    show ¬ 255 ≤ (n + 127).toNat
    omega
  · rw [fval_normal M hM h1, EReal.coe_le_coe_iff]
    refine ⟨fun hle => ?_, fun hle => ?_⟩
    · have hlt : (2 : ℝ) ^ ((M.toNat : ℤ) - 127) < 2 ^ (n + 1) := lt_of_le_of_lt hle h'
      have := (zpow_lt_zpow_iff_right₀ (by norm_num : (1 : ℝ) < 2)).mp hlt
      omega
    · exact le_trans (zpow_le_zpow_right₀ (by norm_num) (by omega)) h

/-- The search and the logarithm give the same scale, and the same reciprocal. -/
theorem scale_inv_eq (a : EReal) : scale a = Ideal.exp2 (expo a) ∧ inv a = Ideal.exp2 (Ideal.ofBits .f32 0x00000000#32 - expo a) := by
  have hz : Ideal.ofBits .f32 0x00000000#32 = 0 := Ideal.ofBits_zero_f32
  have e2 : Ideal.exp2 0 = 1 := by
    show ((Real.rpow 2 0 : ℝ) : EReal) = 1
    rw [show Real.rpow 2 0 = 1 from Real.rpow_zero 2]; rfl
  have he : Ideal.exp2 (0 - 0) = 1 := by rw [sub_zero, e2]
  have flat : field a = 0#32 ∨ field a = 2139095040#32 → scale a = 1 ∧ inv a = 1 := by
    intro h
    have hs : special a = 1#1 := by
      unfold special
      rcases h with h | h <;> rw [h] <;> decide
    unfold scale inv
    rw [hs]
    exact ⟨ofBits_one, ofBits_one⟩
  by_cases hF : a ≤ Ideal.ofBits .f32 0x7F7FFFFF#32
  · have cF : Ideal.cmp .ole a (Ideal.ofBits .f32 0x7F7FFFFF#32) = 1#1 := by
      show BitVec.ofBool (decide _) = 1#1
      rw [decide_eq_true hF]; rfl
    have fF : field a = search (over448 a) := by unfold field; rw [cF]; rfl
    by_cases hS : Ideal.ofBits .f32 0x00800000#32 ≤ over448 a
    · have cS : Ideal.cmp .oge (over448 a) (Ideal.ofBits .f32 0x00800000#32) = 1#1 := by
        show BitVec.ofBool (decide _) = 1#1
        rw [decide_eq_true hS]; rfl
      obtain ⟨s, rfl⟩ : ∃ s : ℝ, a = (s : EReal) := by
        induction a using EReal.rec with
        | bot =>
          exfalso
          rw [smallest, over448, c448_eq, EReal.bot_mul_coe_of_pos (by positivity)] at hS
          exact absurd (le_bot_iff.mp hS) (EReal.coe_ne_bot _)
        | top =>
          exfalso
          rw [largest_eq] at hF
          exact absurd (top_le_iff.mp hF) (EReal.coe_ne_top _)
        | coe s => exact ⟨s, rfl⟩
      have ho : over448 (s : EReal) = ((s * (9586981 * 2 ^ (-32 : ℤ)) : ℝ) : EReal) := by
        unfold over448; rw [c448_eq, ← EReal.coe_mul]
      rw [largest_eq, EReal.coe_le_coe_iff] at hF
      rw [smallest, ho, EReal.coe_le_coe_iff] at hS
      have hr : s * (9586981 * 2 ^ (-32 : ℤ)) < (2 : ℝ) ^ (120 : ℤ) := by
        refine lt_of_le_of_lt (mul_le_mul_of_nonneg_right hF (by positivity)) ?_
        norm_num
      generalize s * (9586981 * 2 ^ (-32 : ℤ)) = r at hS hr ho
      have r0 : 0 < r := lt_of_lt_of_le (by positivity) hS
      have p2 : (0 : ℝ) < Real.log 2 := Real.log_pos (by norm_num)
      have l1 : (2 : ℝ) ^ ⌊Real.log r / Real.log 2⌋ ≤ r := by
        rw [← Real.log_le_log_iff (by positivity) r0, Real.log_zpow]
        exact (le_div_iff₀ p2).mp (Int.floor_le _)
      have l2 : r < (2 : ℝ) ^ (⌊Real.log r / Real.log 2⌋ + 1) := by
        rw [← Real.log_lt_log_iff r0 (by positivity), Real.log_zpow]
        refine (div_lt_iff₀ p2).mp ?_
        push_cast
        exact Int.lt_floor_add_one _
      generalize fl : ⌊Real.log r / Real.log 2⌋ = n at l1 l2
      have n1 : -126 ≤ n := by
        have := (zpow_lt_zpow_iff_right₀ (by norm_num : (1 : ℝ) < 2)).mp (lt_of_le_of_lt hS l2)
        omega
      have n2 : n < 120 := (zpow_lt_zpow_iff_right₀ (by norm_num : (1 : ℝ) < 2)).mp (lt_of_le_of_lt l1 hr)
      have hf : field (s : EReal) = word (BitVec.ofNat 8 (n + 127).toNat) := by
        rw [fF, ho]; exact search_normal n1 (by omega) l1 l2
      have eE : (BitVec.ofNat 8 (n + 127).toNat).toNat = (n + 127).toNat := by
        rw [BitVec.toNat_ofNat]; exact Nat.mod_eq_of_lt (by omega)
      generalize BitVec.ofNat 8 (n + 127).toNat = E at hf eE
      have hE0 : E ≠ 0#8 := by rintro rfl; change 0 = _ at eE; omega
      have hE1 : E ≠ 255#8 := by rintro rfl; change 255 = _ at eE; omega
      have hs : special (s : EReal) = 0#1 := by
        have h0 : ¬ word E = 0#32 := fun h => hE0 ((word_eq_zero E).mp h)
        have h1 : ¬ word E = 2139095040#32 := fun h => hE1 ((word_eq_top E).mp h)
        unfold special
        rw [hf]
        show BitVec.ofBool (word E == 0#32) ||| BitVec.ofBool (word E == 2139095040#32) = 0#1
        rw [beq_eq_false_iff_ne.mpr h0, beq_eq_false_iff_ne.mpr h1]
        rfl
      have hx : expo (s : EReal) = ((n + 1 : ℤ) : ℝ) := by
        unfold expo
        rw [cF, ho]
        rw [ho] at cS
        rw [cS]
        show Ideal.liftRound Int.floor (Ideal.div (Ideal.log (r : EReal)) (Ideal.log (Ideal.ofBits .f32 0x40000000#32))) + Ideal.ofBits .f32 1065353216#32 = _
        have q1 : Ideal.log (r : EReal) = (Real.log r : EReal) := by
          show (if r ≤ 0 then ⊥ else (Real.log r : EReal)) = _
          rw [if_neg (not_le.mpr r0)]
        have q2 : Ideal.log ((2 : ℝ) : EReal) = (Real.log 2 : EReal) := by
          show (if (2 : ℝ) ≤ 0 then ⊥ else (Real.log 2 : EReal)) = _
          rw [if_neg (by norm_num)]
        have q3 : (Real.log 2 : EReal) ≠ 0 := by
          have : Real.log 2 ≠ 0 := (Real.log_pos (by norm_num)).ne'
          exact_mod_cast this
        rw [ofBits_one, two_eq, q1, q2, Ideal.div, if_neg q3, ← EReal.coe_inv, ← EReal.coe_mul, ← div_eq_mul_inv]
        show (((⌊Real.log r / Real.log 2⌋ : ℤ) : ℝ) : EReal) + 1 = _
        rw [fl]
        push_cast
        rfl
      have hp : ∀ k : ℤ, Ideal.exp2 (((k : ℤ) : ℝ) : EReal) = (((2 : ℝ) ^ k : ℝ) : EReal) := fun k => by
        show ((Real.rpow 2 (k : ℝ) : ℝ) : EReal) = _
        rw [show Real.rpow 2 (k : ℝ) = (2 : ℝ) ^ k from Real.rpow_intCast 2 k]
      have hv : ∀ M : BitVec 8, M ≠ 0#8 → M ≠ 255#8 → Ideal.ofBits .f32 (word M) = (((2 : ℝ) ^ ((M.toNat : ℤ) - 127) : ℝ) : EReal) := fval_normal
      constructor
      · have t : (E + 1#8).toNat = (n + 128).toNat := by
          rw [BitVec.toNat_add, eE]; show ((n + 127).toNat + 1) % 256 = _; omega
        unfold scale
        rw [hs, hf, hx, hp, word_succ E hE1]
        show Ideal.ofBits .f32 (word (E + 1#8)) = _
        rw [hv _ (by intro h; rw [h] at t; change 0 = _ at t; omega) (by intro h; rw [h] at t; change 255 = _ at t; omega), t]
        congr 2
        omega
      · have t : (253#8 - E).toNat = (126 - n).toNat := by
          rw [BitVec.toNat_sub, eE]; show (256 - (n + 127).toNat + 253) % 256 = _; omega
        unfold inv
        rw [hs, hf, hx, hz, word_neg E (by omega), zero_sub, ← EReal.coe_neg, ← Int.cast_neg, hp]
        show Ideal.ofBits .f32 (word (253#8 - E)) = _
        rw [hv _ (by intro h; rw [h] at t; change 0 = _ at t; omega) (by intro h; rw [h] at t; change 255 = _ at t; omega), t]
        congr 2
        omega
    · have hx : expo a = 0 := by
        unfold expo
        have cS : Ideal.cmp .oge (over448 a) (Ideal.ofBits .f32 0x00800000#32) = 0#1 := by
          show BitVec.ofBool (decide _) = 0#1
          rw [decide_eq_false hS]; rfl
        rw [cS, cF, hz]; rfl
      rw [hx, hz, he, e2]
      exact flat (.inl (by rw [fF]; exact search_small hS))
  · have cF : Ideal.cmp .ole a (Ideal.ofBits .f32 0x7F7FFFFF#32) = 0#1 := by
      show BitVec.ofBool (decide _) = 0#1
      rw [decide_eq_false hF]; rfl
    have hx : expo a = 0 := by
      unfold expo
      rw [cF, hz, BitVec.and_zero]; rfl
    rw [hx, hz, he, e2]
    exact flat (.inr (by unfold field; rw [cF]; rfl))

end Cert.Values

end
-- ==== Proof.Values.Spec.lean ====
/-
  The mathematics of the problem, element by element: the dequantised product, the gate, a group's largest magnitude, its
  power of two, the codes and the scales.
-/
module

public import proofs.«01_k».proof.Proof.Values.Exponent

@[expose] public section

set_option maxRecDepth 8192
set_option maxHeartbeats 4000000

noncomputable section

namespace Cert.Values

open Idealize.ShloMosaic

/-- The gate times its logistic, times the other half. -/
def swiglu (g u : EReal) : EReal := g * Ideal.logistic g * u

/-- The largest magnitude of 128 numbers. -/
def largest (h : Fin 128 → EReal) : EReal := Finset.univ.fold max ⊥ fun j => max (h j) (-h j)

/-- A number's code: times the reciprocal of the scale, clipped to ±448. -/
def code (a h : EReal) : EReal :=
  min (Ideal.ofBits .f32 0x43E00000#32) (max (Ideal.ofBits .f32 0xC3E00000#32) (h * Ideal.exp2 (Ideal.ofBits .f32 0x00000000#32 - expo a)))

variable (x : Fin 8 → Fin 4096 → Fin 2176 → EReal) (xs : Fin 8 → Fin 4096 → Fin 17 → EReal) (w : Fin 7680 → Fin 2176 → EReal) (ws : Fin 60 → Fin 17 → EReal)

/-- The product of the dequantised activations and weights. -/
def product (b : Fin 8) (s : Fin 4096) (f : Fin 7680) : EReal :=
  ∑ d : Fin 2176, (x b s d * xs b s ⟨d.val / 128, by omega⟩) * (w f d * ws ⟨f.val / 128, by omega⟩ ⟨d.val / 128, by omega⟩)

/-- The gated product. -/
def gated (b : Fin 8) (s : Fin 4096) (f : Fin 3840) : EReal :=
  swiglu (product x xs w ws b s ⟨f.val, by omega⟩) (product x xs w ws b s ⟨3840 + f.val, by omega⟩)

/-- A group's largest magnitude. -/
def groupMax (b : Fin 8) (s : Fin 4096) (g : Fin 30) : EReal := largest fun j => gated x xs w ws b s ⟨128 * g.val + j.val, by omega⟩

/-- The codes. -/
def codes (b : Fin 8) (s : Fin 4096) (f : Fin 3840) : EReal := code (groupMax x xs w ws b s ⟨f.val / 128, by omega⟩) (gated x xs w ws b s f)

/-- The scales. -/
def scales (b : Fin 8) (s : Fin 4096) (g : Fin 30) : EReal := Ideal.exp2 (expo (groupMax x xs w ws b s g))

end Cert.Values

end
-- ==== Proof.Values.Kernel.lean ====
/-
  What the kernel's tiles hold over the extended reals, element by element: the expanded activations and weights, the gated
  product, and the codes and scales of a block.
-/
module

public import proofs.«01_k».proof.Proof.Values.Spec
public import proofs.«01_k».proof.Proof.KernelIdeal.Run

@[expose] public section

set_option maxRecDepth 16384
set_option maxHeartbeats 4000000

noncomputable section

namespace Cert.KernelIdeal.Hand

open Cert.KernelIdeal Cert.KernelIdeal.Gen Cert.Values
open Idealize.ShloMosaic

/-- The diagonal mask. -/
theorem diag_mask (i k : Fin 128) (s : EReal) :
    Scalar.select (IntOp.cmpi .eq (BitVec.ofNat 32 i.val) (BitVec.ofNat 32 k.val)) s 0 = if i = k then s else 0 := by
  have h : (BitVec.ofNat 32 i.val = BitVec.ofNat 32 k.val) ↔ i = k := by
    constructor
    · intro h
      have := congrArg BitVec.toNat h
      simp only [BitVec.toNat_ofNat] at this
      exact Fin.ext (by omega)
    · rintro rfl; rfl
  by_cases hk : i = k
  · rw [if_pos hk]
    show (if BitVec.ofBool (BitVec.ofNat 32 i.val == BitVec.ofNat 32 k.val) = 1#1 then s else 0) = s
    rw [beq_iff_eq.mpr (h.mpr hk)]
    rfl
  · rw [if_neg hk]
    show (if BitVec.ofBool (BitVec.ofNat 32 i.val == BitVec.ofNat 32 k.val) = 1#1 then s else 0) = 0
    rw [beq_eq_false_iff_ne.mpr fun hh => hk (h.mp hh)]
    rfl

/-- An expanded block: each row times its scale. -/
theorem xpay_apply (s : Vec Ideal S1x1x128 .f32) (blk : Vec Ideal S1x128x128 .fp8e4m3) (i j : Fin 128) :
    xpay s blk (ix2 i j) = blk (ix3 (0 : Fin 1) i j) * s (ix3 (0 : Fin 1) (0 : Fin 1) i) := by
  pointwise [xpay, k0_pay113]
  simp only [diag_mask, Finset.sum_ite_eq, Finset.mem_univ, if_true]

/-- The gated product of a tile. -/
theorem hOf_apply (x : Vec Ideal S512x2176 .bf16) (g u : Vec Ideal S256x2176 .bf16) (i : Fin 512) (j : Fin 256) :
    hOf x g u (ix2 i j) = swiglu (∑ k : Fin 2176, x (ix2 i k) * g (ix2 j k)) (∑ k : Fin 2176, x (ix2 i k) * u (ix2 j k)) := by
  pointwise [hOf, k0_pay126]
  simp [swiglu, Ideal.logistic]

/-- A row's largest magnitude. -/
theorem amaxOf_apply (hb : FVec Ideal S128x128 .f32) (r : Fin 128) :
    amaxOf hb (ix2 r (0 : Fin 1)) = largest fun j => hb (ix2 r j) := by
  pointwise [amaxOf]
  simp only [lowest]
  unfold largest
  simp only [Ideal.absf_def]

/-- A step of the search, at a row. -/
theorem stepF_apply (m : BitVec 32) (x : FVec Ideal S128x1 .f32) (f : IVec S128x1 32) (i : S128x1.Idx) : stepF m x f i = step m (x i) (f i) := by
  pointwise [stepF]
  unfold step
  show _ = Scalar.select (BitVec.ofBool (decide (Ideal.ofBits .f32 (f i ||| m) ≤ x i))) (f i ||| m) (f i)
  by_cases h : Ideal.ofBits .f32 (f i ||| m) ≤ x i
  · rw [decide_eq_true h]
    exact if_pos h
  · rw [decide_eq_false h]
    exact if_neg h

/-- A row's exponent field. -/
theorem fieldOf_apply (hb : FVec Ideal S128x128 .f32) (r : Fin 128) :
    fieldOf hb (ix2 r (0 : Fin 1)) = field (largest fun j => hb (ix2 r j)) := by
  rw [← amaxOf_apply]
  unfold fieldOf field search over448
  generalize amaxOf hb = a
  pointwise []
  simp only [stepF_apply]
  pointwise []

/-- A row's scale. -/
theorem scaleOf_apply (hb : FVec Ideal S128x128 .f32) (r : Fin 128) :
    scaleOf hb (ix2 r (0 : Fin 1)) = Ideal.exp2 (expo (largest fun j => hb (ix2 r j))) := by
  have h : scaleOf hb (ix2 r (0 : Fin 1)) = scale (largest fun j => hb (ix2 r j)) := by
    unfold scale special
    rw [← fieldOf_apply]
    unfold scaleOf specialOf
    generalize fieldOf hb = a
    pointwise []
    rfl
  rw [h, (scale_inv_eq _).1]

/-- Its reciprocal. -/
theorem invOf_apply (hb : FVec Ideal S128x128 .f32) (r : Fin 128) :
    invOf hb (ix2 r (0 : Fin 1)) = Ideal.exp2 (Ideal.ofBits .f32 0x00000000#32 - expo (largest fun j => hb (ix2 r j))) := by
  have h : invOf hb (ix2 r (0 : Fin 1)) = Values.inv (largest fun j => hb (ix2 r j)) := by
    unfold Values.inv special
    rw [← fieldOf_apply]
    unfold invOf specialOf
    generalize fieldOf hb = a
    pointwise []
    rfl
  rw [h, (scale_inv_eq _).2]

/-- The clipped product, at an element. -/
theorem pay136_apply (hb : FVec Ideal S128x128 .f32) (v : FVec Ideal S128x1 .f32) (r j : Fin 128) :
    k0_pay136 hb v (ix3 (0 : Fin 1) r j) = min (Ideal.ofBits .f32 0x43E00000#32) (max (Ideal.ofBits .f32 0xC3E00000#32) (hb (ix2 r j) * v (ix2 r (0 : Fin 1)))) := by
  pointwise [k0_pay136]

/-- A column read as a row. -/
theorem pay137_apply (v : FVec Ideal S128x1 .f32) (r : Fin 128) :
    k0_pay137 v (ix3 (0 : Fin 1) (0 : Fin 1) r) = v (ix2 r (0 : Fin 1)) := by
  pointwise [k0_pay137]
  simp only [diag_mask, Finset.sum_ite_eq', Finset.mem_univ, if_true]

/-- A block's codes. -/
theorem codesOf_apply (hb : FVec Ideal S128x128 .f32) (r j : Fin 128) :
    codesOf hb (ix3 (0 : Fin 1) r j) = code (largest fun j => hb (ix2 r j)) (hb (ix2 r j)) := by
  rw [codesOf, pay136_apply, invOf_apply, code]

/-- A block's scales. -/
theorem rowOf_apply (hb : FVec Ideal S128x128 .f32) (r : Fin 128) :
    rowOf hb (ix3 (0 : Fin 1) (0 : Fin 1) r) = Ideal.exp2 (expo (largest fun j => hb (ix2 r j))) := by
  rw [rowOf, pay137_apply, scaleOf_apply]

end Cert.KernelIdeal.Hand

end
-- ==== Proof.Values.Points.lean ====
/-
  What the kernel leaves at each grid point, in terms of the argument arrays: the codes and the scales of the point's rows.
-/
module

public import proofs.«01_k».proof.Proof.Values.Kernel
public import Idealize.ShloMosaic.Lib.StableHlo.Run

@[expose] public section

set_option maxRecDepth 16384
set_option maxHeartbeats 4000000

noncomputable section

namespace Cert.KernelIdeal.Hand

open Cert.KernelIdeal Cert.KernelIdeal.Gen Cert.Values
open Idealize.ShloMosaic Idealize.ShloMosaic.TcCoe

variable (m : (ℓ : Loc nD τ sig) → Buf (Elt Ideal) ℓ)

/-- The activations as a function of batch, row and column, … -/
abbrev ax (c : Dev nD) : Fin 8 → Fin 4096 → Fin 2176 → EReal := fun b s d => (m ((c.tc : Thread nD τ).loc main_arg0) : S8x4096x2176.Idx → EReal) (ix3 b s d)
/-- … their scales, … -/
abbrev axs (c : Dev nD) : Fin 8 → Fin 4096 → Fin 17 → EReal := fun b s d => (m ((c.tc : Thread nD τ).loc main_arg1) : S8x4096x17.Idx → EReal) (ix3 b s d)
/-- … the weights, … -/
abbrev aw (c : Dev nD) : Fin 7680 → Fin 2176 → EReal := fun f d => (m ((c.tc : Thread nD τ).loc main_arg2) : S7680x2176.Idx → EReal) (ix2 f d)
/-- … and theirs. -/
abbrev aws (c : Dev nD) : Fin 60 → Fin 17 → EReal := fun f d => (m ((c.tc : Thread nD τ).loc main_arg3) : S60x17.Idx → EReal) (ix2 f d)

/-! ## The blocks a point reads -/

/-- Where a point's activations are. -/
theorem win0_idx : ∀ t : Fin cfg0.N, win0_0.index t (0 : Fin 3) = 0 ∧ win0_0.index t (1 : Fin 3) = t.val ∧ win0_0.index t (2 : Fin 3) = 0 :=
  (by decide +kernel : ∀ t : Fin grid0.N, _)
/-- Where their scales are. -/
theorem win1_idx : ∀ t : Fin cfg0.N, win0_1.index t (0 : Fin 3) = 0 ∧ win0_1.index t (1 : Fin 3) = 0 ∧ win0_1.index t (2 : Fin 3) = t.val :=
  (by decide +kernel : ∀ t : Fin grid0.N, _)
/-- Where the scales of the weight are. -/
theorem win2_idx : ∀ t : Fin cfg0.N, win0_2.index t (0 : Fin 2) = 0 ∧ win0_2.index t (1 : Fin 2) = 0 :=
  (by decide +kernel : ∀ t : Fin grid0.N, _)

theorem pt_lt (t : Fin cfg0.N) : t.val < 32 := Nat.lt_of_lt_of_eq t.isLt N_0

/-- The scales of the activations reach the grid transposed, -/
theorem V_scales (c : Dev nD) (k : Fin 17) (b : Fin 8) (s : Fin 4096) : (V m c main_v0 : S17x8x4096.Idx → EReal) (ix3 k b s) = axs m c b s k := by
  have e : V m c main_v0 = transpose S17x8x4096 [2, 0, 1] (m ((c.tc : Thread nD τ).loc main_arg1)) transposes_S8x4096x17_S17x8x4096_2_0_1 := by
    show StableHlo.after (List.flatten [hostOps0]) _ _ = _
    simp only [hostOps0, List.flatten_cons, List.flatten_nil, List.append_nil]
    after_results
  rw [e]
  pointwise []
/-- and so do those of the weights. -/
theorem V_wscales (c : Dev nD) (k : Fin 17) (f : Fin 60) : (V m c main_v1 : S17x60.Idx → EReal) (ix2 k f) = aws m c f k := by
  have e : V m c main_v1 = transpose S17x60 [1, 0] (m ((c.tc : Thread nD τ).loc main_arg3)) transposes_S60x17_S17x60_1_0 := by
    show StableHlo.after (List.flatten [hostOps0]) _ _ = _
    simp only [hostOps0, List.flatten_cons, List.flatten_nil, List.append_nil]
    after_results
  rw [e]
  pointwise []

/-- A point's activations: 128 rows of every batch. -/
theorem iblk0_at (c : Dev nD) (t : Fin cfg0.N) (y : S8x128x2176.Idx) (b : Fin 8) (s : Fin 4096) (d : Fin 2176)
    (h0 : (y 0).val = b.val) (h1 : s.val = 128 * t.val + (y 1).val) (h2 : (y 2).val = d.val) :
    (iblk m c 0 t : S8x128x2176.Idx → EReal) y = ax m c b s d := by
  obtain ⟨e0, e1, e2⟩ := win0_idx t
  show (V m c main_arg0 : S8x4096x2176.Idx → EReal) (((cfg0.win 0).blk t).view.emb y) = _
  rw [V_main_arg0]
  refine congrArg (m ((c.tc : Thread nD τ).loc main_arg0) : S8x4096x2176.Idx → EReal) ?_
  funext a; apply Fin.ext
  match a with
  | ⟨0, _⟩ => show win0_0.index t (0 : Fin 3) * 8 + 1 * (y 0).val = b.val; omega
  | ⟨1, _⟩ => show win0_0.index t (1 : Fin 3) * 128 + 1 * (y 1).val = s.val; omega
  | ⟨2, _⟩ => show win0_0.index t (2 : Fin 3) * 2176 + 1 * (y 2).val = d.val; omega

/-- Their scales. -/
theorem iblk1_at (c : Dev nD) (t : Fin cfg0.N) (y : S17x8x128.Idx) (k : Fin 17) (b : Fin 8) (s : Fin 4096)
    (h0 : (y 0).val = k.val) (h1 : (y 1).val = b.val) (h2 : s.val = 128 * t.val + (y 2).val) :
    (iblk m c 1 t : S17x8x128.Idx → EReal) y = axs m c b s k := by
  obtain ⟨e0, e1, e2⟩ := win1_idx t
  rw [← V_scales]
  show (V m c main_v0 : S17x8x4096.Idx → EReal) (((cfg0.win 1).blk t).view.emb y) = _
  refine congrArg (V m c main_v0 : S17x8x4096.Idx → EReal) ?_
  funext a; apply Fin.ext
  match a with
  | ⟨0, _⟩ => show win0_1.index t (0 : Fin 3) * 17 + 1 * (y 0).val = k.val; omega
  | ⟨1, _⟩ => show win0_1.index t (1 : Fin 3) * 8 + 1 * (y 1).val = b.val; omega
  | ⟨2, _⟩ => show win0_1.index t (2 : Fin 3) * 128 + 1 * (y 2).val = s.val; omega

/-- The scales of the weights. -/
theorem iblk2_at (c : Dev nD) (t : Fin cfg0.N) (y : S17x60.Idx) (k : Fin 17) (f : Fin 60) (h0 : (y 0).val = k.val) (h1 : (y 1).val = f.val) :
    (iblk m c 2 t : S17x60.Idx → EReal) y = aws m c f k := by
  obtain ⟨e0, e1⟩ := win2_idx t
  rw [← V_wscales]
  show (V m c main_v1 : S17x60.Idx → EReal) (((cfg0.win 2).blk t).view.emb y) = _
  refine congrArg (V m c main_v1 : S17x60.Idx → EReal) ?_
  funext a; apply Fin.ext
  match a with
  | ⟨0, _⟩ => show win0_2.index t (0 : Fin 2) * 17 + 1 * (y 0).val = k.val; omega
  | ⟨1, _⟩ => show win0_2.index t (1 : Fin 2) * 60 + 1 * (y 1).val = f.val; omega

/-! ## The expanded operands -/

/-- A point's expanded activations. -/
theorem XB_at (c : Dev nD) (t : Fin cfg0.N) (y : S1024x2176.Idx) (b : Fin 8) (s : Fin 4096) (r : Fin 128) (d : Fin 2176)
    (h0 : (y 0).val = 128 * b.val + r.val) (h1 : (y 1).val = d.val) (hs : s.val = 128 * t.val + r.val) :
    (XB m c t : S1024x2176.Idx → EReal) y = ax m c b s d * axs m c b s ⟨d.val / 128, by omega⟩ := by
  unfold XB
  rw [xbVal_at _ _ y (⟨d.val / 128, by omega⟩ : Fin 17) b (ix2 r (⟨d.val % 128, by omega⟩ : Fin 128)) h0 (by show (y 1).val = 128 * (d.val / 128) + d.val % 128; omega),
    xpay_apply]
  refine congrArg₂ (· * ·) ?_ ?_
  · exact iblk0_at m c t _ b s d rfl hs (by show 128 * (d.val / 128) + d.val % 128 = d.val; omega)
  · exact iblk1_at m c t _ _ b s rfl rfl hs

/-- The expanded weights. -/
theorem WB_at (c : Dev nD) (y : S7680x2176.Idx) (f : Fin 7680) (d : Fin 2176) (h0 : (y 0).val = f.val) (h1 : (y 1).val = d.val) :
    (WB m c : S7680x2176.Idx → EReal) y = aw m c f d * aws m c ⟨f.val / 128, by omega⟩ ⟨d.val / 128, by omega⟩ := by
  have e : ∀ (X : S7680x2176.Idx → Elt Ideal .fp8e4m3) (S : S17x60.Idx → Elt Ideal .f32), (wexp X S y : EReal) = (X y : EReal) * (S (scaleIx y) : EReal) := fun _ _ => rfl
  unfold WB
  refine (e _ _).trans (congrArg₂ (· * ·) ?_ ?_)
  · show (V m c main_arg2 : S7680x2176.Idx → EReal) y = _
    rw [V_main_arg2]
    refine congrArg (m ((c.tc : Thread nD τ).loc main_arg2) : S7680x2176.Idx → EReal) ?_
    funext a; apply Fin.ext
    match a with
    | ⟨0, _⟩ => exact h0
    | ⟨1, _⟩ => exact h1
  · exact iblk2_at m c pt0 _ _ _ (by show (y 1).val / 128 = d.val / 128; rw [h1]) (by show (y 0).val / 128 = f.val / 128; rw [h0])

/-! ## The gated product, the codes and the scales -/

/-- A product of two tiles is the product of the dequantised operands there. -/
theorem tile_product (c : Dev nD) (t : Fin cfg0.N) (b : Fin 8) (s : Fin 4096) (r : Fin 128) (n : Fin 30) (j : Fin 256) (i : Fin 512) (f : Fin 7680)
    (hi : i.val = 128 * (b.val % 4) + r.val) (hs : s.val = 128 * t.val + r.val) (hf : f.val = 256 * n.val + j.val) :
    (∑ k : Fin 2176, (xtile (XB m c t) b (ix2 i k) : EReal) * (wtile (WB m c) n (ix2 j k) : EReal)) = product (ax m c) (axs m c) (aw m c) (aws m c) b s f := by
  unfold product
  refine Finset.sum_congr rfl fun d _ => congrArg₂ (· * ·) ?_ ?_
  · exact XB_at m c t _ b s r d (by show 512 * (b.val / 4) + i.val = 128 * b.val + r.val; omega) rfl hs
  · exact WB_at m c _ f d (by show 256 * n.val + j.val = f.val; omega) rfl

/-- A block of a point's gated product. -/
theorem hblk_at (c : Dev nD) (t : Fin cfg0.N) (k : Fin 15) (b : Fin 8) (p : Fin 2) (s : Fin 4096) (r j : Fin 128) (f : Fin 3840)
    (hs : s.val = 128 * t.val + r.val) (hf : f.val = 256 * k.val + 128 * p.val + j.val) :
    (hblk (XB m c t) (WB m c) k b p (ix2 r j) : EReal) = gated (ax m c) (axs m c) (aw m c) (aws m c) b s f := by
  have e : hblk (XB m c t) (WB m c) k b p (ix2 r j) = hOf (xtile (XB m c t) b) (wtile (WB m c) ⟨k.val, by omega⟩) (wtile (WB m c) ⟨k.val + 15, by omega⟩)
      (ix2 (⟨128 * (b.val % 4) + r.val, by omega⟩ : Fin 512) (⟨128 * p.val + j.val, by omega⟩ : Fin 256)) := by
    unfold hblk
    rw [ix2_eq_valueIdx (⟨128 * (b.val % 4) + r.val, by omega⟩ : Fin 512)]
    rfl
  rw [e, hOf_apply]
  unfold gated
  exact congrArg₂ swiglu
    (tile_product m c t b s r _ _ _ ⟨f.val, by omega⟩ rfl hs (by show f.val = 256 * k.val + (128 * p.val + j.val); omega))
    (tile_product m c t b s r _ _ _ ⟨3840 + f.val, by omega⟩ rfl hs (by show 3840 + f.val = 256 * (k.val + 15) + (128 * p.val + j.val); omega))

/-- The codes of a grid point are those of its rows. -/
theorem codes_at (c : Dev nD) (t : Fin cfg0.N) (y : S8x128x3840.Idx) (b : Fin 8) (s : Fin 4096) (f : Fin 3840)
    (h0 : (y 0).val = b.val) (hs : s.val = 128 * t.val + (y 1).val) (h2 : (y 2).val = f.val) :
    (o5Val (XB m c t) (WB m c) y : EReal) = codes (ax m c) (axs m c) (aw m c) (aws m c) b s f := by
  have y1 : (y 1).val < 128 := (y 1).isLt
  rw [o5Val_at _ _ y (⟨f.val / 256, by omega⟩ : Fin 15) b (⟨f.val % 256 / 128, by omega⟩ : Fin 2)
    (ix3 (0 : Fin 1) (⟨(y 1).val, y1⟩ : Fin 128) (⟨f.val % 128, by omega⟩ : Fin 128)) h0 rfl
    (by show (y 2).val = 256 * (f.val / 256) + 128 * (f.val % 256 / 128) + f.val % 128; omega), codesOf_apply]
  unfold codes groupMax
  refine congrArg₂ code (congrArg largest (funext fun j => ?_)) ?_
  · exact hblk_at m c t _ b _ s _ j _ hs (by show 128 * (f.val / 128) + j.val = 256 * (f.val / 256) + 128 * (f.val % 256 / 128) + j.val; omega)
  · exact hblk_at m c t _ b _ s _ _ f hs (by show f.val = 256 * (f.val / 256) + 128 * (f.val % 256 / 128) + f.val % 128; omega)

/-- The scales of a grid point are those of its rows. -/
theorem scales_at (c : Dev nD) (t : Fin cfg0.N) (y : S30x8x128.Idx) (b : Fin 8) (s : Fin 4096) (g : Fin 30)
    (h0 : (y 0).val = g.val) (h1 : (y 1).val = b.val) (hs : s.val = 128 * t.val + (y 2).val) :
    (o6Val (XB m c t) (WB m c) y : EReal) = scales (ax m c) (axs m c) (aw m c) (aws m c) b s g := by
  have y2 : (y 2).val < 128 := (y 2).isLt
  rw [o6Val_at _ _ y (⟨g.val / 2, by omega⟩ : Fin 15) b (⟨g.val % 2, by omega⟩ : Fin 2)
    (ix3 (0 : Fin 1) (0 : Fin 1) (⟨(y 2).val, y2⟩ : Fin 128)) (by show (y 0).val = 2 * (g.val / 2) + g.val % 2; omega) h1 rfl, rowOf_apply]
  unfold scales groupMax
  refine congrArg (fun a => Ideal.exp2 (expo a)) (congrArg largest (funext fun j => ?_))
  exact hblk_at m c t _ b _ s _ j _ hs (by show 128 * g.val + j.val = 256 * (g.val / 2) + 128 * (g.val % 2) + j.val; omega)

end Cert.KernelIdeal.Hand

end
-- ==== Proof.Values.KernelRun.lean ====
/-
  The kernel's run over the extended reals: its two results are the codes and the scales of its argument arrays.
-/
module

public import proofs.«01_k».proof.Proof.Values.Points
public import Idealize.ShloMosaic.Lib.Pipeline.ValueKit.Geometry

@[expose] public section

set_option maxRecDepth 16384
set_option maxHeartbeats 4000000

noncomputable section

namespace Cert.KernelIdeal.Hand

open Cert.KernelIdeal Cert.KernelIdeal.Gen Cert.Values
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The codes of the argument arrays, -/
def codesArr (c : Dev nD) : Vec Ideal S8x4096x3840 .fp8e4m3 := fun i => codes (ax m c) (axs m c) (aw m c) (aws m c) (i 0) (i 1) (i 2)
/-- the scales, -/
def scalesArr (c : Dev nD) : Vec Ideal S8x4096x30 .f32 := fun i => scales (ax m c) (axs m c) (aw m c) (aws m c) (i 0) (i 1) (i 2)
/-- and the scales with the groups first, as the grid leaves them. -/
def scalesRaw (c : Dev nD) : Vec Ideal S30x8x4096 .f32 := fun i => scales (ax m c) (axs m c) (aw m c) (aws m c) (i 1) (i 2) (i 0)

/-- Where a point's codes go. -/
theorem win3_idx : ∀ t : Fin cfg0.N, win0_3.index t (0 : Fin 3) = 0 ∧ win0_3.index t (1 : Fin 3) = t.val ∧ win0_3.index t (2 : Fin 3) = 0 :=
  (by decide +kernel : ∀ t : Fin grid0.N, _)
/-- Where its scales go. -/
theorem win4_idx : ∀ t : Fin cfg0.N, win0_4.index t (0 : Fin 3) = 0 ∧ win0_4.index t (1 : Fin 3) = 0 ∧ win0_4.index t (2 : Fin 3) = t.val :=
  (by decide +kernel : ∀ t : Fin grid0.N, _)

/-- After the grid the first result array holds the codes. -/
theorem final3 (c : Dev nD) : (dats m 0 c).arrAt 3 cfg0.N = codesArr m c := by
  refine (dats m 0 c).arrAt_eq_of_covers 3 _ (by decide +kernel) fun t hf y => ?_
  obtain ⟨e0, e1, e2⟩ := win3_idx t
  rw [after3]
  refine codes_at m c t _ _ _ _ ?_ ?_ ?_
  · show (y 0).val = win0_3.index t (0 : Fin 3) * 8 + 1 * (y 0).val; omega
  · show win0_3.index t (1 : Fin 3) * 128 + 1 * (y 1).val = 128 * t.val + (y 1).val; omega
  · show (y 2).val = win0_3.index t (2 : Fin 3) * 3840 + 1 * (y 2).val; omega

/-- After the grid the second holds the scales, the groups first. -/
theorem final4 (c : Dev nD) : (dats m 0 c).arrAt 4 cfg0.N = scalesRaw m c := by
  refine (dats m 0 c).arrAt_eq_of_covers 4 _ (by decide +kernel) fun t hf y => ?_
  obtain ⟨e0, e1, e2⟩ := win4_idx t
  rw [after4]
  refine scales_at m c t _ _ _ _ ?_ ?_ ?_
  · show (y 0).val = win0_4.index t (0 : Fin 3) * 30 + 1 * (y 0).val; omega
  · show (y 1).val = win0_4.index t (1 : Fin 3) * 8 + 1 * (y 1).val; omega
  · show win0_4.index t (2 : Fin 3) * 128 + 1 * (y 2).val = 128 * t.val + (y 2).val; omega

/-- The line after the grid puts the groups last. -/
theorem W_main_v3 (c : Dev nD) : Pipeline.afterTail₀ cfgs (dats m) 0 (V0 m) [hostOps1] c main_v3 = scalesArr m c := by
  have e : Pipeline.afterTail₀ cfgs (dats m) 0 (V0 m) [hostOps1] c main_v3
      = transpose S8x4096x30 [1, 2, 0] (scalesRaw m c) transposes_S30x8x4096_S8x4096x30_1_2_0 := by
    have h := Pipeline.withArrays_arr spec0 (by decide) c (V0 m c) (fun w => (dats m 0 c).arrAt w cfg0.N) 4
    unfold Pipeline.afterTail₀
    simp only [List.flatten_cons, List.flatten_nil, List.append_nil]
    rw [StableHlo.after_cons, StableHlo.after_nil, StableHlo.unary_result]
    exact congrArg (transpose S8x4096x30 [1, 2, 0] · transposes_S30x8x4096_S8x4096x30_1_2_0) (h.trans (final4 m c))
  rw [e]
  funext i
  have h : ∀ (b : Fin 8) (s : Fin 4096) (g : Fin 30), i = ix3 b s g →
      transpose S8x4096x30 [1, 2, 0] (scalesRaw m c) transposes_S30x8x4096_S8x4096x30_1_2_0 i = scalesArr m c i := by
    intro b s g hi
    subst hi
    pointwise []
    rfl
  exact h (i 0) (i 1) (i 2) (funext fun a => by fin_cases a <;> rfl)

/-- Every run of the kernel leaves the codes and the scales of its arguments, and the arguments as launched. -/
theorem run : θ_run defs (onTc (τ := τ) (main (F := Ideal))) ⟨m, fun _ => 0, ρ⟩ fun r => ∀ c : Dev nD,
      r.2.mem ((c.tc : Thread nD τ).loc main_v2_0) = codesArr m c
      ∧ r.2.mem ((c.tc : Thread nD τ).loc main_v3) = scalesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 3).trans (final3 m c),
      ((h.1 c).2 main_v3 (Pipeline.mem_restRefs_of main_v3 (by decide) (by decide))).trans (W_main_v3 m c),
      args_of m r h.1 c⟩)
    (run_main m ρ)

end Cert.KernelIdeal.Hand

end
-- ==== Proof.Values.Reference.lean ====
/-
  What the reference stores, element by element.
-/
module

public import proofs.«01_k».proof.Proof.Values.Spec
public import proofs.«01_k».proof.Proof.Gen.ReferenceIdeal.Frame

@[expose] public section

set_option maxRecDepth 16384
set_option maxHeartbeats 4000000

noncomputable section

namespace Cert.ReferenceIdeal.Hand

open Cert.ReferenceIdeal Cert.ReferenceIdeal.Gen Cert.Values
open Idealize.ShloMosaic

variable (x : Vec Ideal S8x4096x2176 .fp8e4m3) (xs : Vec Ideal S8x4096x17 .f32) (w : Vec Ideal S7680x2176 .fp8e4m3) (ws : Vec Ideal S60x17 .f32)

/-- The activations as a function of batch, row and column, … -/
abbrev fx : Fin 8 → Fin 4096 → Fin 2176 → EReal := fun b s d => x (ix3 b s d)
/-- … their scales, … -/
abbrev fxs : Fin 8 → Fin 4096 → Fin 17 → EReal := fun b s d => xs (ix3 b s d)
/-- … the weights, … -/
abbrev fw : Fin 7680 → Fin 2176 → EReal := fun f d => w (ix2 f d)
/-- … and theirs. -/
abbrev fws : Fin 60 → Fin 17 → EReal := fun f d => ws (ix2 f d)

/-- The reference's gated product. -/
theorem pay4_apply (b : Fin 8) (s : Fin 4096) (g : Fin 30) (j : Fin 128) :
    k0_pay4 x xs w ws (ix4 b s g j) = gated (fx x) (fxs xs) (fw w) (fws ws) b s ⟨128 * g.val + j.val, by omega⟩ := by
  pointwise [k0_pay4]
  have e1 : ∀ (n n' : Nat) (hn : n < 7680) (hn' : n' < 7680) (r : Nat) (hr : r < 60), n = n' → r = n' / 128 →
      (∑ k : Fin 2176, x (ix3 b s k) * xs (ix3 b s (⟨k.val / 128, by omega⟩ : Fin 17)) *
        (w (ix2 (⟨n, hn⟩ : Fin 7680) k) * ws (ix2 (⟨r, hr⟩ : Fin 60) (⟨k.val / 128, by omega⟩ : Fin 17))))
        = product (fx x) (fxs xs) (fw w) (fws ws) b s ⟨n', hn'⟩ := by
    intro n n' hn hn' r hr h h'
    subst h h'
    rfl
  unfold gated swiglu
  exact congrArg₂ (· * ·) (congrArg₂ (· * ·) (e1 _ _ _ _ _ _ (by dsimp only; omega) (by dsimp only; omega))
    (congrArg Ideal.logistic (e1 _ _ _ _ _ _ (by dsimp only; omega) (by dsimp only; omega)))) (e1 _ _ _ _ _ _ (by dsimp only; omega) (by dsimp only; omega))

/-- A group's largest magnitude in the reference. -/
theorem pay5_apply (b : Fin 8) (s : Fin 4096) (g : Fin 30) :
    k0_pay5 x xs w ws (ix3 b s g) = groupMax (fx x) (fxs xs) (fw w) (fws ws) b s g := by
  pointwise [k0_pay5]
  simp only [pay4_apply, lowest]
  unfold groupMax largest
  simp only [Ideal.absf_def]

/-- The choice of the exponent, at an element. -/
theorem pay1_read (v37 : IVec S8x4096x30 1) (v40 v41 : FVec Ideal S8x4096x30 .f32) (i : S8x4096x30.Idx) :
    k0_pay1 v37 v40 v41 i = Scalar.select (v37 i) (v40 i) (v41 i) := rfl

/-- The scale, at an element. -/
theorem pay3_read (v37 : IVec S8x4096x30 1) (v40 v41 : FVec Ideal S8x4096x30 .f32) (i : S8x4096x30.Idx) :
    k0_pay3 v37 v40 v41 i = Ideal.exp2 (k0_pay1 v37 v40 v41 i) := rfl

/-- The magnitude over 448, at an element. -/
theorem pay6_read (i : S8x4096x30.Idx) : k0_pay6 x xs w ws i = over448 (k0_pay5 x xs w ws i) := by
  unfold k0_pay6 over448
  generalize k0_pay5 x xs w ws = a
  exact ValueIdx.mulf_apply a _ i

/-- Whether the magnitude is in range, at an element. -/
theorem pay7_read (i : S8x4096x30.Idx) :
    k0_pay7 x xs w ws i = Ideal.cmp .oge (k0_pay6 x xs w ws i) (Ideal.ofBits .f32 0x00800000#32) &&& Ideal.cmp .ole (k0_pay5 x xs w ws i) (Ideal.ofBits .f32 0x7F7FFFFF#32) := by
  have h : ∀ a b : FVec Ideal S8x4096x30 .f32,
      andi (cmpf .oge a (broadcast S8x4096x30 (Scalar.ofBits .f32 0x00800000#32))) (cmpf .ole b (broadcast S8x4096x30 (Scalar.ofBits .f32 0x7F7FFFFF#32))) i
        = Ideal.cmp .oge (a i) (Ideal.ofBits .f32 0x00800000#32) &&& Ideal.cmp .ole (b i) (Ideal.ofBits .f32 0x7F7FFFFF#32) := fun _ _ => rfl
  unfold k0_pay7
  exact h _ _

/-- The floor of the logarithm plus one, at an element. -/
theorem pay8_read (i : S8x4096x30.Idx) :
    k0_pay8 x xs w ws i = Ideal.liftRound Int.floor (Ideal.div (Ideal.log (k0_pay6 x xs w ws i)) (Ideal.log (Ideal.ofBits .f32 0x40000000#32))) + Ideal.ofBits .f32 0x3F800000#32 := by
  have h : ∀ a : FVec Ideal S8x4096x30 .f32,
      addf (floor (divf (log a) (log (broadcast S8x4096x30 (Scalar.ofBits .f32 0x40000000#32))))) (broadcast S8x4096x30 (Scalar.ofBits .f32 0x3F800000#32)) i
        = Ideal.liftRound Int.floor (Ideal.div (Ideal.log (a i)) (Ideal.log (Ideal.ofBits .f32 0x40000000#32))) + Ideal.ofBits .f32 0x3F800000#32 := fun _ => rfl
  unfold k0_pay8
  exact h _

/-- The exponent out of range. -/
theorem pay9_read (i : S8x4096x30.Idx) : k0_pay9 (F := Ideal) i = Ideal.ofBits .f32 0x00000000#32 := by
  unfold k0_pay9
  rfl

/-- The exponent in the reference. -/
theorem pay1_apply (b : Fin 8) (s : Fin 4096) (g : Fin 30) :
    k0_pay1 (k0_pay7 x xs w ws) (k0_pay8 x xs w ws) k0_pay9 (ix3 b s g) = expo (groupMax (fx x) (fxs xs) (fw w) (fws ws) b s g) := by
  rw [pay1_read, pay7_read, pay8_read, pay9_read, pay6_read, pay5_apply, expo]

/-- The code, at an element. -/
theorem pay2_read (v24 : FVec Ideal S8x4096x30x128 .f32) (v37 : IVec S8x4096x30 1) (v40 v41 : FVec Ideal S8x4096x30 .f32) (b : Fin 8) (s : Fin 4096) (f : Fin 3840) :
    k0_pay2 v24 v37 v40 v41 (ix3 b s f) = min (Ideal.ofBits .f32 0x43E00000#32) (max (Ideal.ofBits .f32 0xC3E00000#32)
      (v24 (ix4 b s (⟨f.val / 128, by omega⟩ : Fin 30) (⟨f.val % 128, by omega⟩ : Fin 128)) *
        Ideal.exp2 (Ideal.ofBits .f32 0x00000000#32 - k0_pay1 v37 v40 v41 (ix3 b s (⟨f.val / 128, by omega⟩ : Fin 30))))) := by
  pointwise [k0_pay2]
  rfl

/-- The reference's codes. -/
theorem pay2_apply (b : Fin 8) (s : Fin 4096) (f : Fin 3840) :
    k0_pay2 (k0_pay4 x xs w ws) (k0_pay7 x xs w ws) (k0_pay8 x xs w ws) k0_pay9 (ix3 b s f) = codes (fx x) (fxs xs) (fw w) (fws ws) b s f := by
  have e : (⟨128 * (f.val / 128) + f.val % 128, by omega⟩ : Fin 3840) = f := Fin.ext (by show 128 * (f.val / 128) + f.val % 128 = f.val; omega)
  rw [pay2_read, pay1_apply, pay4_apply, e, codes, code]

/-- The reference's scales. -/
theorem pay3_apply (b : Fin 8) (s : Fin 4096) (g : Fin 30) :
    k0_pay3 (k0_pay7 x xs w ws) (k0_pay8 x xs w ws) k0_pay9 (ix3 b s g) = scales (fx x) (fxs xs) (fw w) (fws ws) b s g := by
  rw [pay3_read, pay1_apply, scales]

end Cert.ReferenceIdeal.Hand

end
-- ==== Proof.Values.ReferenceRun.lean ====
/-
  The reference's run: its two result arrays are the codes and the scales of its argument arrays.
-/
module

public import proofs.«01_k».proof.Proof.Values.Reference

@[expose] public section

set_option maxRecDepth 16384
set_option maxHeartbeats 4000000

noncomputable section

namespace Cert.ReferenceIdeal.Hand

open Cert.ReferenceIdeal Cert.ReferenceIdeal.Gen Cert.Values
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- Offsets zero, -/
theorem hz2 : (![0, 0] : Fin 2 → Nat) = fun _ => 0 := funext fun a => by fin_cases a <;> rfl
/-- on three axes. -/
theorem hz3 : (![0, 0, 0] : Fin 3 → Nat) = fun _ => 0 := funext fun a => by fin_cases a <;> rfl

/-! ## Every block is its array -/

/-- Block 0 starts at zero. -/
theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
/-- Block 1 starts at zero. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
/-- Block 2 starts at zero. -/
theorem idx2 : ∀ t : Fin cfg0.N, win0_2.index t (0 : Fin 2) = 0 ∧ win0_2.index t (1 : Fin 2) = 0 :=
  (by decide +kernel : ∀ t : Fin grid0.N, _)
/-- Block 3 starts at zero. -/
theorem idx3 : ∀ t : Fin cfg0.N, win0_3.index t (0 : Fin 2) = 0 ∧ win0_3.index t (1 : Fin 2) = 0 :=
  (by decide +kernel : ∀ t : Fin grid0.N, _)
/-- Block 4 starts at zero. -/
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
/-- Block 5 starts at zero. -/
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of block 0 is the same index of its array. -/
theorem emb0 (t : Fin cfg0.N) (j : S8x4096x2176.Idx) : ((cfg0.win 0).blk t).view.emb j = j := by
  obtain ⟨e0, e1, e2⟩ := idx0 t
  funext a; apply Fin.ext
  match a with
  | ⟨0, _⟩ => show win0_0.index t (0 : Fin 3) * 8 + 1 * (j 0).val = (j 0).val; omega
  | ⟨1, _⟩ => show win0_0.index t (1 : Fin 3) * 4096 + 1 * (j 1).val = (j 1).val; omega
  | ⟨2, _⟩ => show win0_0.index t (2 : Fin 3) * 2176 + 1 * (j 2).val = (j 2).val; omega
/-- An index of block 1 is the same index of its array. -/
theorem emb1 (t : Fin cfg0.N) (j : S8x4096x17.Idx) : ((cfg0.win 1).blk t).view.emb j = j := by
  obtain ⟨e0, e1, e2⟩ := idx1 t
  funext a; apply Fin.ext
  match a with
  | ⟨0, _⟩ => show win0_1.index t (0 : Fin 3) * 8 + 1 * (j 0).val = (j 0).val; omega
  | ⟨1, _⟩ => show win0_1.index t (1 : Fin 3) * 4096 + 1 * (j 1).val = (j 1).val; omega
  | ⟨2, _⟩ => show win0_1.index t (2 : Fin 3) * 17 + 1 * (j 2).val = (j 2).val; omega
/-- An index of block 2 is the same index of its array. -/
theorem emb2 (t : Fin cfg0.N) (j : S7680x2176.Idx) : ((cfg0.win 2).blk t).view.emb j = j := by
  obtain ⟨e0, e1⟩ := idx2 t
  funext a; apply Fin.ext
  match a with
  | ⟨0, _⟩ => show win0_2.index t (0 : Fin 2) * 7680 + 1 * (j 0).val = (j 0).val; omega
  | ⟨1, _⟩ => show win0_2.index t (1 : Fin 2) * 2176 + 1 * (j 1).val = (j 1).val; omega
/-- An index of block 3 is the same index of its array. -/
theorem emb3 (t : Fin cfg0.N) (j : S60x17.Idx) : ((cfg0.win 3).blk t).view.emb j = j := by
  obtain ⟨e0, e1⟩ := idx3 t
  funext a; apply Fin.ext
  match a with
  | ⟨0, _⟩ => show win0_3.index t (0 : Fin 2) * 60 + 1 * (j 0).val = (j 0).val; omega
  | ⟨1, _⟩ => show win0_3.index t (1 : Fin 2) * 17 + 1 * (j 1).val = (j 1).val; omega
/-- An index of block 4 is the same index of its array. -/
theorem emb4 (t : Fin cfg0.N) (j : S8x4096x3840.Idx) : ((cfg0.win 4).blk t).view.emb j = j := by
  obtain ⟨e0, e1, e2⟩ := idx4 t
  funext a; apply Fin.ext
  match a with
  | ⟨0, _⟩ => show win0_4.index t (0 : Fin 3) * 8 + 1 * (j 0).val = (j 0).val; omega
  | ⟨1, _⟩ => show win0_4.index t (1 : Fin 3) * 4096 + 1 * (j 1).val = (j 1).val; omega
  | ⟨2, _⟩ => show win0_4.index t (2 : Fin 3) * 3840 + 1 * (j 2).val = (j 2).val; omega
/-- An index of block 5 is the same index of its array. -/
theorem emb5 (t : Fin cfg0.N) (j : S8x4096x30.Idx) : ((cfg0.win 5).blk t).view.emb j = j := by
  obtain ⟨e0, e1, e2⟩ := idx5 t
  funext a; apply Fin.ext
  match a with
  | ⟨0, _⟩ => show win0_5.index t (0 : Fin 3) * 8 + 1 * (j 0).val = (j 0).val; omega
  | ⟨1, _⟩ => show win0_5.index t (1 : Fin 3) * 4096 + 1 * (j 1).val = (j 1).val; omega
  | ⟨2, _⟩ => show win0_5.index t (2 : Fin 3) * 30 + 1 * (j 2).val = (j 2).val; omega

/-- Block 0 is its array. -/
theorem iblk0_eq (c : Dev nD) (t : Fin cfg0.N) : iblk m c 0 t = V m c main_arg0 := by
  funext j; show V m c main_arg0 (((cfg0.win 0).blk t).view.emb j) = V m c main_arg0 j; rw [emb0]
/-- Block 1 is its array. -/
theorem iblk1_eq (c : Dev nD) (t : Fin cfg0.N) : iblk m c 1 t = V m c main_arg1 := by
  funext j; show V m c main_arg1 (((cfg0.win 1).blk t).view.emb j) = V m c main_arg1 j; rw [emb1]
/-- Block 2 is its array. -/
theorem iblk2_eq (c : Dev nD) (t : Fin cfg0.N) : iblk m c 2 t = V m c main_arg2 := by
  funext j; show V m c main_arg2 (((cfg0.win 2).blk t).view.emb j) = V m c main_arg2 j; rw [emb2]
/-- Block 3 is its array. -/
theorem iblk3_eq (c : Dev nD) (t : Fin cfg0.N) : iblk m c 3 t = V m c main_arg3 := by
  funext j; show V m c main_arg3 (((cfg0.win 3).blk t).view.emb j) = V m c main_arg3 j; rw [emb3]

/-! ## The results as arrays -/

/-- The codes of four argument arrays. -/
def codesArr (x : Vec Ideal S8x4096x2176 .fp8e4m3) (xs : Vec Ideal S8x4096x17 .f32) (w : Vec Ideal S7680x2176 .fp8e4m3) (ws : Vec Ideal S60x17 .f32) :
    Vec Ideal S8x4096x3840 .fp8e4m3 := fun i => codes (fx x) (fxs xs) (fw w) (fws ws) (i 0) (i 1) (i 2)
/-- Their scales. -/
def scalesArr (x : Vec Ideal S8x4096x2176 .fp8e4m3) (xs : Vec Ideal S8x4096x17 .f32) (w : Vec Ideal S7680x2176 .fp8e4m3) (ws : Vec Ideal S60x17 .f32) :
    Vec Ideal S8x4096x30 .f32 := fun i => scales (fx x) (fxs xs) (fw w) (fws ws) (i 0) (i 1) (i 2)

variable (x : Vec Ideal S8x4096x2176 .fp8e4m3) (xs : Vec Ideal S8x4096x17 .f32) (w : Vec Ideal S7680x2176 .fp8e4m3) (ws : Vec Ideal S60x17 .f32)

/-- The one store of the codes leaves them, -/
theorem out4_eq : out0_4 (F := Ideal) x xs w ws = codesArr x xs w ws := by
  have e : out0_4 (F := Ideal) x xs w ws = k0_pay2 (k0_pay4 x xs w ws) (k0_pay7 x xs w ws) (k0_pay8 x xs w ws) k0_pay9 := by
    unfold out0_4 k0_pay12 k0_pay11 k0_pay10
    rw [View.canon_unit_zero hz3, View.ld_unit_zero (S := S8x4096x2176) hz3 _ x, View.ld_unit_zero (S := S8x4096x17) hz3 _ xs, View.ld_unit_zero (S := S7680x2176) hz2 _ w, View.ld_unit_zero (S := S60x17) hz2 _ ws]
  rw [e]
  funext i
  have h : ∀ (b : Fin 8) (s : Fin 4096) (f : Fin 3840), i = ix3 b s f →
      k0_pay2 (k0_pay4 x xs w ws) (k0_pay7 x xs w ws) (k0_pay8 x xs w ws) k0_pay9 i = codesArr x xs w ws i := by
    intro b s f hi
    subst hi
    exact pay2_apply x xs w ws b s f
  exact h (i 0) (i 1) (i 2) (funext fun a => by fin_cases a <;> rfl)
/-- and the one store of the scales. -/
theorem out5_eq : out0_5 (F := Ideal) x xs w ws = scalesArr x xs w ws := by
  have e : out0_5 (F := Ideal) x xs w ws = k0_pay3 (k0_pay7 x xs w ws) (k0_pay8 x xs w ws) k0_pay9 := by
    unfold out0_5 k0_pay12 k0_pay11 k0_pay10
    rw [View.canon_unit_zero hz3, View.ld_unit_zero (S := S8x4096x2176) hz3 _ x, View.ld_unit_zero (S := S8x4096x17) hz3 _ xs, View.ld_unit_zero (S := S7680x2176) hz2 _ w, View.ld_unit_zero (S := S60x17) hz2 _ ws]
  rw [e]
  funext i
  have h : ∀ (b : Fin 8) (s : Fin 4096) (f : Fin 30), i = ix3 b s f →
      k0_pay3 (k0_pay7 x xs w ws) (k0_pay8 x xs w ws) k0_pay9 i = scalesArr x xs w ws i := by
    intro b s f hi
    subst hi
    exact pay3_apply x xs w ws b s f
  exact h (i 0) (i 1) (i 2) (funext fun a => by fin_cases a <;> rfl)

/-- The codes written back. -/
theorem flushed4 (c : Dev nD) (t : Fin cfg0.N) :
    (dats m 0 c).flushed 4 t = ((cfg0.win 4).blk t).view.read (Elt Ideal) (codesArr (V m c main_arg0) (V m c main_arg1) (V m c main_arg2) (V m c main_arg3)) := by
  show (cfg0.win 4).cut (grid0.coords t) ((dats m 0 c).after 4 t) = _
  rw [after0_4, iblk0_eq, iblk1_eq, iblk2_eq, iblk3_eq, out4_eq]
  generalize codesArr _ _ _ _ = X
  funext j
  show X j = X (((cfg0.win 4).blk t).view.emb j)
  rw [emb4]
/-- The scales written back. -/
theorem flushed5 (c : Dev nD) (t : Fin cfg0.N) :
    (dats m 0 c).flushed 5 t = ((cfg0.win 5).blk t).view.read (Elt Ideal) (scalesArr (V m c main_arg0) (V m c main_arg1) (V m c main_arg2) (V m c main_arg3)) := by
  show (cfg0.win 5).cut (grid0.coords t) ((dats m 0 c).after 5 t) = _
  rw [after0_5, iblk0_eq, iblk1_eq, iblk2_eq, iblk3_eq, out5_eq]
  generalize scalesArr _ _ _ _ = X
  funext j
  show X j = X (((cfg0.win 5).blk t).view.emb j)
  rw [emb5]

/-- Every code is written, -/
theorem covered4 (i : S8x4096x3840.Idx) : ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩
/-- and every scale. -/
theorem covered5 (i : S8x4096x30.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- After the run the first result array holds the codes, -/
theorem final4 (c : Dev nD) : (dats m 0 c).arrAt 4 cfg0.N = codesArr (m ((c : Thread nD τ).loc main_arg0)) (m ((c : Thread nD τ).loc main_arg1)) (m ((c : Thread nD τ).loc main_arg2)) (m ((c : Thread nD τ).loc main_arg3)) :=
  ((dats m 0 c).arrAt_eq_of_cover 4 (codesArr (V m c main_arg0) (V m c main_arg1) (V m c main_arg2) (V m c main_arg3)) (fun t _ => flushed4 m c t) covered4).trans (by rw [V_main_arg0, V_main_arg1, V_main_arg2, V_main_arg3])
/-- and the second the scales. -/
theorem final5 (c : Dev nD) : (dats m 0 c).arrAt 5 cfg0.N = scalesArr (m ((c : Thread nD τ).loc main_arg0)) (m ((c : Thread nD τ).loc main_arg1)) (m ((c : Thread nD τ).loc main_arg2)) (m ((c : Thread nD τ).loc main_arg3)) :=
  ((dats m 0 c).arrAt_eq_of_cover 5 (scalesArr (V m c main_arg0) (V m c main_arg1) (V m c main_arg2) (V m c main_arg3)) (fun t _ => flushed5 m c t) covered5).trans (by rw [V_main_arg0, V_main_arg1, V_main_arg2, V_main_arg3])

/-- Every run of the reference leaves the codes and the scales of its arguments, and the arguments as launched. -/
theorem run : θ_run defs (onTc (τ := τ) (main (F := Ideal))) ⟨m, fun _ => 0, ρ⟩ fun r => ∀ c : Dev nD,
      r.2.mem ((c.tc : Thread nD τ).loc main_v0_0) = codesArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = scalesArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ReferenceIdeal.Hand

end
-- ==== Proof.lean ====
/-
  The proof of the claims: the runs of the two forms of the kernel and of the reference.
-/
module

public import proofs.«01_k».proof.Defs
public import proofs.«01_k».proof.Proof.Kernel.Run
public import proofs.«01_k».proof.Proof.KernelIdeal.Run
public import proofs.«01_k».proof.Proof.Values.KernelRun
public import proofs.«01_k».proof.Proof.Values.ReferenceRun

@[expose] public section

set_option maxRecDepth 16384

noncomputable section

namespace Cert.Proof

open Idealize.ShloMosaic Idealize.ShloMosaic.TcCoe

/-- From arguments that agree, the kernel and the reference leave the same codes and the same scales. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Hand.codesArr m c, fun c => Cert.KernelIdeal.Hand.scalesArr m c, Cert.KernelIdeal.Hand.run m g, ?_⟩
  refine θ_run_mono (Cert.ReferenceIdeal.Hand.run m' g') fun r hr c => ?_
  obtain ⟨e0, e1, e2, e3⟩ := h c
  obtain ⟨r0, r1, k⟩ := hr c
  refine ⟨r0.trans ?_, r1.trans ?_, k⟩
  · rw [e0, e1, e2, e3]; rfl
  · rw [e0, e1, e2, e3]; rfl

/-- The claims of this certificate. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, trivial, algebraic⟩

end Cert.Proof

end
